-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_up : Cert.Pre_experts_up.Facts] (m : (ℓ : Loc Cert.Kernel3.nD Cert.Kernel3.τ Cert.Kernel3.sig) → Buf (Elt Bits) ℓ) : Prop :=
  ∀ c : Dev Cert.Kernel3.nD,
    (Cert.Pre_experts_up.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_experts_up.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_experts_up : Cert.Pre_experts_up.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_experts_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal [hPre_experts_up : Cert.Pre_experts_up.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_experts_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 [hPre_experts_down : Cert.Pre_experts_down.Facts] (m : (ℓ : Loc Cert.Kernel4.nD Cert.Kernel4.τ Cert.Kernel4.sig) → Buf (Elt Bits) ℓ) : Prop :=
  ∀ c : Dev Cert.Kernel4.nD,
    (Cert.Pre_experts_down.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).1 = (fun _ => 1#1)
    ∧ (Cert.Pre_experts_down.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))).2 = (fun _ => 1#1)

def Pre_Kernel4Ideal [hPre_experts_down : Cert.Pre_experts_down.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_experts_down.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Reference4Ideal [hPre_experts_down : Cert.Pre_experts_down.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_experts_down.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_experts_up : Cert.Pre_experts_up.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_up : Cert.Pre_experts_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_experts_up : Cert.Pre_experts_up.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_experts_down : Cert.Pre_experts_down.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_experts_down : Cert.Pre_experts_down.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_experts_down : Cert.Pre_experts_down.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_experts_up : Cert.Pre_experts_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_experts_down : Cert.Pre_experts_down.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v66) = v2 c
          ∧ r.2.mem ((c.tc : Thread Cert.Reference5Ideal.nD Cert.Reference5Ideal.τ).loc Cert.Reference5Ideal.main_v63) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_v99) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts_up : Cert.Pre_experts_up.Facts) (hPre_experts_down : Cert.Pre_experts_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_up := hPre_experts_up)
    ∧ quiescent_Kernel3Ideal (hKernel3Ideal := hKernel3Ideal) (hPre_experts_up := hPre_experts_up)
    ∧ quiescent_Reference3Ideal (hReference3Ideal := hReference3Ideal) (hPre_experts_up := hPre_experts_up)
    ∧ quiescent_Kernel4 (hKernel4 := hKernel4) (hPre_experts_down := hPre_experts_down)
    ∧ quiescent_Kernel4Ideal (hKernel4Ideal := hKernel4Ideal) (hPre_experts_down := hPre_experts_down)
    ∧ quiescent_Reference4Ideal (hReference4Ideal := hReference4Ideal) (hPre_experts_down := hPre_experts_down)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_up := hPre_experts_up)
    ∧ preserves_Kernel4_Kernel4Ideal
    ∧ algebraic_Kernel4Ideal_Reference4Ideal (hKernel4Ideal := hKernel4Ideal) (hReference4Ideal := hReference4Ideal) (hPre_experts_down := hPre_experts_down)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_down.lean ====
abbrev S76 : Shape := ⟨1, ![76]⟩
abbrev S1 : Shape := ⟨1, ![1]⟩
abbrev S38912x3584 : Shape := ⟨2, ![38912, 3584]⟩
abbrev S2x8x3584x1024 : Shape := ⟨4, ![2, 8, 3584, 1024]⟩
abbrev S_ : Shape := ⟨0, ![]⟩

class Facts : Prop where
  bcast_S_S76 : S_.BroadcastsInDim S76 (![] : Fin 0 → Fin S76.rank)
  bcast_S_S1 : S_.BroadcastsInDim S1 (![] : Fin 0 → Fin S1.rank)

variable [Facts]

def fn {F : FTy → Type} [FloatOps F] (main_arg0 : IVec S76 32) (main_arg1 : IVec S1 32) (main_arg2 : FVec F S38912x3584 .bf16) (main_arg3 : FVec F S2x8x3584x1024 .f32) : IVec S76 1 × IVec S1 1 :=
  let main_c : IVec S_ 32 := constantI S_ 32 0#32
  let main_v0 : IVec S76 32 := broadcastInDim S76 ![] bcast_S_S76 main_c
  let main_v1 : IVec S76 1 := cmpi .sge main_arg0 main_v0
  let main_c_0 : IVec S_ 32 := constantI S_ 32 8#32
  let main_v2 : IVec S76 32 := broadcastInDim S76 ![] bcast_S_S76 main_c_0
  let main_v3 : IVec S76 1 := cmpi .slt main_arg0 main_v2
  let main_v4 : IVec S76 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 76#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_experts_up.lean ====
abbrev S76 : Shape := ⟨1, ![76]⟩
abbrev S1 : Shape := ⟨1, ![1]⟩
abbrev S38912x1024 : Shape := ⟨2, ![38912, 1024]⟩
abbrev S2x8x1024x3584 : Shape := ⟨4, ![2, 8, 1024, 3584]⟩
abbrev S_ : Shape := ⟨0, ![]⟩

class Facts : Prop where
  bcast_S_S76 : S_.BroadcastsInDim S76 (![] : Fin 0 → Fin S76.rank)
  bcast_S_S1 : S_.BroadcastsInDim S1 (![] : Fin 0 → Fin S1.rank)

variable [Facts]

def fn {F : FTy → Type} [FloatOps F] (main_arg0 : IVec S76 32) (main_arg1 : IVec S1 32) (main_arg2 : FVec F S38912x1024 .f32) (main_arg3 : FVec F S2x8x1024x3584 .f32) (main_arg4 : FVec F S2x8x1024x3584 .f32) : IVec S76 1 × IVec S1 1 :=
  let main_c : IVec S_ 32 := constantI S_ 32 0#32
  let main_v0 : IVec S76 32 := broadcastInDim S76 ![] bcast_S_S76 main_c
  let main_v1 : IVec S76 1 := cmpi .sge main_arg0 main_v0
  let main_c_0 : IVec S_ 32 := constantI S_ 32 8#32
  let main_v2 : IVec S76 32 := broadcastInDim S76 ![] bcast_S_S76 main_c_0
  let main_v3 : IVec S76 1 := cmpi .slt main_arg0 main_v2
  let main_v4 : IVec S76 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 76#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_finite.lean ====
abbrev S17408x768 : Shape := ⟨2, ![17408, 768]⟩
abbrev S8 : Shape := ⟨1, ![8]⟩
abbrev S17408x640 : Shape := ⟨2, ![17408, 640]⟩
abbrev S_ : Shape := ⟨0, ![]⟩

class Facts : Prop where
  slices_S17408x768_S17408x640_0_0 : S17408x768.Slices ![0, 0] S17408x640
  bitsLt_bf16_f32 : FTy.bits .bf16 < FTy.bits .f32
  bcast_S_S17408x640 : S_.BroadcastsInDim S17408x640 (![] : Fin 0 → Fin S17408x640.rank)
  bcast_S_S8 : S_.BroadcastsInDim S8 (![] : Fin 0 → Fin S8.rank)

variable [Facts]

def fn {F : FTy → Type} [FloatOps F] (main_arg0 : FVec F S17408x768 .bf16) (main_arg1 : FVec F S8 .f32) : IVec S17408x640 1 × IVec S8 1 :=
  let main_v0 : FVec F S17408x640 .bf16 := (extractStridedSlice S17408x640 ![0, 0] · slices_S17408x768_S17408x640_0_0) main_arg0
  let main_v1 : FVec F S17408x640 .f32 := (extf .f32 · bitsLt_bf16_f32) main_v0
  let main_v2 : FVec F S17408x640 .f32 := Host.absf main_v1
  let main_cst : FVec F S_ .f32 := constant S_ .f32 0x7F800000#32
  let main_v3 : FVec F S17408x640 .f32 := broadcastInDim S17408x640 ![] bcast_S_S17408x640 main_cst
  let main_v4 : IVec S17408x640 1 := cmpf .olt main_v2 main_v3
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  (main_v4, main_v7)
-- ==== Kernel.lean ====
abbrev S17408x768 : Shape := ⟨2, ![17408, 768]⟩
abbrev S8 : Shape := ⟨1, ![8]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x512 : Shape := ⟨2, ![16384, 512]⟩
abbrev S1024x512 : Shape := ⟨2, ![1024, 512]⟩
abbrev S256x128 : Shape := ⟨2, ![256, 128]⟩
abbrev S128x512 : Shape := ⟨2, ![128, 512]⟩
abbrev S128x128 : Shape := ⟨2, ![128, 128]⟩
abbrev S384x128 : Shape := ⟨2, ![384, 128]⟩
abbrev S640x128 : Shape := ⟨2, ![640, 128]⟩
abbrev S128x1 : Shape := ⟨2, ![128, 1]⟩
abbrev S1x640 : Shape := ⟨2, ![1, 640]⟩
abbrev S128x640 : Shape := ⟨2, ![128, 640]⟩
abbrev S128x64 : Shape := ⟨2, ![128, 64]⟩
abbrev S512x64 : Shape := ⟨2, ![512, 64]⟩
abbrev S640x64 : Shape := ⟨2, ![640, 64]⟩
abbrev S512x640 : Shape := ⟨2, ![512, 640]⟩
abbrev S1 : Shape := ⟨1, ![1]⟩
abbrev S128 : Shape := ⟨1, ![128]⟩
abbrev S512x128 : Shape := ⟨2, ![512, 128]⟩

abbrev nBuf : Space → Nat
  | .hbm => 40
  | .vmem => 14
  | .smem => 1
  | _ => 0

abbrev bufTy : (tb : Table) → Fin (tcTables nBuf tb) → BufTy
  | .hbm, ⟨0, _⟩ => ⟨S17408x768, .bf16⟩
  | .hbm, ⟨1, _⟩ => ⟨S8, .f32⟩
  | .hbm, ⟨2, _⟩ => ⟨S64, .f32⟩
  | .hbm, ⟨3, _⟩ => ⟨S64x64, .f32⟩
  | .hbm, ⟨4, _⟩ => ⟨S4096, .f32⟩
  | .hbm, ⟨5, _⟩ => ⟨S64, .f32⟩
  | .hbm, ⟨6, _⟩ => ⟨S1x64, .f32⟩
  | .hbm, ⟨7, _⟩ => ⟨S64x64, .f32⟩
  | .hbm, ⟨8, _⟩ => ⟨S4096, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S4096x128, .f32⟩
  | .local _ .vmem, ⟨11, _⟩ => ⟨S4096x128, .f32⟩
  | .local _ .vmem, ⟨12, _⟩ => ⟨S1024x512, .bf16⟩
  | .local _ .vmem, ⟨13, _⟩ => ⟨S1024x512, .bf16⟩
  | .local _ .smem, ⟨0, _⟩ => ⟨S8, .f32⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c8_i32 : BitVec 32 := 8#32
  let v2 : BitVec 32 := Scalar.muli arg1 c8_i32
  let c0_i32 : BitVec 32 := 0#32
  let v3 : BitVec 32 := Scalar.addi v2 c0_i32
  let c128_i32 : BitVec 32 := 128#32
  let v6 : BitVec 32 := Scalar.muli v3 c128_i32
  v6
def k0_mult2 (i : grid0.Coords) : BitVec 32 :=
  let c3712_i32 : BitVec 32 := 3712#32
  let c0_i32_6 : BitVec 32 := 0#32
  let arg1 : BitVec 32 := BitVec.ofNat 32 (i 1).val
  let c8_i32 : BitVec 32 := 8#32
  let v2 : BitVec 32 := Scalar.muli arg1 c8_i32
  let c0_i32 : BitVec 32 := 0#32
  let v3 : BitVec 32 := Scalar.addi v2 c0_i32
  let c1_i32 : BitVec 32 := 1#32
  let v8 : BitVec 32 := Scalar.subi v3 c1_i32
  let c128_i32_5 : BitVec 32 := 128#32
  let v9 : BitVec 32 := Scalar.muli v8 c128_i32_5
  let v10 : BitVec 32 := Scalar.maxsi c0_i32_6 v9
  let v11 : BitVec 32 := Scalar.minsi c3712_i32 v10
  v11
def k0_off1 (i : grid0.Coords) (c0_i32 : BitVec 32) : Fin 2 → Nat :=
  let arg1 : BitVec 32 := BitVec.ofNat 32 (i 1).val
  let c8_i32 : BitVec 32 := 8#32
  let v2 : BitVec 32 := Scalar.muli arg1 c8_i32
  let v3 : BitVec 32 := Scalar.addi v2 c0_i32
  let c128_i32 : BitVec 32 := 128#32
  let v6 : BitVec 32 := Scalar.muli v3 c128_i32
  let v7 : BitVec 32 := v6
  let v13 : Index := Scalar.indexCast v7
  let c0_7 : Index := 0#32
  ![v13.toNat, 0]
def k0_off2 (i : grid0.Coords) (c0_i32 : BitVec 32) : Fin 2 → Nat :=
  let c3712_i32 : BitVec 32 := 3712#32
  let c0_i32_6 : BitVec 32 := 0#32
  let arg1 : BitVec 32 := BitVec.ofNat 32 (i 1).val
  let c8_i32 : BitVec 32 := 8#32
  let v2 : BitVec 32 := Scalar.muli arg1 c8_i32
  let v3 : BitVec 32 := Scalar.addi v2 c0_i32
  let c1_i32 : BitVec 32 := 1#32
  let v8 : BitVec 32 := Scalar.subi v3 c1_i32
  let c128_i32_5 : BitVec 32 := 128#32
  let v9 : BitVec 32 := Scalar.muli v8 c128_i32_5
  let v10 : BitVec 32 := Scalar.maxsi c0_i32_6 v9
  let v11 : BitVec 32 := Scalar.minsi c3712_i32 v10
  let v12 : BitVec 32 := v11
  let v46 : Index := Scalar.indexCast v12
  let c0_15 : Index := 0#32
  ![v46.toNat, 0]
def k0_mult3 (i : grid0.Coords) : BitVec 32 :=
  let arg1 : BitVec 32 := BitVec.ofNat 32 (i 1).val
  let c8_i32_72 : BitVec 32 := 8#32
  let v347 : BitVec 32 := Scalar.muli arg1 c8_i32_72
  let c1_i32_73 : BitVec 32 := 1#32
  let v348 : BitVec 32 := Scalar.addi v347 c1_i32_73
  let c128_i32_75 : BitVec 32 := 128#32
  let v351 : BitVec 32 := Scalar.muli v348 c128_i32_75
  v351
def k0_mult4 (i : grid0.Coords) : BitVec 32 :=
  let c3712_i32_79 : BitVec 32 := 3712#32
  let c0_i32_78 : BitVec 32 := 0#32
  let arg1 : BitVec 32 := BitVec.ofNat 32 (i 1).val
  let c8_i32_72 : BitVec 32 := 8#32
  let v347 : BitVec 32 := Scalar.muli arg1 c8_i32_72
  let c1_i32_73 : BitVec 32 := 1#32
  let v348 : BitVec 32 := Scalar.addi v347 c1_i32_73
  let c1_i32_76 : BitVec 32 := 1#32
  let v353 : BitVec 32 := Scalar.subi v348 c1_i32_76
  let c128_i32_77 : BitVec 32 := 128#32
  let v354 : BitVec 32 := Scalar.muli v353 c128_i32_77
  let v355 : BitVec 32 := Scalar.maxsi c0_i32_78 v354
  let v356 : BitVec 32 := Scalar.minsi c3712_i32_79 v355
  v356
def k0_mult5 (i : grid0.Coords) : BitVec 32 :=
  let arg1 : BitVec 32 := BitVec.ofNat 32 (i 1).val
  let c8_i32_158 : BitVec 32 := 8#32
  let v692 : BitVec 32 := Scalar.muli arg1 c8_i32_158
  let c2_i32 : BitVec 32 := 2#32
  let v693 : BitVec 32 := Scalar.addi v692 c2_i32
  let c128_i32_160 : BitVec 32 := 128#32
  let v696 : BitVec 32 := Scalar.muli v693 c128_i32_160
  v696
def k0_mult6 (i : grid0.Coords) : BitVec 32 :=
  let c3712_i32_164 : BitVec 32 := 3712#32
  let c0_i32_163 : BitVec 32 := 0#32
  let arg1 : BitVec 32 := BitVec.ofNat 32 (i 1).val
  let c8_i32_158 : BitVec 32 := 8#32
  let v692 : BitVec 32 := Scalar.muli arg1 c8_i32_158
  let c2_i32 : BitVec 32 := 2#32
  let v693 : BitVec 32 := Scalar.addi v692 c2_i32
  let c1_i32_161 : BitVec 32 := 1#32
  let v698 : BitVec 32 := Scalar.subi v693 c1_i32_161
  let c128_i32_162 : BitVec 32 := 128#32
  let v699 : BitVec 32 := Scalar.muli v698 c128_i32_162
  let v700 : BitVec 32 := Scalar.maxsi c0_i32_163 v699
  let v701 : BitVec 32 := Scalar.minsi c3712_i32_164 v700
  v701
def k0_mult7 (i : grid0.Coords) : BitVec 32 :=
  let arg1 : BitVec 32 := BitVec.ofNat 32 (i 1).val
  let c8_i32_243 : BitVec 32 := 8#32
  let v1037 : BitVec 32 := Scalar.muli arg1 c8_i32_243
  let c3_i32 : BitVec 32 := 3#32
  let v1038 : BitVec 32 := Scalar.addi v1037 c3_i32
  let c128_i32_245 : BitVec 32 := 128#32
  let v1041 : BitVec 32 := Scalar.muli v1038 c128_i32_245
  v1041
def k0_mult8 (i : grid0.Coords) : BitVec 32 :=
  let c3712_i32_249 : BitVec 32 := 3712#32
  let c0_i32_248 : BitVec 32 := 0#32
  let arg1 : BitVec 32 := BitVec.ofNat 32 (i 1).val
  let c8_i32_243 : BitVec 32 := 8#32
  let v1037 : BitVec 32 := Scalar.muli arg1 c8_i32_243
  let c3_i32 : BitVec 32 := 3#32
  let v1038 : BitVec 32 := Scalar.addi v1037 c3_i32
  let c1_i32_246 : BitVec 32 := 1#32
  let v1043 : BitVec 32 := Scalar.subi v1038 c1_i32_246
  let c128_i32_247 : BitVec 32 := 128#32
  let v1044 : BitVec 32 := Scalar.muli v1043 c128_i32_247
  let v1045 : BitVec 32 := Scalar.maxsi c0_i32_248 v1044
  let v1046 : BitVec 32 := Scalar.minsi c3712_i32_249 v1045
  v1046
def k0_mult9 (i : grid0.Coords) : BitVec 32 :=
  let arg1 : BitVec 32 := BitVec.ofNat 32 (i 1).val
  let c8_i32_328 : BitVec 32 := 8#32
  let v1382 : BitVec 32 := Scalar.muli arg1 c8_i32_328
  let c4_i32 : BitVec 32 := 4#32
  let v1383 : BitVec 32 := Scalar.addi v1382 c4_i32
  let c128_i32_330 : BitVec 32 := 128#32
  let v1386 : BitVec 32 := Scalar.muli v1383 c128_i32_330
  v1386
def k0_mult10 (i : grid0.Coords) : BitVec 32 :=
  let c3712_i32_334 : BitVec 32 := 3712#32
  let c0_i32_333 : BitVec 32 := 0#32
  let arg1 : BitVec 32 := BitVec.ofNat 32 (i 1).val
  let c8_i32_328 : BitVec 32 := 8#32
  let v1382 : BitVec 32 := Scalar.muli arg1 c8_i32_328
  let c4_i32 : BitVec 32 := 4#32
  let v1383 : BitVec 32 := Scalar.addi v1382 c4_i32
  let c1_i32_331 : BitVec 32 := 1#32
  let v1388 : BitVec 32 := Scalar.subi v1383 c1_i32_331
  let c128_i32_332 : BitVec 32 := 128#32
  let v1389 : BitVec 32 := Scalar.muli v1388 c128_i32_332
  let v1390 : BitVec 32 := Scalar.maxsi c0_i32_333 v1389
  let v1391 : BitVec 32 := Scalar.minsi c3712_i32_334 v1390
  v1391
def k0_mult11 (i : grid0.Coords) : BitVec 32 :=
  let arg1 : BitVec 32 := BitVec.ofNat 32 (i 1).val
  let c8_i32_413 : BitVec 32 := 8#32
  let v1727 : BitVec 32 := Scalar.muli arg1 c8_i32_413
  let c5_i32 : BitVec 32 := 5#32
  let v1728 : BitVec 32 := Scalar.addi v1727 c5_i32
  let c128_i32_415 : BitVec 32 := 128#32
  let v1731 : BitVec 32 := Scalar.muli v1728 c128_i32_415
  v1731
def k0_mult12 (i : grid0.Coords) : BitVec 32 :=
  let c3712_i32_419 : BitVec 32 := 3712#32
  let c0_i32_418 : BitVec 32 := 0#32
  let arg1 : BitVec 32 := BitVec.ofNat 32 (i 1).val
  let c8_i32_413 : BitVec 32 := 8#32
  let v1727 : BitVec 32 := Scalar.muli arg1 c8_i32_413
  let c5_i32 : BitVec 32 := 5#32
  let v1728 : BitVec 32 := Scalar.addi v1727 c5_i32
  let c1_i32_416 : BitVec 32 := 1#32
  let v1733 : BitVec 32 := Scalar.subi v1728 c1_i32_416
  let c128_i32_417 : BitVec 32 := 128#32
  let v1734 : BitVec 32 := Scalar.muli v1733 c128_i32_417
  let v1735 : BitVec 32 := Scalar.maxsi c0_i32_418 v1734
  let v1736 : BitVec 32 := Scalar.minsi c3712_i32_419 v1735
  v1736
def k0_mult13 (i : grid0.Coords) : BitVec 32 :=
  let arg1 : BitVec 32 := BitVec.ofNat 32 (i 1).val
  let c8_i32_498 : BitVec 32 := 8#32
  let v2072 : BitVec 32 := Scalar.muli arg1 c8_i32_498
  let c6_i32 : BitVec 32 := 6#32
  let v2073 : BitVec 32 := Scalar.addi v2072 c6_i32
  let c128_i32_500 : BitVec 32 := 128#32
  let v2076 : BitVec 32 := Scalar.muli v2073 c128_i32_500
  v2076
def k0_mult14 (i : grid0.Coords) : BitVec 32 :=
  let c3712_i32_504 : BitVec 32 := 3712#32
  let c0_i32_503 : BitVec 32 := 0#32
  let arg1 : BitVec 32 := BitVec.ofNat 32 (i 1).val
  let c8_i32_498 : BitVec 32 := 8#32
  let v2072 : BitVec 32 := Scalar.muli arg1 c8_i32_498
  let c6_i32 : BitVec 32 := 6#32
  let v2073 : BitVec 32 := Scalar.addi v2072 c6_i32
  let c1_i32_501 : BitVec 32 := 1#32
  let v2078 : BitVec 32 := Scalar.subi v2073 c1_i32_501
  let c128_i32_502 : BitVec 32 := 128#32
  let v2079 : BitVec 32 := Scalar.muli v2078 c128_i32_502
  let v2080 : BitVec 32 := Scalar.maxsi c0_i32_503 v2079
  let v2081 : BitVec 32 := Scalar.minsi c3712_i32_504 v2080
  v2081
def k0_mult15 (i : grid0.Coords) : BitVec 32 :=
  let arg1 : BitVec 32 := BitVec.ofNat 32 (i 1).val
  let c8_i32_583 : BitVec 32 := 8#32
  let v2417 : BitVec 32 := Scalar.muli arg1 c8_i32_583
  let c7_i32 : BitVec 32 := 7#32
  let v2418 : BitVec 32 := Scalar.addi v2417 c7_i32
  let c128_i32_585 : BitVec 32 := 128#32
  let v2421 : BitVec 32 := Scalar.muli v2418 c128_i32_585
  v2421
def k0_mult16 (i : grid0.Coords) : BitVec 32 :=
  let c3712_i32_589 : BitVec 32 := 3712#32
  let c0_i32_588 : BitVec 32 := 0#32
  let arg1 : BitVec 32 := BitVec.ofNat 32 (i 1).val
  let c8_i32_583 : BitVec 32 := 8#32
  let v2417 : BitVec 32 := Scalar.muli arg1 c8_i32_583
  let c7_i32 : BitVec 32 := 7#32
  let v2418 : BitVec 32 := Scalar.addi v2417 c7_i32
  let c1_i32_586 : BitVec 32 := 1#32
  let v2423 : BitVec 32 := Scalar.subi v2418 c1_i32_586
  let c128_i32_587 : BitVec 32 := 128#32
  let v2424 : BitVec 32 := Scalar.muli v2423 c128_i32_587
  let v2425 : BitVec 32 := Scalar.maxsi c0_i32_588 v2424
  let v2426 : BitVec 32 := Scalar.minsi c3712_i32_589 v2425
  v2426
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S17408x768 : Shape := ⟨2, ![17408, 768]⟩
abbrev S8 : Shape := ⟨1, ![8]⟩
abbrev S16384x768 : Shape := ⟨2, ![16384, 768]⟩
abbrev S4x4096x768 : Shape := ⟨3, ![4, 4096, 768]⟩
abbrev S1024x768 : Shape := ⟨2, ![1024, 768]⟩
abbrev S4x256x768 : Shape := ⟨3, ![4, 256, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x1x32 : Shape := ⟨3, ![4096, 1, 32]⟩
abbrev S4x256x512 : Shape := ⟨3, ![4, 256, 512]⟩
abbrev S4x256x8x64 : Shape := ⟨4, ![4, 256, 8, 64]⟩
abbrev S4x256x128 : Shape := ⟨3, ![4, 256, 128]⟩
abbrev S4x256x2x64 : Shape := ⟨4, ![4, 256, 2, 64]⟩
abbrev S4x4096x512 : Shape := ⟨3, ![4, 4096, 512]⟩
abbrev S4x4096x8x64 : Shape := ⟨4, ![4, 4096, 8, 64]⟩
abbrev S4x4096x128 : Shape := ⟨3, ![4, 4096, 128]⟩
abbrev S4x4096x2x64 : Shape := ⟨4, ![4, 4096, 2, 64]⟩
abbrev S4x4096x8x32 : Shape := ⟨4, ![4, 4096, 8, 32]⟩
abbrev S1x4096x1x32 : Shape := ⟨4, ![1, 4096, 1, 32]⟩
abbrev S4x4096x2x32 : Shape := ⟨4, ![4, 4096, 2, 32]⟩
abbrev S4x4096x2x4x64 : Shape := ⟨5, ![4, 4096, 2, 4, 64]⟩
abbrev S2x4 : Shape := ⟨2, ![2, 4]⟩
abbrev S4x2x4096x4096x4 : Shape := ⟨5, ![4, 2, 4096, 4096, 4]⟩
abbrev S4x2x4x4096x4096 : Shape := ⟨5, ![4, 2, 4, 4096, 4096]⟩
abbrev S4x2x256x4096x4 : Shape := ⟨5, ![4, 2, 256, 4096, 4]⟩
abbrev S4x2x4x4096x256 : Shape := ⟨5, ![4, 2, 4, 4096, 256]⟩
abbrev S1x4096 : Shape := ⟨2, ![1, 4096]⟩
abbrev S4096x4096 : Shape := ⟨2, ![4096, 4096]⟩
abbrev S1x2x4x1x1 : Shape := ⟨5, ![1, 2, 4, 1, 1]⟩
abbrev S4x2x4x4096x1 : Shape := ⟨5, ![4, 2, 4, 4096, 1]⟩
abbrev S4x2x4x4096x4353 : Shape := ⟨5, ![4, 2, 4, 4096, 4353]⟩
abbrev S4x2x4x4096 : Shape := ⟨4, ![4, 2, 4, 4096]⟩
abbrev S4x2x64x4x4096 : Shape := ⟨5, ![4, 2, 64, 4, 4096]⟩
abbrev S16384x512 : Shape := ⟨2, ![16384, 512]⟩

abbrev nBuf : Space → Nat
  | .hbm => 136
  | .vmem => 0
  | .smem => 0
  | _ => 0

abbrev hbmTy0_0 (i : Nat) : BufTy := match i % 128 with
  | 0 => ⟨S17408x768, .bf16⟩
  | 1 => ⟨S8, .f32⟩
  | 2 => ⟨S17408x768, .f32⟩
  | 3 => ⟨S16384x768, .f32⟩
  | 4 => ⟨S4x4096x768, .f32⟩
  | 5 => ⟨S1024x768, .f32⟩
  | 6 => ⟨S4x256x768, .f32⟩
  | 7 => ⟨S64, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x32, .f32⟩
  | 33 => ⟨S4096x32, .f32⟩
  | 34 => ⟨S4096x1x32, .f32⟩
  | 35 => ⟨S4096x32, .f32⟩
  | 36 => ⟨S4096x1x32, .f32⟩
  | 37 => ⟨S4x256x512, .f32⟩
  | 38 => ⟨S4x256x8x64, .f32⟩
  | 39 => ⟨S4x256x128, .f32⟩
  | 40 => ⟨S4x256x2x64, .f32⟩
  | 41 => ⟨S4x256x128, .f32⟩
  | 42 => ⟨S4x256x2x64, .f32⟩
  | 43 => ⟨S4x4096x512, .f32⟩
  | 44 => ⟨S4x4096x8x64, .f32⟩
  | 45 => ⟨S4x4096x128, .f32⟩
  | 46 => ⟨S4x4096x2x64, .f32⟩
  | 47 => ⟨S4x4096x128, .f32⟩
  | 48 => ⟨S4x4096x2x64, .f32⟩
  | 49 => ⟨S4x4096x8x32, .f32⟩
  | 50 => ⟨S4x4096x8x32, .f32⟩
  | 51 => ⟨S1x4096x1x32, .f32⟩
  | 52 => ⟨S4x4096x8x32, .f32⟩
  | 53 => ⟨S4x4096x8x32, .f32⟩
  | 54 => ⟨S1x4096x1x32, .f32⟩
  | 55 => ⟨S4x4096x8x32, .f32⟩
  | 56 => ⟨S4x4096x8x32, .f32⟩
  | 57 => ⟨S4x4096x8x32, .f32⟩
  | 58 => ⟨S1x4096x1x32, .f32⟩
  | 59 => ⟨S4x4096x8x32, .f32⟩
  | 60 => ⟨S4x4096x8x32, .f32⟩
  | 61 => ⟨S1x4096x1x32, .f32⟩
  | 62 => ⟨S4x4096x8x32, .f32⟩
  | 63 => ⟨S4x4096x8x32, .f32⟩
  | 64 => ⟨S4x4096x8x32, .f32⟩
  | 65 => ⟨S4x4096x8x64, .f32⟩
  | 66 => ⟨S4x4096x2x32, .f32⟩
  | 67 => ⟨S4x4096x2x32, .f32⟩
  | 68 => ⟨S1x4096x1x32, .f32⟩
  | 69 => ⟨S4x4096x2x32, .f32⟩
  | 70 => ⟨S4x4096x2x32, .f32⟩
  | 71 => ⟨S1x4096x1x32, .f32⟩
  | 72 => ⟨S4x4096x2x32, .f32⟩
  | 73 => ⟨S4x4096x2x32, .f32⟩
  | 74 => ⟨S4x4096x2x32, .f32⟩
  | 75 => ⟨S1x4096x1x32, .f32⟩
  | 76 => ⟨S4x4096x2x32, .f32⟩
  | 77 => ⟨S4x4096x2x32, .f32⟩
  | 78 => ⟨S1x4096x1x32, .f32⟩
  | 79 => ⟨S4x4096x2x32, .f32⟩
  | 80 => ⟨S4x4096x2x32, .f32⟩
  | 81 => ⟨S4x4096x2x32, .f32⟩
  | 82 => ⟨S4x4096x2x64, .f32⟩
  | 83 => ⟨S4x4096x2x4x64, .f32⟩
  | 84 => ⟨S2x4, .f32⟩
  | 85 => ⟨S4x2x4096x4096x4, .f32⟩
  | 86 => ⟨S4x2x4x4096x4096, .f32⟩
  | 87 => ⟨S_, .f32⟩
  | 88 => ⟨S4x2x4x4096x4096, .f32⟩
  | 89 => ⟨S4x2x4x4096x4096, .f32⟩
  | 90 => ⟨S4x2x256x4096x4, .f32⟩
  | 91 => ⟨S4x2x4x4096x256, .f32⟩
  | 92 => ⟨S_, .f32⟩
  | 93 => ⟨S4x2x4x4096x256, .f32⟩
  | 94 => ⟨S4x2x4x4096x256, .f32⟩
  | 95 => ⟨S4096, .i32⟩
  | 96 => ⟨S1x4096, .i32⟩
  | 97 => ⟨S4096x1, .i32⟩
  | 98 => ⟨S4096x4096, .i32⟩
  | 99 => ⟨S4096x4096, .i32⟩
  | 100 => ⟨S4096x4096, .i32⟩
  | 101 => ⟨S4096x4096, .i32⟩
  | 102 => ⟨S_, .i32⟩
  | 103 => ⟨S4096x4096, .i32⟩
  | 104 => ⟨S4096x4096, .i1⟩
  | 105 => ⟨S_, .f32⟩
  | 106 => ⟨S_, .f32⟩
  | 107 => ⟨S4x2x4x4096x4096, .i1⟩
  | 108 => ⟨S4x2x4x4096x4096, .f32⟩
  | 109 => ⟨S4x2x4x4096x4096, .f32⟩
  | 110 => ⟨S1x2x4x1x1, .f32⟩
  | 111 => ⟨S4x2x4x4096x1, .f32⟩
  | 112 => ⟨S4x2x4x4096x4353, .f32⟩
  | 113 => ⟨S_, .f32⟩
  | 114 => ⟨S4x2x4x4096, .f32⟩
  | 115 => ⟨S_, .f32⟩
  | 116 => ⟨S4x2x4x4096, .f32⟩
  | 117 => ⟨S4x2x4x4096, .f32⟩
  | 118 => ⟨S4x2x4x4096x1, .f32⟩
  | 119 => ⟨S4x2x4x4096x4353, .f32⟩
  | 120 => ⟨S4x2x4x4096x4353, .f32⟩
  | 121 => ⟨S4x2x4x4096x4353, .f32⟩
  | 122 => ⟨S_, .f32⟩
  | 123 => ⟨S4x2x4x4096, .f32⟩
  | 124 => ⟨S4x2x4x4096x1, .f32⟩
  | 125 => ⟨S4x2x4x4096x4353, .f32⟩
  | 126 => ⟨S4x2x4x4096x4353, .f32⟩
  | 127 => ⟨S4x2x4x4096x4096, .f32⟩
  | _ => ⟨S17408x768, .bf16⟩

abbrev hbmTy0_1 (i : Nat) : BufTy := match i % 128 with
  | 0 => ⟨S4x2x64x4x4096, .f32⟩
  | 1 => ⟨S4x4096x2x4x64, .f32⟩
  | 2 => ⟨S4x2x4x4096x256, .f32⟩
  | 3 => ⟨S4x2x64x4x4096, .f32⟩
  | 4 => ⟨S4x4096x2x4x64, .f32⟩
  | 5 => ⟨S4x4096x2x4x64, .f32⟩
  | 6 => ⟨S16384x512, .f32⟩
  | 7 => ⟨S16384x512, .bf16⟩
  | _ => ⟨S17408x768, .bf16⟩

abbrev hbmTy (i : Nat) : BufTy := match i / 128 with
  | 0 => hbmTy0_0 i
  | 1 => hbmTy0_1 i
  | _ => ⟨S17408x768, .bf16⟩

abbrev bufTy : (tb : Table) → Fin (tcTables nBuf tb) → BufTy
  | .hbm, ⟨i, _⟩ => hbmTy i
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_cst_1 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_cst_2 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_c : Ref sig .tc := ⟨.hbm, 102, rfl⟩
abbrev main_v96 : Ref sig .tc := ⟨.hbm, 103, rfl⟩
abbrev main_v97 : Ref sig .tc := ⟨.hbm, 104, rfl⟩
abbrev main_cst_3 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_4 : Ref sig .tc := ⟨.hbm, 113, rfl⟩
abbrev main_v102 : Ref sig .tc := ⟨.hbm, 114, rfl⟩
abbrev main_cst_5 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_6 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== Kernel2.lean ====
abbrev S17408x1024 : Shape := ⟨2, ![17408, 1024]⟩
abbrev S8x6x1024 : Shape := ⟨3, ![8, 6, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S512x2816 : Shape := ⟨2, ![512, 2816]⟩
abbrev S1x1x1024 : Shape := ⟨3, ![1, 1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .f32⟩
  | .hbm, ⟨2, _⟩ => ⟨S8x6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S17408x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S17408x1024 : Shape := ⟨2, ![17408, 1024]⟩
abbrev S8x6x1024 : Shape := ⟨3, ![8, 6, 1024]⟩
abbrev S1024x2816 : Shape := ⟨2, ![1024, 2816]⟩
abbrev S2816x1024 : Shape := ⟨2, ![2816, 1024]⟩
abbrev S1024 : Shape := ⟨1, ![1024]⟩
abbrev S17408x2816 : Shape := ⟨2, ![17408, 2816]⟩
abbrev S_ : Shape := ⟨0, ![]⟩
abbrev S16384x1024 : Shape := ⟨2, ![16384, 1024]⟩
abbrev S4x4096x1024 : Shape := ⟨3, ![4, 4096, 1024]⟩
abbrev S1024x1024 : Shape := ⟨2, ![1024, 1024]⟩
abbrev S4x256x1024 : Shape := ⟨3, ![4, 256, 1024]⟩
abbrev S4x1x1024 : Shape := ⟨3, ![4, 1, 1024]⟩
abbrev S4x1024 : Shape := ⟨2, ![4, 1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .f32⟩
  | .hbm, ⟨2, _⟩ => ⟨S8x6x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S17408x1024, .f32⟩
  | .hbm, ⟨8, _⟩ => ⟨S17408x2816, .f32⟩
  | .hbm, ⟨9, _⟩ => ⟨S17408x2816, .f32⟩
  | .hbm, ⟨10, _⟩ => ⟨S17408x2816, .f32⟩
  | .hbm, ⟨11, _⟩ => ⟨S_, .f32⟩
  | .hbm, ⟨12, _⟩ => ⟨S17408x2816, .f32⟩
  | .hbm, ⟨13, _⟩ => ⟨S17408x2816, .f32⟩
  | .hbm, ⟨14, _⟩ => ⟨S_, .f32⟩
  | .hbm, ⟨15, _⟩ => ⟨S17408x2816, .f32⟩
  | .hbm, ⟨16, _⟩ => ⟨S17408x2816, .f32⟩
  | .hbm, ⟨17, _⟩ => ⟨S17408x2816, .f32⟩
  | .hbm, ⟨18, _⟩ => ⟨S17408x2816, .f32⟩
  | .hbm, ⟨19, _⟩ => ⟨S17408x2816, .f32⟩
  | .hbm, ⟨20, _⟩ => ⟨S17408x1024, .f32⟩
  | .hbm, ⟨21, _⟩ => ⟨S16384x1024, .f32⟩
  | .hbm, ⟨22, _⟩ => ⟨S4x4096x1024, .f32⟩
  | .hbm, ⟨23, _⟩ => ⟨S1024x1024, .f32⟩
  | .hbm, ⟨24, _⟩ => ⟨S4x256x1024, .f32⟩
  | .hbm, ⟨25, _⟩ => ⟨S4x1x1024, .f32⟩
  | .hbm, ⟨26, _⟩ => ⟨S4x1024, .f32⟩
  | .hbm, ⟨27, _⟩ => ⟨S4x1x1024, .f32⟩
  | .hbm, ⟨28, _⟩ => ⟨S16384x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S1024, .f32⟩
  | .hbm, ⟨35, _⟩ => ⟨S1024x1024, .f32⟩
  | .hbm, ⟨36, _⟩ => ⟨S4x256x1024, .f32⟩
  | .hbm, ⟨37, _⟩ => ⟨S1x1x1024, .f32⟩
  | .hbm, ⟨38, _⟩ => ⟨S4x256x1024, .f32⟩
  | .hbm, ⟨39, _⟩ => ⟨S4x256x1024, .f32⟩
  | .hbm, ⟨40, _⟩ => ⟨S4x256x1024, .f32⟩
  | .hbm, ⟨41, _⟩ => ⟨S16384x1024, .f32⟩
  | .hbm, ⟨42, _⟩ => ⟨S1024x1024, .f32⟩
  | .hbm, ⟨43, _⟩ => ⟨S17408x1024, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel3.lean ====
abbrev S76 : Shape := ⟨1, ![76]⟩
abbrev S1 : Shape := ⟨1, ![1]⟩
abbrev S38912x1024 : Shape := ⟨2, ![38912, 1024]⟩
abbrev S2x8x1024x3584 : Shape := ⟨4, ![2, 8, 1024, 3584]⟩
abbrev S38912x3584 : Shape := ⟨2, ![38912, 3584]⟩
abbrev S512x1024 : Shape := ⟨2, ![512, 1024]⟩
abbrev S1x1x1024x1792 : Shape := ⟨4, ![1, 1, 1024, 1792]⟩
abbrev S512x1792 : Shape := ⟨2, ![512, 1792]⟩
abbrev S1024x1792 : Shape := ⟨2, ![1024, 1792]⟩

abbrev nBuf : Space → Nat
  | .hbm => 4
  | .vmem => 10
  | .smem => 2
  | _ => 0

abbrev bufTy : (tb : Table) → Fin (tcTables nBuf tb) → BufTy
  | .hbm, ⟨0, _⟩ => ⟨S38912x1024, .f32⟩
  | .hbm, ⟨1, _⟩ => ⟨S2x8x1024x3584, .f32⟩
  | .hbm, ⟨2, _⟩ => ⟨S2x8x1024x3584, .f32⟩
  | .hbm, ⟨3, _⟩ => ⟨S38912x3584, .bf16⟩
  | .local _ .vmem, ⟨0, _⟩ => ⟨S512x1024, .f32⟩
  | .local _ .vmem, ⟨1, _⟩ => ⟨S512x1024, .f32⟩
  | .local _ .vmem, ⟨2, _⟩ => ⟨S1x1x1024x1792, .f32⟩
  | .local _ .vmem, ⟨3, _⟩ => ⟨S1x1x1024x1792, .f32⟩
  | .local _ .vmem, ⟨4, _⟩ => ⟨S1x1x1024x1792, .f32⟩
  | .local _ .vmem, ⟨5, _⟩ => ⟨S1x1x1024x1792, .f32⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | .local _ .vmem, ⟨9, _⟩ => ⟨S1024x1792, .bf16⟩
  | .local _ .smem, ⟨0, _⟩ => ⟨S76, .i32⟩
  | .local _ .smem, ⟨1, _⟩ => ⟨S1, .i32⟩
  | _, _ => ⟨S38912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 76], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) : Fin 1 → Nat :=
  let c1_i32 : BitVec 32 := 1#32
  let v2 : BitVec 32 := Scalar.subi v1 c1_i32
  let c0_i32_0 : BitVec 32 := 0#32
  let arg1 : BitVec 32 := BitVec.ofNat 32 (i 1).val
  let v3 : BitVec 32 := Scalar.maxsi c0_i32_0 arg1
  let v4 : BitVec 32 := Scalar.minsi v2 v3
  let v5 : Index := Scalar.indexCast v4
  ![v5.toNat]

def k0_chk1 (i : grid0.Coords) (v1 : BitVec 32) : Prop :=
  (∀ a, (k0_off2 i v1) a + S1.size a ≤ S76.size a)
theorem k0_off2_inb : ∀ (i : grid0.Coords) (v1 : BitVec 32) (k0_hw1 : k0_chk1 i v1), ∀ a, (k0_off2 i v1) a + S1.size a ≤ S76.size a := fun i v1 k0_hw1 => k0_hw1

def k0_off3 (i : grid0.Coords) (v8 : BitVec 32) : Fin 1 → Nat :=
  let c1_i32_3 : BitVec 32 := 1#32
  let v9 : BitVec 32 := Scalar.subi v8 c1_i32_3
  let c0_i32_4 : BitVec 32 := 0#32
  let arg1 : BitVec 32 := BitVec.ofNat 32 (i 1).val
  let c1_i32_1 : BitVec 32 := 1#32
  let v7 : BitVec 32 := Scalar.subi arg1 c1_i32_1
  let v10 : BitVec 32 := Scalar.maxsi c0_i32_4 v7
  let v11 : BitVec 32 := Scalar.minsi v9 v10
  let v12 : Index := Scalar.indexCast v11
  ![v12.toNat]

def k0_chk2 (i : grid0.Coords) (v8 : BitVec 32) : Prop :=
  (∀ a, (k0_off3 i v8) a + S1.size a ≤ S76.size a)
theorem k0_off3_inb : ∀ (i : grid0.Coords) (v8 : BitVec 32) (k0_hw2 : k0_chk2 i v8), ∀ a, (k0_off3 i v8) a + S1.size a ≤ S76.size a := fun i v8 k0_hw2 => k0_hw2

def k0_cond2 (i : grid0.Coords) (v18 : BitVec 32) : BitVec 1 :=
  let arg1 : BitVec 32 := BitVec.ofNat 32 (i 1).val
  let v19 : BitVec 1 := Scalar.cmpi .slt arg1 v18
  let v20 : BitVec 32 := Scalar.extui v19
  let c0_i32_7 : BitVec 32 := 0#32
  let v21 : BitVec 1 := Scalar.cmpi .ne v20 c0_i32_7
  v21

def k0_cond3 (i : grid0.Coords) (v22 : BitVec 32) : BitVec 1 :=
  let arg1 : BitVec 32 := BitVec.ofNat 32 (i 1).val
  let v23 : BitVec 1 := Scalar.cmpi .sge arg1 v22
  let v24 : BitVec 32 := Scalar.extui v23
  let c0_i32_9 : BitVec 32 := 0#32
  let v25 : BitVec 1 := Scalar.cmpi .ne v24 c0_i32_9
  v25

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S76.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S76) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S76.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S76) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S76 : Shape := ⟨1, ![76]⟩
abbrev S1 : Shape := ⟨1, ![1]⟩
abbrev S38912x1024 : Shape := ⟨2, ![38912, 1024]⟩
abbrev S2x8x1024x3584 : Shape := ⟨4, ![2, 8, 1024, 3584]⟩
abbrev S1x8x1024x3584 : Shape := ⟨4, ![1, 8, 1024, 3584]⟩
abbrev S8x1024x3584 : Shape := ⟨3, ![8, 1024, 3584]⟩
abbrev S38912x8x3584 : Shape := ⟨3, ![38912, 8, 3584]⟩
abbrev S_ : Shape := ⟨0, ![]⟩
abbrev S76x1 : Shape := ⟨2, ![76, 1]⟩
abbrev S76x512 : Shape := ⟨2, ![76, 512]⟩
abbrev S38912 : Shape := ⟨1, ![38912]⟩
abbrev S38912x1 : Shape := ⟨2, ![38912, 1]⟩
abbrev S8 : Shape := ⟨1, ![8]⟩
abbrev S1x8 : Shape := ⟨2, ![1, 8]⟩
abbrev S38912x8 : Shape := ⟨2, ![38912, 8]⟩
abbrev S38912x8x1 : Shape := ⟨3, ![38912, 8, 1]⟩
abbrev S38912x3584 : Shape := ⟨2, ![38912, 3584]⟩

abbrev nBuf : Space → Nat
  | .hbm => 51
  | .vmem => 0
  | .smem => 0
  | _ => 0

abbrev bufTy : (tb : Table) → Fin (tcTables nBuf tb) → BufTy
  | .hbm, ⟨0, _⟩ => ⟨S76, .i32⟩
  | .hbm, ⟨1, _⟩ => ⟨S1, .i32⟩
  | .hbm, ⟨2, _⟩ => ⟨S38912x1024, .f32⟩
  | .hbm, ⟨3, _⟩ => ⟨S2x8x1024x3584, .f32⟩
  | .hbm, ⟨4, _⟩ => ⟨S2x8x1024x3584, .f32⟩
  | .hbm, ⟨5, _⟩ => ⟨S1x8x1024x3584, .f32⟩
  | .hbm, ⟨6, _⟩ => ⟨S8x1024x3584, .f32⟩
  | .hbm, ⟨7, _⟩ => ⟨S1x8x1024x3584, .f32⟩
  | .hbm, ⟨8, _⟩ => ⟨S8x1024x3584, .f32⟩
  | .hbm, ⟨9, _⟩ => ⟨S38912x8x3584, .f32⟩
  | .hbm, ⟨10, _⟩ => ⟨S38912x8x3584, .f32⟩
  | .hbm, ⟨11, _⟩ => ⟨S38912x8x3584, .f32⟩
  | .hbm, ⟨12, _⟩ => ⟨S_, .f32⟩
  | .hbm, ⟨13, _⟩ => ⟨S38912x8x3584, .f32⟩
  | .hbm, ⟨14, _⟩ => ⟨S38912x8x3584, .f32⟩
  | .hbm, ⟨15, _⟩ => ⟨S_, .f32⟩
  | .hbm, ⟨16, _⟩ => ⟨S38912x8x3584, .f32⟩
  | .hbm, ⟨17, _⟩ => ⟨S38912x8x3584, .f32⟩
  | .hbm, ⟨18, _⟩ => ⟨S38912x8x3584, .f32⟩
  | .hbm, ⟨19, _⟩ => ⟨S38912x8x3584, .f32⟩
  | .hbm, ⟨20, _⟩ => ⟨S38912x8x3584, .f32⟩
  | .hbm, ⟨21, _⟩ => ⟨S76x1, .i32⟩
  | .hbm, ⟨22, _⟩ => ⟨S76x512, .i32⟩
  | .hbm, ⟨23, _⟩ => ⟨S38912, .i32⟩
  | .hbm, ⟨24, _⟩ => ⟨S38912x1, .i32⟩
  | .hbm, ⟨25, _⟩ => ⟨S8, .i32⟩
  | .hbm, ⟨26, _⟩ => ⟨S1x8, .i32⟩
  | .hbm, ⟨27, _⟩ => ⟨S38912x8, .i32⟩
  | .hbm, ⟨28, _⟩ => ⟨S38912x8, .i32⟩
  | .hbm, ⟨29, _⟩ => ⟨S38912x8, .i1⟩
  | .hbm, ⟨30, _⟩ => ⟨S38912x8x1, .i1⟩
  | .hbm, ⟨31, _⟩ => ⟨S_, .f32⟩
  | .hbm, ⟨32, _⟩ => ⟨S_, .f32⟩
  | .hbm, ⟨33, _⟩ => ⟨S38912x8x3584, .i1⟩
  | .hbm, ⟨34, _⟩ => ⟨S38912x8x3584, .f32⟩
  | .hbm, ⟨35, _⟩ => ⟨S38912x8x3584, .f32⟩
  | .hbm, ⟨36, _⟩ => ⟨S_, .f32⟩
  | .hbm, ⟨37, _⟩ => ⟨S38912x3584, .f32⟩
  | .hbm, ⟨38, _⟩ => ⟨S38912, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S38912, .i32⟩
  | .hbm, ⟨43, _⟩ => ⟨S38912, .i1⟩
  | .hbm, ⟨44, _⟩ => ⟨S38912x1, .i1⟩
  | .hbm, ⟨45, _⟩ => ⟨S_, .f32⟩
  | .hbm, ⟨46, _⟩ => ⟨S_, .f32⟩
  | .hbm, ⟨47, _⟩ => ⟨S38912x3584, .i1⟩
  | .hbm, ⟨48, _⟩ => ⟨S38912x3584, .f32⟩
  | .hbm, ⟨49, _⟩ => ⟨S38912x3584, .f32⟩
  | .hbm, ⟨50, _⟩ => ⟨S38912x3584, .bf16⟩
  | _, _ => ⟨S76, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel4.lean ====
abbrev S76 : Shape := ⟨1, ![76]⟩
abbrev S1 : Shape := ⟨1, ![1]⟩
abbrev S38912x3584 : Shape := ⟨2, ![38912, 3584]⟩
abbrev S2x8x3584x1024 : Shape := ⟨4, ![2, 8, 3584, 1024]⟩
abbrev S38912x1024 : Shape := ⟨2, ![38912, 1024]⟩
abbrev S512x3584 : Shape := ⟨2, ![512, 3584]⟩
abbrev S1x1x3584x1024 : Shape := ⟨4, ![1, 1, 3584, 1024]⟩
abbrev S512x1024 : Shape := ⟨2, ![512, 1024]⟩
abbrev S3584x1024 : Shape := ⟨2, ![3584, 1024]⟩

abbrev nBuf : Space → Nat
  | .hbm => 3
  | .vmem => 7
  | .smem => 2
  | _ => 0

abbrev bufTy : (tb : Table) → Fin (tcTables nBuf tb) → BufTy
  | .hbm, ⟨0, _⟩ => ⟨S38912x3584, .bf16⟩
  | .hbm, ⟨1, _⟩ => ⟨S2x8x3584x1024, .f32⟩
  | .hbm, ⟨2, _⟩ => ⟨S38912x1024, .f32⟩
  | .local _ .vmem, ⟨0, _⟩ => ⟨S512x3584, .bf16⟩
  | .local _ .vmem, ⟨1, _⟩ => ⟨S512x3584, .bf16⟩
  | .local _ .vmem, ⟨2, _⟩ => ⟨S1x1x3584x1024, .f32⟩
  | .local _ .vmem, ⟨3, _⟩ => ⟨S1x1x3584x1024, .f32⟩
  | .local _ .vmem, ⟨4, _⟩ => ⟨S512x1024, .f32⟩
  | .local _ .vmem, ⟨5, _⟩ => ⟨S512x1024, .f32⟩
  | .local _ .vmem, ⟨6, _⟩ => ⟨S3584x1024, .bf16⟩
  | .local _ .smem, ⟨0, _⟩ => ⟨S76, .i32⟩
  | .local _ .smem, ⟨1, _⟩ => ⟨S1, .i32⟩
  | _, _ => ⟨S38912x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 76], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) : Fin 1 → Nat :=
  let c1_i32 : BitVec 32 := 1#32
  let v2 : BitVec 32 := Scalar.subi v1 c1_i32
  let c0_i32_0 : BitVec 32 := 0#32
  let arg1 : BitVec 32 := BitVec.ofNat 32 (i 1).val
  let v3 : BitVec 32 := Scalar.maxsi c0_i32_0 arg1
  let v4 : BitVec 32 := Scalar.minsi v2 v3
  let v5 : Index := Scalar.indexCast v4
  ![v5.toNat]

def k0_chk1 (i : grid0.Coords) (v1 : BitVec 32) : Prop :=
  (∀ a, (k0_off2 i v1) a + S1.size a ≤ S76.size a)
theorem k0_off2_inb : ∀ (i : grid0.Coords) (v1 : BitVec 32) (k0_hw1 : k0_chk1 i v1), ∀ a, (k0_off2 i v1) a + S1.size a ≤ S76.size a := fun i v1 k0_hw1 => k0_hw1

def k0_off3 (i : grid0.Coords) (v8 : BitVec 32) : Fin 1 → Nat :=
  let c1_i32_3 : BitVec 32 := 1#32
  let v9 : BitVec 32 := Scalar.subi v8 c1_i32_3
  let c0_i32_4 : BitVec 32 := 0#32
  let arg1 : BitVec 32 := BitVec.ofNat 32 (i 1).val
  let c1_i32_1 : BitVec 32 := 1#32
  let v7 : BitVec 32 := Scalar.subi arg1 c1_i32_1
  let v10 : BitVec 32 := Scalar.maxsi c0_i32_4 v7
  let v11 : BitVec 32 := Scalar.minsi v9 v10
  let v12 : Index := Scalar.indexCast v11
  ![v12.toNat]

def k0_chk2 (i : grid0.Coords) (v8 : BitVec 32) : Prop :=
  (∀ a, (k0_off3 i v8) a + S1.size a ≤ S76.size a)
theorem k0_off3_inb : ∀ (i : grid0.Coords) (v8 : BitVec 32) (k0_hw2 : k0_chk2 i v8), ∀ a, (k0_off3 i v8) a + S1.size a ≤ S76.size a := fun i v8 k0_hw2 => k0_hw2

def k0_cond2 (i : grid0.Coords) (v18 : BitVec 32) : BitVec 1 :=
  let arg1 : BitVec 32 := BitVec.ofNat 32 (i 1).val
  let v19 : BitVec 1 := Scalar.cmpi .slt arg1 v18
  let v20 : BitVec 32 := Scalar.extui v19
  let c0_i32_7 : BitVec 32 := 0#32
  let v21 : BitVec 1 := Scalar.cmpi .ne v20 c0_i32_7
  v21

def k0_cond3 (i : grid0.Coords) (v22 : BitVec 32) : BitVec 1 :=
  let arg1 : BitVec 32 := BitVec.ofNat 32 (i 1).val
  let v23 : BitVec 1 := Scalar.cmpi .sge arg1 v22
  let v24 : BitVec 32 := Scalar.extui v23
  let c0_i32_9 : BitVec 32 := 0#32
  let v25 : BitVec 1 := Scalar.cmpi .ne v24 c0_i32_9
  v25

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S76.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S76) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S76 : Shape := ⟨1, ![76]⟩
abbrev S1 : Shape := ⟨1, ![1]⟩
abbrev S38912x3584 : Shape := ⟨2, ![38912, 3584]⟩
abbrev S2x8x3584x1024 : Shape := ⟨4, ![2, 8, 3584, 1024]⟩
abbrev S1x8x3584x1024 : Shape := ⟨4, ![1, 8, 3584, 1024]⟩
abbrev S8x3584x1024 : Shape := ⟨3, ![8, 3584, 1024]⟩
abbrev S38912x8x1024 : Shape := ⟨3, ![38912, 8, 1024]⟩
abbrev S76x1 : Shape := ⟨2, ![76, 1]⟩
abbrev S76x512 : Shape := ⟨2, ![76, 512]⟩
abbrev S38912 : Shape := ⟨1, ![38912]⟩
abbrev S38912x1 : Shape := ⟨2, ![38912, 1]⟩
abbrev S8 : Shape := ⟨1, ![8]⟩
abbrev S1x8 : Shape := ⟨2, ![1, 8]⟩
abbrev S38912x8 : Shape := ⟨2, ![38912, 8]⟩
abbrev S38912x8x1 : Shape := ⟨3, ![38912, 8, 1]⟩
abbrev S_ : Shape := ⟨0, ![]⟩
abbrev S38912x1024 : Shape := ⟨2, ![38912, 1024]⟩

abbrev nBuf : Space → Nat
  | .hbm => 37
  | .vmem => 0
  | .smem => 0
  | _ => 0

abbrev bufTy : (tb : Table) → Fin (tcTables nBuf tb) → BufTy
  | .hbm, ⟨0, _⟩ => ⟨S76, .i32⟩
  | .hbm, ⟨1, _⟩ => ⟨S1, .i32⟩
  | .hbm, ⟨2, _⟩ => ⟨S38912x3584, .bf16⟩
  | .hbm, ⟨3, _⟩ => ⟨S2x8x3584x1024, .f32⟩
  | .hbm, ⟨4, _⟩ => ⟨S38912x3584, .f32⟩
  | .hbm, ⟨5, _⟩ => ⟨S1x8x3584x1024, .f32⟩
  | .hbm, ⟨6, _⟩ => ⟨S8x3584x1024, .f32⟩
  | .hbm, ⟨7, _⟩ => ⟨S38912x8x1024, .f32⟩
  | .hbm, ⟨8, _⟩ => ⟨S76x1, .i32⟩
  | .hbm, ⟨9, _⟩ => ⟨S76x512, .i32⟩
  | .hbm, ⟨10, _⟩ => ⟨S38912, .i32⟩
  | .hbm, ⟨11, _⟩ => ⟨S38912x1, .i32⟩
  | .hbm, ⟨12, _⟩ => ⟨S8, .i32⟩
  | .hbm, ⟨13, _⟩ => ⟨S1x8, .i32⟩
  | .hbm, ⟨14, _⟩ => ⟨S38912x8, .i32⟩
  | .hbm, ⟨15, _⟩ => ⟨S38912x8, .i32⟩
  | .hbm, ⟨16, _⟩ => ⟨S38912x8, .i1⟩
  | .hbm, ⟨17, _⟩ => ⟨S38912x8x1, .i1⟩
  | .hbm, ⟨18, _⟩ => ⟨S_, .f32⟩
  | .hbm, ⟨19, _⟩ => ⟨S_, .f32⟩
  | .hbm, ⟨20, _⟩ => ⟨S38912x8x1024, .i1⟩
  | .hbm, ⟨21, _⟩ => ⟨S38912x8x1024, .f32⟩
  | .hbm, ⟨22, _⟩ => ⟨S38912x8x1024, .f32⟩
  | .hbm, ⟨23, _⟩ => ⟨S_, .f32⟩
  | .hbm, ⟨24, _⟩ => ⟨S38912x1024, .f32⟩
  | .hbm, ⟨25, _⟩ => ⟨S38912, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S38912, .i32⟩
  | .hbm, ⟨30, _⟩ => ⟨S38912, .i1⟩
  | .hbm, ⟨31, _⟩ => ⟨S38912x1, .i1⟩
  | .hbm, ⟨32, _⟩ => ⟨S_, .f32⟩
  | .hbm, ⟨33, _⟩ => ⟨S_, .f32⟩
  | .hbm, ⟨34, _⟩ => ⟨S38912x1024, .i1⟩
  | .hbm, ⟨35, _⟩ => ⟨S38912x1024, .f32⟩
  | .hbm, ⟨36, _⟩ => ⟨S38912x1024, .f32⟩
  | _, _ => ⟨S76, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel5.lean ====
abbrev S17408x1024 : Shape := ⟨2, ![17408, 1024]⟩
abbrev S8x6x1024 : Shape := ⟨3, ![8, 6, 1024]⟩
abbrev S1024 : Shape := ⟨1, ![1024]⟩
abbrev S1024x2832 : Shape := ⟨2, ![1024, 2832]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x768 : Shape := ⟨2, ![1024, 768]⟩
abbrev S1x1024 : Shape := ⟨2, ![1, 1024]⟩
abbrev S17408x768 : Shape := ⟨2, ![17408, 768]⟩
abbrev S17408x128 : Shape := ⟨2, ![17408, 128]⟩
abbrev S512x1024 : Shape := ⟨2, ![512, 1024]⟩
abbrev S1x6x1024 : Shape := ⟨3, ![1, 6, 1024]⟩
abbrev S512x768 : Shape := ⟨2, ![512, 768]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 17
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024, .f32⟩
  | .hbm, ⟨3, _⟩ => ⟨S1024x2832, .f32⟩
  | .hbm, ⟨4, _⟩ => ⟨S1024x2832, .bf16⟩
  | .hbm, ⟨5, _⟩ => ⟨S1024x1024, .bf16⟩
  | .hbm, ⟨6, _⟩ => ⟨S1024x1024, .bf16⟩
  | .hbm, ⟨7, _⟩ => ⟨S1024x16, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1024x768, .bf16⟩
  | .hbm, ⟨12, _⟩ => ⟨S1x1024, .f32⟩
  | .hbm, ⟨13, _⟩ => ⟨S17408x1024, .bf16⟩
  | .hbm, ⟨14, _⟩ => ⟨S17408x1024, .bf16⟩
  | .hbm, ⟨15, _⟩ => ⟨S17408x768, .bf16⟩
  | .hbm, ⟨16, _⟩ => ⟨S17408x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x768, .bf16⟩
  | .local _ .vmem, ⟨8, _⟩ => ⟨S1024x128, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x768, .bf16⟩
  | .local _ .vmem, ⟨14, _⟩ => ⟨S512x768, .bf16⟩
  | .local _ .vmem, ⟨15, _⟩ => ⟨S512x128, .f32⟩
  | .local _ .vmem, ⟨16, _⟩ => ⟨S512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S17408x1024 : Shape := ⟨2, ![17408, 1024]⟩
abbrev S8x6x1024 : Shape := ⟨3, ![8, 6, 1024]⟩
abbrev S1024 : Shape := ⟨1, ![1024]⟩
abbrev S1024x2832 : Shape := ⟨2, ![1024, 2832]⟩
abbrev S16384x1024 : Shape := ⟨2, ![16384, 1024]⟩
abbrev S4x4096x1024 : Shape := ⟨3, ![4, 4096, 1024]⟩
abbrev S1024x1024 : Shape := ⟨2, ![1024, 1024]⟩
abbrev S4x256x1024 : Shape := ⟨3, ![4, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256 : Shape := ⟨2, ![4, 256]⟩
abbrev S4x256x1 : Shape := ⟨3, ![4, 256, 1]⟩
abbrev S17408x2832 : Shape := ⟨2, ![17408, 2832]⟩
abbrev S17408x16 : Shape := ⟨2, ![17408, 16]⟩
abbrev S17408x768 : Shape := ⟨2, ![17408, 768]⟩
abbrev S17408x112 : Shape := ⟨2, ![17408, 112]⟩
abbrev S17408x128 : Shape := ⟨2, ![17408, 128]⟩

abbrev nBuf : Space → Nat
  | .hbm => 80
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024, .f32⟩
  | .hbm, ⟨3, _⟩ => ⟨S1024x2832, .f32⟩
  | .hbm, ⟨4, _⟩ => ⟨S16384x1024, .f32⟩
  | .hbm, ⟨5, _⟩ => ⟨S4x4096x1024, .f32⟩
  | .hbm, ⟨6, _⟩ => ⟨S1024x1024, .f32⟩
  | .hbm, ⟨7, _⟩ => ⟨S4x256x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x256x1024, .f32⟩
  | .hbm, ⟨38, _⟩ => ⟨S_, .f32⟩
  | .hbm, ⟨39, _⟩ => ⟨S4x256, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S4x256x1, .f32⟩
  | .hbm, ⟨48, _⟩ => ⟨S4x256x1024, .f32⟩
  | .hbm, ⟨49, _⟩ => ⟨S4x256x1024, .f32⟩
  | .hbm, ⟨50, _⟩ => ⟨S1x1x1024, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S1024, .f32⟩
  | .hbm, ⟨55, _⟩ => ⟨S1x1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S1x1x1024, .f32⟩
  | .hbm, ⟨64, _⟩ => ⟨S4x256x1024, .f32⟩
  | .hbm, ⟨65, _⟩ => ⟨S4x256x1024, .f32⟩
  | .hbm, ⟨66, _⟩ => ⟨S16384x1024, .f32⟩
  | .hbm, ⟨67, _⟩ => ⟨S1024x1024, .f32⟩
  | .hbm, ⟨68, _⟩ => ⟨S17408x1024, .f32⟩
  | .hbm, ⟨69, _⟩ => ⟨S17408x2832, .f32⟩
  | .hbm, ⟨70, _⟩ => ⟨S17408x1024, .f32⟩
  | .hbm, ⟨71, _⟩ => ⟨S17408x1024, .f32⟩
  | .hbm, ⟨72, _⟩ => ⟨S17408x16, .f32⟩
  | .hbm, ⟨73, _⟩ => ⟨S17408x768, .f32⟩
  | .hbm, ⟨74, _⟩ => ⟨S_, .f32⟩
  | .hbm, ⟨75, _⟩ => ⟨S17408x112, .f32⟩
  | .hbm, ⟨76, _⟩ => ⟨S17408x128, .f32⟩
  | .hbm, ⟨77, _⟩ => ⟨S17408x1024, .bf16⟩
  | .hbm, ⟨78, _⟩ => ⟨S17408x1024, .bf16⟩
  | .hbm, ⟨79, _⟩ => ⟨S17408x768, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Kernel6.lean ====
abbrev S16384x256 : Shape := ⟨2, ![16384, 256]⟩
abbrev S1024x256 : Shape := ⟨2, ![1024, 256]⟩
abbrev S16384x512 : Shape := ⟨2, ![16384, 512]⟩
abbrev S1024x512 : Shape := ⟨2, ![1024, 512]⟩
abbrev S17408x1024 : Shape := ⟨2, ![17408, 1024]⟩
abbrev S8x6x1024 : Shape := ⟨3, ![8, 6, 1024]⟩
abbrev S1024x1024 : Shape := ⟨2, ![1024, 1024]⟩
abbrev S1024 : Shape := ⟨1, ![1024]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S1x6x1024 : Shape := ⟨3, ![1, 6, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x256, .bf16⟩
  | .hbm, ⟨3, _⟩ => ⟨S1024x256, .bf16⟩
  | .hbm, ⟨4, _⟩ => ⟨S16384x512, .bf16⟩
  | .hbm, ⟨5, _⟩ => ⟨S1024x512, .bf16⟩
  | .hbm, ⟨6, _⟩ => ⟨S17408x1024, .f32⟩
  | .hbm, ⟨7, _⟩ => ⟨S8x6x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S17408x1024, .f32⟩
  | .hbm, ⟨13, _⟩ => ⟨S17408x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16384x256 : Shape := ⟨2, ![16384, 256]⟩
abbrev S1024x256 : Shape := ⟨2, ![1024, 256]⟩
abbrev S16384x512 : Shape := ⟨2, ![16384, 512]⟩
abbrev S1024x512 : Shape := ⟨2, ![1024, 512]⟩
abbrev S17408x1024 : Shape := ⟨2, ![17408, 1024]⟩
abbrev S8x6x1024 : Shape := ⟨3, ![8, 6, 1024]⟩
abbrev S1024x1024 : Shape := ⟨2, ![1024, 1024]⟩
abbrev S1024 : Shape := ⟨1, ![1024]⟩
abbrev S16384x1024 : Shape := ⟨2, ![16384, 1024]⟩
abbrev S4x4096x1024 : Shape := ⟨3, ![4, 4096, 1024]⟩
abbrev S4x256x1024 : Shape := ⟨3, ![4, 256, 1024]⟩
abbrev S4x1x1024 : Shape := ⟨3, ![4, 1, 1024]⟩
abbrev S4x1024 : Shape := ⟨2, ![4, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩

abbrev nBuf : Space → Nat
  | .hbm => 118
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x256, .bf16⟩
  | .hbm, ⟨3, _⟩ => ⟨S1024x256, .bf16⟩
  | .hbm, ⟨4, _⟩ => ⟨S16384x512, .bf16⟩
  | .hbm, ⟨5, _⟩ => ⟨S1024x512, .bf16⟩
  | .hbm, ⟨6, _⟩ => ⟨S17408x1024, .f32⟩
  | .hbm, ⟨7, _⟩ => ⟨S8x6x1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S4x4096x1024, .f32⟩
  | .hbm, ⟨12, _⟩ => ⟨S1024x1024, .f32⟩
  | .hbm, ⟨13, _⟩ => ⟨S4x256x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1x1024, .f32⟩
  | .hbm, ⟨18, _⟩ => ⟨S4x1024, .f32⟩
  | .hbm, ⟨19, _⟩ => ⟨S4x1x1024, .f32⟩
  | .hbm, ⟨20, _⟩ => ⟨S4x1x1024, .f32⟩
  | .hbm, ⟨21, _⟩ => ⟨S4x1024, .f32⟩
  | .hbm, ⟨22, _⟩ => ⟨S4x1x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S1024, .f32⟩
  | .hbm, ⟨38, _⟩ => ⟨S1x1x1024, .f32⟩
  | .hbm, ⟨39, _⟩ => ⟨S1024, .f32⟩
  | .hbm, ⟨40, _⟩ => ⟨S1x1x1024, .f32⟩
  | .hbm, ⟨41, _⟩ => ⟨S1024, .f32⟩
  | .hbm, ⟨42, _⟩ => ⟨S1x1x1024, .f32⟩
  | .hbm, ⟨43, _⟩ => ⟨S1024, .f32⟩
  | .hbm, ⟨44, _⟩ => ⟨S16384x256, .f32⟩
  | .hbm, ⟨45, _⟩ => ⟨S16384x256, .f32⟩
  | .hbm, ⟨46, _⟩ => ⟨S16384x512, .f32⟩
  | .hbm, ⟨47, _⟩ => ⟨S16384x1024, .f32⟩
  | .hbm, ⟨48, _⟩ => ⟨S1024x256, .f32⟩
  | .hbm, ⟨49, _⟩ => ⟨S1024x256, .f32⟩
  | .hbm, ⟨50, _⟩ => ⟨S1024x512, .f32⟩
  | .hbm, ⟨51, _⟩ => ⟨S1024x1024, .f32⟩
  | .hbm, ⟨52, _⟩ => ⟨S16384x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S1024x1024, .f32⟩
  | .hbm, ⟨58, _⟩ => ⟨S4x256x1024, .f32⟩
  | .hbm, ⟨59, _⟩ => ⟨S1x1x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S4x256x1024, .f32⟩
  | .hbm, ⟨87, _⟩ => ⟨S_, .f32⟩
  | .hbm, ⟨88, _⟩ => ⟨S4x256, .f32⟩
  | .hbm, ⟨89, _⟩ => ⟨S4x256x1, .f32⟩
  | .hbm, ⟨90, _⟩ => ⟨S_, .f32⟩
  | .hbm, ⟨91, _⟩ => ⟨S4x256x1, .f32⟩
  | .hbm, ⟨92, _⟩ => ⟨S4x256x1, .f32⟩
  | .hbm, ⟨93, _⟩ => ⟨S_, .f32⟩
  | .hbm, ⟨94, _⟩ => ⟨S4x256x1, .f32⟩
  | .hbm, ⟨95, _⟩ => ⟨S4x256x1, .f32⟩
  | .hbm, ⟨96, _⟩ => ⟨S4x256x1, .f32⟩
  | .hbm, ⟨97, _⟩ => ⟨S4x256x1024, .f32⟩
  | .hbm, ⟨98, _⟩ => ⟨S4x256x1024, .f32⟩
  | .hbm, ⟨99, _⟩ => ⟨S1x1x1024, .f32⟩
  | .hbm, ⟨100, _⟩ => ⟨S4x256x1024, .f32⟩
  | .hbm, ⟨101, _⟩ => ⟨S4x256x1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S1x1x1024, .f32⟩
  | .hbm, ⟨106, _⟩ => ⟨S4x256x1024, .f32⟩
  | .hbm, ⟨107, _⟩ => ⟨S4x256x1024, .f32⟩
  | .hbm, ⟨108, _⟩ => ⟨S1x1x1024, .f32⟩
  | .hbm, ⟨109, _⟩ => ⟨S4x256x1024, .f32⟩
  | .hbm, ⟨110, _⟩ => ⟨S4x256x1024, .f32⟩
  | .hbm, ⟨111, _⟩ => ⟨S16384x1024, .f32⟩
  | .hbm, ⟨112, _⟩ => ⟨S1024x1024, .f32⟩
  | .hbm, ⟨113, _⟩ => ⟨S17408x1024, .f32⟩
  | .hbm, ⟨114, _⟩ => ⟨S16384x1024, .f32⟩
  | .hbm, ⟨115, _⟩ => ⟨S1024x1024, .f32⟩
  | .hbm, ⟨116, _⟩ => ⟨S17408x1024, .f32⟩
  | .hbm, ⟨117, _⟩ => ⟨S17408x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst : Ref sig .tc := ⟨.hbm, 64, rfl⟩
abbrev main_v54 : Ref sig .tc := ⟨.hbm, 65, rfl⟩
abbrev main_v55 : Ref sig .tc := ⟨.hbm, 66, rfl⟩
abbrev main_cst_0 : Ref sig .tc := ⟨.hbm, 67, rfl⟩
abbrev main_v56 : Ref sig .tc := ⟨.hbm, 68, rfl⟩
abbrev main_v57 : Ref sig .tc := ⟨.hbm, 69, rfl⟩
abbrev main_cst_1 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_3 : Ref sig .tc := ⟨.hbm, 87, rfl⟩
abbrev main_v73 : Ref sig .tc := ⟨.hbm, 88, rfl⟩
abbrev main_v74 : Ref sig .tc := ⟨.hbm, 89, rfl⟩
abbrev main_cst_4 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_6 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩

abbrev nD : Nat := 1
abbrev τ : Topo := Topo.v7x

variable {F : FTy → Type} [FloatOps F]
-- ==== Proof.Block.lean ====
/- One sub-block of the banded attention kernel, 128 queries, as ONE function of what it loads. The kernel's body
   is this function eight times, at eight offsets; the printed text cuts the eight copies into parts at different
   places, so each copy is shown to be this function by unfolding. -/
module

public import proofs.«01_k».proof.Proof.Gen.KernelIdeal.Value

@[expose] public section

set_option maxRecDepth 16384

noncomputable section

namespace Cert.SwaBlock

open Cert.KernelIdeal Cert.KernelIdeal.Gen Idealize.ShloMosaic Idealize.ShloMosaic.TcCoe

variable {F : FTy → Type} [FloatOps F] [Named F]

/-- The rotated queries: the loaded rows with the angle tables applied, half a head exchanged. -/
def qRope (q : Vec F S128x512 .bf16) (cq sq : Vec F S128x128 .f32) : FVec F S128x512 .f32 :=
  k0_pay6 (k0_pay2 q) (k0_pay3 cq) (k0_pay4 sq) k0_pay5 32#32

/-- One head's scores with the band's bias: 128 rows of the group's 512. -/
def rows (S : FVec F S512x640 .f32) (B : FVec F S128x640 .f32) (off : Fin 2 → ℕ) (h : S512x640.Slices off S128x640) :
    FVec F S128x640 .f32 :=
  addf (extractStridedSlice S128x640 off S h) B

/-- The sink's score in the base-two scale. -/
def sink2 (z : F .f32) : F .f32 := Scalar.mulf z (Named.named κ "log2e" 0x3FB8AA3B#32)

/-- The largest score of each row, the sink included. -/
def top (R : FVec F S128x640 .f32) (z : F .f32) : FVec F S128x1 .f32 :=
  maximumf (shapeCast S128x1 (multiReduction .maximumf [1] S128 R 0xFF800000#32 reduces_S128x640_S128 (.inl rfl) rfl)
    shapeCasts_S128_S128x1) (broadcast S128x1 (sink2 z))

/-- The weights before division. -/
def wts (R : FVec F S128x640 .f32) (z : F .f32) : FVec F S128x640 .bf16 :=
  truncf .bf16 (exp2 (subf R (broadcastTo S128x640 (top R z) broadcasts_S128x1_S128x640))) bitsLt_bf16_f32

/-- The four heads' weights of one group times the group's extended values. -/
def sums (S : FVec F S512x640 .f32) (B : FVec F S128x640 .f32) (E : FVec F S640x128 .bf16) (z0 z1 z2 z3 : F .f32) :
    FVec F S512x128 .f32 :=
  matmul dot_S512x640_S640x128_S512x128_1_0_0_1_n_n none
    (concatenate S512x640 0
      [⟨S128x640, wts (rows S B ![0, 0] slices_S512x640_o0_0_S128x640) z0⟩,
       ⟨S128x640, wts (rows S B ![128, 0] slices_S512x640_o128_0_S128x640) z1⟩,
       ⟨S128x640, wts (rows S B ![256, 0] slices_S512x640_o256_0_S128x640) z2⟩,
       ⟨S128x640, wts (rows S B ![384, 0] slices_S512x640_o384_0_S128x640) z3⟩]
      concatenates_S128x640_S128x640_S128x640_S128x640_S512x640_d0)
    E (constant S512x128 .f32 0x00000000#32)

/-- One head's result: its rows of the sums divided by the weights' total with the sink's. -/
def head (R : FVec F S128x640 .f32) (z : F .f32) (T : FVec F S512x128 .f32) (off : Fin 2 → ℕ)
    (h : S512x128.Slices off S128x128) (dl vl : Fin 2 → ℕ) (hd : S128x128.Slices dl S128x1) (hv : S128x128.Slices vl S128x64) :
    FVec F S128x64 .f32 :=
  mulf (extractStridedSlice S128x64 vl (extractStridedSlice S128x128 off T h) hv)
    (broadcastTo S128x64
      (divf (broadcast S128x1 (Scalar.ofBits .f32 0x3F800000#32))
        (addf (extractStridedSlice S128x1 dl (extractStridedSlice S128x128 off T h) hd)
          (exp2 (subf (broadcast S128x1 (sink2 z)) (top R z)))))
      broadcasts_S128x1_S128x64)

/-- The whole sub-block from the keys, the extended values of the two groups, the bias and the rotated queries. -/
def attend (Q : FVec F S128x512 .bf16) (K : FVec F S640x128 .bf16) (E0 E1 : FVec F S640x128 .bf16) (B : FVec F S128x640 .f32)
    (z0 z1 z2 z3 z4 z5 z6 z7 : F .f32) : FVec F S128x512 .bf16 :=
  let S0 := k0_pay16 K Q
  let S1 := k0_pay41 K Q
  let T0 := sums S0 B E0 z0 z1 z2 z3
  let T1 := sums S1 B E1 z4 z5 z6 z7
  truncf .bf16 (concatenate S128x512 1
    [⟨S128x64, head (rows S0 B ![0, 0] slices_S512x640_o0_0_S128x640) z0 T0 ![0, 0] slices_S512x128_o0_0_S128x128 ![0, 64] ![0, 0] slices_S128x128_o0_64_S128x1 slices_S128x128_o0_0_S128x64⟩,
     ⟨S128x64, head (rows S0 B ![128, 0] slices_S512x640_o128_0_S128x640) z1 T0 ![128, 0] slices_S512x128_o128_0_S128x128 ![0, 64] ![0, 0] slices_S128x128_o0_64_S128x1 slices_S128x128_o0_0_S128x64⟩,
     ⟨S128x64, head (rows S0 B ![256, 0] slices_S512x640_o256_0_S128x640) z2 T0 ![256, 0] slices_S512x128_o256_0_S128x128 ![0, 64] ![0, 0] slices_S128x128_o0_64_S128x1 slices_S128x128_o0_0_S128x64⟩,
     ⟨S128x64, head (rows S0 B ![384, 0] slices_S512x640_o384_0_S128x640) z3 T0 ![384, 0] slices_S512x128_o384_0_S128x128 ![0, 64] ![0, 0] slices_S128x128_o0_64_S128x1 slices_S128x128_o0_0_S128x64⟩,
     ⟨S128x64, head (rows S1 B ![0, 0] slices_S512x640_o0_0_S128x640) z4 T1 ![0, 0] slices_S512x128_o0_0_S128x128 ![0, 0] ![0, 64] slices_S128x128_o0_0_S128x1 slices_S128x128_o0_64_S128x64⟩,
     ⟨S128x64, head (rows S1 B ![128, 0] slices_S512x640_o128_0_S128x640) z5 T1 ![128, 0] slices_S512x128_o128_0_S128x128 ![0, 0] ![0, 64] slices_S128x128_o0_0_S128x1 slices_S128x128_o0_64_S128x64⟩,
     ⟨S128x64, head (rows S1 B ![256, 0] slices_S512x640_o256_0_S128x640) z6 T1 ![256, 0] slices_S512x128_o256_0_S128x128 ![0, 0] ![0, 64] slices_S128x128_o0_0_S128x1 slices_S128x128_o0_64_S128x64⟩,
     ⟨S128x64, head (rows S1 B ![384, 0] slices_S512x640_o384_0_S128x640) z7 T1 ![384, 0] slices_S512x128_o384_0_S128x128 ![0, 0] ![0, 64] slices_S128x128_o0_0_S128x1 slices_S128x128_o0_64_S128x64⟩]
    concatenates_S128x64_S128x64_S128x64_S128x64_S128x64_S128x64_S128x64_S128x64_S128x512_d1) bitsLt_bf16_f32

/-- The group's extended values: the values on the group's lanes, ones on the other's. -/
def ext0 (W : FVec F S640x128 .bf16) : FVec F S640x128 .bf16 := k0_pay15 W k0_pay12 k0_pay13 1#32
/-- The same for the second group. -/
def ext1 (W : FVec F S640x128 .bf16) : FVec F S640x128 .bf16 := k0_pay40 W (k0_pay14 k0_pay12 k0_pay13 1#32)

/-- The number of the sub-block `s` of point `i` in its batch entry, as the kernel computes it. -/
def blockNo (i : grid0.Coords) (s : BitVec 32) : BitVec 32 := Scalar.addi (Scalar.muli (BitVec.ofNat 32 (i 1).val) 8#32) s
/-- The position of its first query. -/
def qPos (i : grid0.Coords) (s : BitVec 32) : BitVec 32 := Scalar.muli (blockNo i s) 128#32
/-- The position of its first key, moved into the sequence at the ends. -/
def kPos (i : grid0.Coords) (s : BitVec 32) : BitVec 32 :=
  Scalar.minsi 3712#32 (Scalar.maxsi 0#32 (Scalar.muli (Scalar.subi (blockNo i s) 1#32) 128#32))

/-- The number `r` of a sub-block as a 32-bit word. -/
abbrev bw (r : Fin 8) : BitVec 32 := BitVec.ofNat 32 r.val

/-- A load of 128 rows of an angle table at the queries' position. -/
abbrev ldQ (i : grid0.Coords) (r : Fin 8) (x : Vec F S4096x128 .f32) : Vec F S128x128 .f32 :=
  View.ld x (Rect.unit (s := S4096x128) (k0_off1 i (bw r)) S128x128.size (k0_off1_inb i r))

/-- A load of 384 rows at the keys' position. -/
abbrev ldK {e : EltTy} (i : grid0.Coords) (r : Fin 8) (x : Vec F S4096x128 e) : Vec F S384x128 e :=
  View.ld x (Rect.unit (s := S4096x128) (k0_off2 i (bw r)) S384x128.size (k0_off2_inb i r))

/-- A load of one sink. -/
abbrev ldZ (x : Vec F S8 .f32) (off : Fin 1 → ℕ) (h : ∀ a, off a + S1.size a ≤ S8.size a) : F .f32 :=
  View.ld x (Rect.unit (s := S8) off S1.size h) (Shape.Idx.first (s := S1) (by decide))

/-- The rotated and scaled queries of sub-block `r`, rows loaded at `qo` of the point's block. -/
def qWord (i : grid0.Coords) (r : Fin 8) (qo : Fin 2 → ℕ) (hq : ∀ a, qo a + S128x512.size a ≤ S1024x512.size a)
    (x1 : Vec F S1024x512 .bf16) (x6 x7 : Vec F S4096x128 .f32) : FVec F S128x512 .bf16 :=
  k0_pay10 (qRope (View.ld x1 (Rect.unit (s := S1024x512) qo S128x512.size hq)) (ldQ i r x6) (ldQ i r x7))

/-- The rotated band of keys with the context's keys below it. -/
def kWord (i : grid0.Coords) (r : Fin 8) (x2 : Vec F S4096x128 .bf16) (x4 : Vec F S256x128 .bf16)
    (x6 x7 : Vec F S4096x128 .f32) : FVec F S640x128 .bf16 :=
  k0_pay8 (View.ld x4 (Rect.unit (s := S256x128) ![0, 0] S256x128.size inb_S256x128_S256x128_0_0))
    (k0_pay7 (ldK i r x2) (ldK i r x6) (ldK i r x7))

/-- The band of values with the context's values below it. -/
def wWord (i : grid0.Coords) (r : Fin 8) (x3 : Vec F S4096x128 .bf16) (x5 : Vec F S256x128 .bf16) :
    FVec F S640x128 .bf16 :=
  k0_pay9 (View.ld x5 (Rect.unit (s := S256x128) ![0, 0] S256x128.size inb_S256x128_S256x128_0_0)) (ldK i r x3)

/-- The band's bias. -/
def bWord (i : grid0.Coords) (r : Fin 8) : FVec F S128x640 .f32 := k0_pay11 (qPos i (bw r)) (kPos i (bw r))

/-- What sub-block `r` of point `i` stores, from the point's blocks: query rows loaded at `qo`. -/
def stored (i : grid0.Coords) (r : Fin 8) (qo : Fin 2 → ℕ) (hq : ∀ a, qo a + S128x512.size a ≤ S1024x512.size a)
    (x0 : Vec F S8 .f32) (x1 : Vec F S1024x512 .bf16) (x2 x3 : Vec F S4096x128 .bf16) (x4 x5 : Vec F S256x128 .bf16)
    (x6 x7 : Vec F S4096x128 .f32) : FVec F S128x512 .bf16 :=
  attend (qWord i r qo hq x1 x6 x7) (kWord i r x2 x4 x6 x7) (ext0 (wWord i r x3 x5)) (ext1 (wWord i r x3 x5)) (bWord i r)
    (ldZ x0 ![0] inb_S8_S1_0) (ldZ x0 ![1] inb_S8_S1_1) (ldZ x0 ![2] inb_S8_S1_2) (ldZ x0 ![3] inb_S8_S1_3)
    (ldZ x0 ![4] inb_S8_S1_4) (ldZ x0 ![5] inb_S8_S1_5) (ldZ x0 ![6] inb_S8_S1_6) (ldZ x0 ![7] inb_S8_S1_7)

/-- A load of a whole staging buffer's contents, read at a rectangle. -/
theorem ld_of {sp : Space} {s : Shape} {e : EltTy} (a : Memref sig .tc sp s e) (h : a.IsWhole) (x : Vec F s e) (r : Rect s) :
    View.readAt (Elt F) a.view r.toLoadRect (h.unread x) = View.ld x r := by
  rw [View.readAt_eq_ld, h.read_unread]

/-! ## The eight copies -/

section Copies

variable (c : Dev nD) (i : grid0.Coords) (arg2 : Memref sig .tc .smem S8 .f32) (harg2 : arg2.IsWhole)
  (arg3 : Memref sig .tc .vmem S1024x512 .bf16) (harg3 : arg3.IsWhole) (arg4 : Memref sig .tc .vmem S4096x128 .bf16)
  (harg4 : arg4.IsWhole) (arg5 : Memref sig .tc .vmem S4096x128 .bf16) (harg5 : arg5.IsWhole)
  (arg6 : Memref sig .tc .vmem S256x128 .bf16) (harg6 : arg6.IsWhole) (arg7 : Memref sig .tc .vmem S256x128 .bf16)
  (harg7 : arg7.IsWhole) (arg8 : Memref sig .tc .vmem S4096x128 .f32) (harg8 : arg8.IsWhole)
  (arg9 : Memref sig .tc .vmem S4096x128 .f32) (harg9 : arg9.IsWhole)
  (x0 : Vec F S8 .f32) (x1 : Vec F S1024x512 .bf16) (x2 x3 : Vec F S4096x128 .bf16) (x4 x5 : Vec F S256x128 .bf16)
  (x6 x7 : Vec F S4096x128 .f32)

/-- A sink as the body loads it. -/
abbrev zOf (off : Fin 1 → ℕ) (h : ∀ a, off a + S1.size a ≤ S8.size a) : F .f32 :=
  View.readAt (Elt F) arg2.view (Rect.unit (s := S8) off S1.size h).toLoadRect (harg2.unread x0) (Shape.Idx.first (s := S1) (by decide))

theorem zOf_eq (off : Fin 1 → ℕ) (h : ∀ a, off a + S1.size a ≤ S8.size a) : zOf arg2 harg2 x0 off h = ldZ x0 off h :=
  congrFun (ld_of arg2 harg2 x0 _) _

theorem stored_of (r : Fin 8) (qo : Fin 2 → ℕ) (hq : ∀ a, qo a + S128x512.size a ≤ S1024x512.size a) :
    stored i r qo hq x0 x1 x2 x3 x4 x5 x6 x7 = attend (qWord i r qo hq x1 x6 x7) (kWord i r x2 x4 x6 x7)
      (ext0 (wWord i r x3 x5)) (ext1 (wWord i r x3 x5)) (bWord i r)
      (zOf arg2 harg2 x0 ![0] inb_S8_S1_0) (zOf arg2 harg2 x0 ![1] inb_S8_S1_1) (zOf arg2 harg2 x0 ![2] inb_S8_S1_2) (zOf arg2 harg2 x0 ![3] inb_S8_S1_3) (zOf arg2 harg2 x0 ![4] inb_S8_S1_4) (zOf arg2 harg2 x0 ![5] inb_S8_S1_5) (zOf arg2 harg2 x0 ![6] inb_S8_S1_6) (zOf arg2 harg2 x0 ![7] inb_S8_S1_7) := by
  simp only [zOf_eq]; rfl

theorem q0 : kernelRun0_A.sl.r_4 c i arg3 harg3 arg8 harg8 arg9 harg9 x1 x6 x7
    = qWord i 0 ![0, 0] inb_S1024x512_S128x512_0_0 x1 x6 x7 := by
  unfold qWord ldQ
  simp only [← ld_of arg3 harg3 x1, ← ld_of arg8 harg8 x6, ← ld_of arg9 harg9 x7]
  sl_kernel_rfl
theorem k0 : kernelRun0_A.sl.r_2 c i arg4 harg4 arg6 harg6 arg8 harg8 arg9 harg9 x2 x4 x6 x7 = kWord i 0 x2 x4 x6 x7 := by
  unfold kWord ldK
  simp only [← ld_of arg4 harg4 x2, ← ld_of arg6 harg6 x4, ← ld_of arg8 harg8 x6, ← ld_of arg9 harg9 x7]
  sl_kernel_rfl
theorem w0 : kernelRun0_A.sl.r_3 c i arg5 harg5 arg7 harg7 x3 x5 = wWord i 0 x3 x5 := by
  unfold wWord ldK
  simp only [← ld_of arg5 harg5 x3, ← ld_of arg7 harg7 x5]
  sl_kernel_rfl
theorem b0 : (kernelRun0_A.sl.r_5 i : FVec F S128x640 .f32) = bWord i 0 := by
  unfold bWord; sl_kernel_rfl
theorem piece0 : kernelRun0_A.sl.v345 c i arg2 harg2 arg3 harg3 arg4 harg4 arg5 harg5 arg6 harg6 arg7 harg7 arg8 harg8
    arg9 harg9 x0 x1 x2 x3 x4 x5 x6 x7 = stored i 0 ![0, 0] inb_S1024x512_S128x512_0_0 x0 x1 x2 x3 x4 x5 x6 x7 := by
  rw [stored_of i arg2 harg2, ← q0 c i arg3 harg3 arg8 harg8 arg9 harg9, ← k0 c i arg4 harg4 arg6 harg6 arg8 harg8 arg9 harg9,
    ← w0 c i arg5 harg5 arg7 harg7, ← b0]
  sl_kernel_rfl

theorem q1 : kernelRun0_A.sl.r_54 c i arg3 harg3 arg8 harg8 arg9 harg9 x1 x6 x7
    = qWord i 1 ![128, 0] inb_S1024x512_S128x512_128_0 x1 x6 x7 := by
  unfold qWord ldQ
  simp only [← ld_of arg3 harg3 x1, ← ld_of arg8 harg8 x6, ← ld_of arg9 harg9 x7]
  sl_kernel_rfl
theorem k1 : kernelRun0_A.sl.r_52 c i arg4 harg4 arg6 harg6 arg8 harg8 arg9 harg9 x2 x4 x6 x7 = kWord i 1 x2 x4 x6 x7 := by
  unfold kWord ldK
  simp only [← ld_of arg4 harg4 x2, ← ld_of arg6 harg6 x4, ← ld_of arg8 harg8 x6, ← ld_of arg9 harg9 x7]
  sl_kernel_rfl
theorem w1 : kernelRun0_A.sl.r_53 c i arg5 harg5 arg7 harg7 x3 x5 = wWord i 1 x3 x5 := by
  unfold wWord ldK
  simp only [← ld_of arg5 harg5 x3, ← ld_of arg7 harg7 x5]
  sl_kernel_rfl
theorem b1 : (kernelRun0_A.sl.r_55 i : FVec F S128x640 .f32) = bWord i 1 := by
  unfold bWord; sl_kernel_rfl
theorem piece1 : kernelRun0_A.sl.v690 c i arg2 harg2 arg3 harg3 arg4 harg4 arg5 harg5 arg6 harg6 arg7 harg7 arg8 harg8
    arg9 harg9 x0 x1 x2 x3 x4 x5 x6 x7 = stored i 1 ![128, 0] inb_S1024x512_S128x512_128_0 x0 x1 x2 x3 x4 x5 x6 x7 := by
  rw [stored_of i arg2 harg2, ← q1 c i arg3 harg3 arg8 harg8 arg9 harg9, ← k1 c i arg4 harg4 arg6 harg6 arg8 harg8 arg9 harg9,
    ← w1 c i arg5 harg5 arg7 harg7, ← b1]
  sl_kernel_rfl

theorem q2 : kernelRun0_A.sl.r_94 c i arg3 harg3 arg8 harg8 arg9 harg9 x1 x6 x7
    = qWord i 2 ![256, 0] inb_S1024x512_S128x512_256_0 x1 x6 x7 := by
  unfold qWord ldQ
  simp only [← ld_of arg3 harg3 x1, ← ld_of arg8 harg8 x6, ← ld_of arg9 harg9 x7]
  sl_kernel_rfl
theorem k2 : kernelRun0_A.sl.r_92 c i arg4 harg4 arg6 harg6 arg8 harg8 arg9 harg9 x2 x4 x6 x7 = kWord i 2 x2 x4 x6 x7 := by
  unfold kWord ldK
  simp only [← ld_of arg4 harg4 x2, ← ld_of arg6 harg6 x4, ← ld_of arg8 harg8 x6, ← ld_of arg9 harg9 x7]
  sl_kernel_rfl
theorem w2 : kernelRun0_A.sl.r_93 c i arg5 harg5 arg7 harg7 x3 x5 = wWord i 2 x3 x5 := by
  unfold wWord ldK
  simp only [← ld_of arg5 harg5 x3, ← ld_of arg7 harg7 x5]
  sl_kernel_rfl
theorem b2 : (kernelRun0_A.sl.r_95 i : FVec F S128x640 .f32) = bWord i 2 := by
  unfold bWord; sl_kernel_rfl
theorem piece2 : kernelRun0_A.sl.v1035 c i arg2 harg2 arg3 harg3 arg4 harg4 arg5 harg5 arg6 harg6 arg7 harg7 arg8 harg8
    arg9 harg9 x0 x1 x2 x3 x4 x5 x6 x7 = stored i 2 ![256, 0] inb_S1024x512_S128x512_256_0 x0 x1 x2 x3 x4 x5 x6 x7 := by
  rw [stored_of i arg2 harg2, ← q2 c i arg3 harg3 arg8 harg8 arg9 harg9, ← k2 c i arg4 harg4 arg6 harg6 arg8 harg8 arg9 harg9,
    ← w2 c i arg5 harg5 arg7 harg7, ← b2]
  sl_kernel_rfl

theorem q3 : kernelRun0_A.sl.r_132 c i arg3 harg3 arg8 harg8 arg9 harg9 x1 x6 x7
    = qWord i 3 ![384, 0] inb_S1024x512_S128x512_384_0 x1 x6 x7 := by
  unfold qWord ldQ
  simp only [← ld_of arg3 harg3 x1, ← ld_of arg8 harg8 x6, ← ld_of arg9 harg9 x7]
  sl_kernel_rfl
theorem k3 : kernelRun0_A.sl.r_130 c i arg4 harg4 arg6 harg6 arg8 harg8 arg9 harg9 x2 x4 x6 x7 = kWord i 3 x2 x4 x6 x7 := by
  unfold kWord ldK
  simp only [← ld_of arg4 harg4 x2, ← ld_of arg6 harg6 x4, ← ld_of arg8 harg8 x6, ← ld_of arg9 harg9 x7]
  sl_kernel_rfl
theorem w3 : kernelRun0_A.sl.r_131 c i arg5 harg5 arg7 harg7 x3 x5 = wWord i 3 x3 x5 := by
  unfold wWord ldK
  simp only [← ld_of arg5 harg5 x3, ← ld_of arg7 harg7 x5]
  sl_kernel_rfl
theorem b3 : (kernelRun0_A.sl.r_134 i : FVec F S128x640 .f32) = bWord i 3 := by
  unfold bWord; sl_kernel_rfl
theorem piece3 : kernelRun0_A.sl.v1380 c i arg2 harg2 arg3 harg3 arg4 harg4 arg5 harg5 arg6 harg6 arg7 harg7 arg8 harg8
    arg9 harg9 x0 x1 x2 x3 x4 x5 x6 x7 = stored i 3 ![384, 0] inb_S1024x512_S128x512_384_0 x0 x1 x2 x3 x4 x5 x6 x7 := by
  rw [stored_of i arg2 harg2, ← q3 c i arg3 harg3 arg8 harg8 arg9 harg9, ← k3 c i arg4 harg4 arg6 harg6 arg8 harg8 arg9 harg9,
    ← w3 c i arg5 harg5 arg7 harg7, ← b3]
  sl_kernel_rfl

theorem q4 : kernelRun0_A.sl.r_162 c i arg3 harg3 arg8 harg8 arg9 harg9 x1 x6 x7
    = qWord i 4 ![512, 0] inb_S1024x512_S128x512_512_0 x1 x6 x7 := by
  unfold qWord ldQ
  simp only [← ld_of arg3 harg3 x1, ← ld_of arg8 harg8 x6, ← ld_of arg9 harg9 x7]
  sl_kernel_rfl
theorem k4 : kernelRun0_A.sl.r_160 c i arg4 harg4 arg6 harg6 arg8 harg8 arg9 harg9 x2 x4 x6 x7 = kWord i 4 x2 x4 x6 x7 := by
  unfold kWord ldK
  simp only [← ld_of arg4 harg4 x2, ← ld_of arg6 harg6 x4, ← ld_of arg8 harg8 x6, ← ld_of arg9 harg9 x7]
  sl_kernel_rfl
theorem w4 : kernelRun0_A.sl.r_161 c i arg5 harg5 arg7 harg7 x3 x5 = wWord i 4 x3 x5 := by
  unfold wWord ldK
  simp only [← ld_of arg5 harg5 x3, ← ld_of arg7 harg7 x5]
  sl_kernel_rfl
theorem b4 : (kernelRun0_A.sl.r_163 i : FVec F S128x640 .f32) = bWord i 4 := by
  unfold bWord; sl_kernel_rfl
theorem piece4 : kernelRun0_A.sl.v1725 c i arg2 harg2 arg3 harg3 arg4 harg4 arg5 harg5 arg6 harg6 arg7 harg7 arg8 harg8
    arg9 harg9 x0 x1 x2 x3 x4 x5 x6 x7 = stored i 4 ![512, 0] inb_S1024x512_S128x512_512_0 x0 x1 x2 x3 x4 x5 x6 x7 := by
  rw [stored_of i arg2 harg2, ← q4 c i arg3 harg3 arg8 harg8 arg9 harg9, ← k4 c i arg4 harg4 arg6 harg6 arg8 harg8 arg9 harg9,
    ← w4 c i arg5 harg5 arg7 harg7, ← b4]
  sl_kernel_rfl

theorem q5 : kernelRun0_A.sl.r_195 c i arg3 harg3 arg8 harg8 arg9 harg9 x1 x6 x7
    = qWord i 5 ![640, 0] inb_S1024x512_S128x512_640_0 x1 x6 x7 := by
  unfold qWord ldQ
  simp only [← ld_of arg3 harg3 x1, ← ld_of arg8 harg8 x6, ← ld_of arg9 harg9 x7]
  sl_kernel_rfl
theorem k5 : kernelRun0_A.sl.r_193 c i arg4 harg4 arg6 harg6 arg8 harg8 arg9 harg9 x2 x4 x6 x7 = kWord i 5 x2 x4 x6 x7 := by
  unfold kWord ldK
  simp only [← ld_of arg4 harg4 x2, ← ld_of arg6 harg6 x4, ← ld_of arg8 harg8 x6, ← ld_of arg9 harg9 x7]
  sl_kernel_rfl
theorem w5 : kernelRun0_A.sl.r_194 c i arg5 harg5 arg7 harg7 x3 x5 = wWord i 5 x3 x5 := by
  unfold wWord ldK
  simp only [← ld_of arg5 harg5 x3, ← ld_of arg7 harg7 x5]
  sl_kernel_rfl
theorem b5 : (kernelRun0_A.sl.r_196 i : FVec F S128x640 .f32) = bWord i 5 := by
  unfold bWord; sl_kernel_rfl
theorem piece5 : kernelRun0_A.sl.v2070 c i arg2 harg2 arg3 harg3 arg4 harg4 arg5 harg5 arg6 harg6 arg7 harg7 arg8 harg8
    arg9 harg9 x0 x1 x2 x3 x4 x5 x6 x7 = stored i 5 ![640, 0] inb_S1024x512_S128x512_640_0 x0 x1 x2 x3 x4 x5 x6 x7 := by
  rw [stored_of i arg2 harg2, ← q5 c i arg3 harg3 arg8 harg8 arg9 harg9, ← k5 c i arg4 harg4 arg6 harg6 arg8 harg8 arg9 harg9,
    ← w5 c i arg5 harg5 arg7 harg7, ← b5]
  sl_kernel_rfl

theorem q6 : kernelRun0_A.sl.r_235 c i arg3 harg3 arg8 harg8 arg9 harg9 x1 x6 x7
    = qWord i 6 ![768, 0] inb_S1024x512_S128x512_768_0 x1 x6 x7 := by
  unfold qWord ldQ
  simp only [← ld_of arg3 harg3 x1, ← ld_of arg8 harg8 x6, ← ld_of arg9 harg9 x7]
  sl_kernel_rfl
theorem k6 : kernelRun0_A.sl.r_233 c i arg4 harg4 arg6 harg6 arg8 harg8 arg9 harg9 x2 x4 x6 x7 = kWord i 6 x2 x4 x6 x7 := by
  unfold kWord ldK
  simp only [← ld_of arg4 harg4 x2, ← ld_of arg6 harg6 x4, ← ld_of arg8 harg8 x6, ← ld_of arg9 harg9 x7]
  sl_kernel_rfl
theorem w6 : kernelRun0_A.sl.r_234 c i arg5 harg5 arg7 harg7 x3 x5 = wWord i 6 x3 x5 := by
  unfold wWord ldK
  simp only [← ld_of arg5 harg5 x3, ← ld_of arg7 harg7 x5]
  sl_kernel_rfl
theorem b6 : (kernelRun0_A.sl.r_236 i : FVec F S128x640 .f32) = bWord i 6 := by
  unfold bWord; sl_kernel_rfl
theorem piece6 : kernelRun0_A.sl.v2415 c i arg2 harg2 arg3 harg3 arg4 harg4 arg5 harg5 arg6 harg6 arg7 harg7 arg8 harg8
    arg9 harg9 x0 x1 x2 x3 x4 x5 x6 x7 = stored i 6 ![768, 0] inb_S1024x512_S128x512_768_0 x0 x1 x2 x3 x4 x5 x6 x7 := by
  rw [stored_of i arg2 harg2, ← q6 c i arg3 harg3 arg8 harg8 arg9 harg9, ← k6 c i arg4 harg4 arg6 harg6 arg8 harg8 arg9 harg9,
    ← w6 c i arg5 harg5 arg7 harg7, ← b6]
  sl_kernel_rfl

theorem q7 : kernelRun0_A.sl.r_275 c i arg3 harg3 arg8 harg8 arg9 harg9 x1 x6 x7
    = qWord i 7 ![896, 0] inb_S1024x512_S128x512_896_0 x1 x6 x7 := by
  unfold qWord ldQ
  simp only [← ld_of arg3 harg3 x1, ← ld_of arg8 harg8 x6, ← ld_of arg9 harg9 x7]
  sl_kernel_rfl
theorem k7 : kernelRun0_A.sl.r_273 c i arg4 harg4 arg6 harg6 arg8 harg8 arg9 harg9 x2 x4 x6 x7 = kWord i 7 x2 x4 x6 x7 := by
  unfold kWord ldK
  simp only [← ld_of arg4 harg4 x2, ← ld_of arg6 harg6 x4, ← ld_of arg8 harg8 x6, ← ld_of arg9 harg9 x7]
  sl_kernel_rfl
theorem w7 : kernelRun0_A.sl.r_274 c i arg5 harg5 arg7 harg7 x3 x5 = wWord i 7 x3 x5 := by
  unfold wWord ldK
  simp only [← ld_of arg5 harg5 x3, ← ld_of arg7 harg7 x5]
  sl_kernel_rfl
theorem b7 : (kernelRun0_A.sl.r_277 i : FVec F S128x640 .f32) = bWord i 7 := by
  unfold bWord; sl_kernel_rfl

variable (arg10 : Memref sig .tc .vmem S1024x512 .bf16) (harg10 : arg10.IsWhole)

/-- What the body leaves in its result block: eight bands of 128 rows, each the sub-block's function. -/
theorem run_pieces : (kernelRun0_A c i arg2 harg2 arg3 harg3 arg4 harg4 arg5 harg5 arg6 harg6 arg7 harg7 arg8 harg8 arg9 harg9
    arg10 harg10 x0 x1 x2 x3 x4 x5 x6 x7).1 =
    [
     ⟨Rect.unit (s := S1024x512) ![896, 0] S128x512.size inb_S1024x512_S128x512_896_0,
       stored i 7 ![896, 0] inb_S1024x512_S128x512_896_0 x0 x1 x2 x3 x4 x5 x6 x7⟩,
     ⟨Rect.unit (s := S1024x512) ![768, 0] S128x512.size inb_S1024x512_S128x512_768_0,
       stored i 6 ![768, 0] inb_S1024x512_S128x512_768_0 x0 x1 x2 x3 x4 x5 x6 x7⟩,
     ⟨Rect.unit (s := S1024x512) ![640, 0] S128x512.size inb_S1024x512_S128x512_640_0,
       stored i 5 ![640, 0] inb_S1024x512_S128x512_640_0 x0 x1 x2 x3 x4 x5 x6 x7⟩,
     ⟨Rect.unit (s := S1024x512) ![512, 0] S128x512.size inb_S1024x512_S128x512_512_0,
       stored i 4 ![512, 0] inb_S1024x512_S128x512_512_0 x0 x1 x2 x3 x4 x5 x6 x7⟩,
     ⟨Rect.unit (s := S1024x512) ![384, 0] S128x512.size inb_S1024x512_S128x512_384_0,
       stored i 3 ![384, 0] inb_S1024x512_S128x512_384_0 x0 x1 x2 x3 x4 x5 x6 x7⟩,
     ⟨Rect.unit (s := S1024x512) ![256, 0] S128x512.size inb_S1024x512_S128x512_256_0,
       stored i 2 ![256, 0] inb_S1024x512_S128x512_256_0 x0 x1 x2 x3 x4 x5 x6 x7⟩,
     ⟨Rect.unit (s := S1024x512) ![128, 0] S128x512.size inb_S1024x512_S128x512_128_0,
       stored i 1 ![128, 0] inb_S1024x512_S128x512_128_0 x0 x1 x2 x3 x4 x5 x6 x7⟩,
     ⟨Rect.unit (s := S1024x512) ![0, 0] S128x512.size inb_S1024x512_S128x512_0_0,
       stored i 0 ![0, 0] inb_S1024x512_S128x512_0_0 x0 x1 x2 x3 x4 x5 x6 x7⟩] := by
  rw [← piece0 c i arg2 harg2 arg3 harg3 arg4 harg4 arg5 harg5 arg6 harg6 arg7 harg7 arg8 harg8 arg9 harg9, ← piece1 c i arg2 harg2 arg3 harg3 arg4 harg4 arg5 harg5 arg6 harg6 arg7 harg7 arg8 harg8 arg9 harg9, ← piece2 c i arg2 harg2 arg3 harg3 arg4 harg4 arg5 harg5 arg6 harg6 arg7 harg7 arg8 harg8 arg9 harg9, ← piece3 c i arg2 harg2 arg3 harg3 arg4 harg4 arg5 harg5 arg6 harg6 arg7 harg7 arg8 harg8 arg9 harg9, ← piece4 c i arg2 harg2 arg3 harg3 arg4 harg4 arg5 harg5 arg6 harg6 arg7 harg7 arg8 harg8 arg9 harg9, ← piece5 c i arg2 harg2 arg3 harg3 arg4 harg4 arg5 harg5 arg6 harg6 arg7 harg7 arg8 harg8 arg9 harg9, ← piece6 c i arg2 harg2 arg3 harg3 arg4 harg4 arg5 harg5 arg6 harg6 arg7 harg7 arg8 harg8 arg9 harg9]
  unfold kernelRun0_A
  refine congrArg₂ List.cons (congrArg (Sigma.mk _) ?_) rfl
  rw [stored_of i arg2 harg2, ← q7 c i arg3 harg3 arg8 harg8 arg9 harg9, ← k7 c i arg4 harg4 arg6 harg6 arg8 harg8 arg9 harg9,
    ← w7 c i arg5 harg5 arg7 harg7, ← b7]
  sl_kernel_rfl

end Copies

end Cert.SwaBlock

end
-- ==== Proof.BlockValue.lean ====
/- What a sub-block stores, read at one query row and one lane, at the ideal values. -/
module

public import proofs.«01_k».proof.Proof.Block
public import Idealize.ShloMosaic.Lib.Pointwise

@[expose] public section

set_option maxRecDepth 16384

noncomputable section

namespace Cert.SwaBlock

open Cert.KernelIdeal Cert.KernelIdeal.Gen Idealize.ShloMosaic Idealize.ShloMosaic.TcCoe

/-- The base-two logarithm of e, `1 / ln 2`, as the named constant reads. -/
def log2e : EReal := Named.named κ "log2e" 0x3FB8AA3B#32 (F := Ideal) (φ := .f32)

/-- One query's result from its biased base-two scores `R`, its sink in the same scale and one lane of the values. -/
def outOf (R : Fin 640 → EReal) (z : EReal) (v : Fin 640 → EReal) : EReal :=
  (∑ n, Ideal.exp2 (R n - max (Finset.univ.sup R) (z * log2e)) * v n) *
    Ideal.div 1 ((∑ n, Ideal.exp2 (R n - max (Finset.univ.sup R) (z * log2e)))
      + Ideal.exp2 (z * log2e - max (Finset.univ.sup R) (z * log2e)))

theorem ix2_congr {m n : ℕ} {a a' : Fin m} {b b' : Fin n} (h : a.val = a'.val) (h' : b.val = b'.val) : ix2 a b = ix2 a' b' := by
  rw [Fin.ext h, Fin.ext h']

theorem top_at (R : FVec Ideal S128x640 .f32) (z : Ideal .f32) (a : Fin 128) (b : Fin 1) :
    top R z (ix2 a b) = max (Finset.univ.sup fun n : Fin 640 => R (ix2 a n)) (z * log2e) := by
  unfold top sink2
  pointwise
  have h : Ideal.ofBits FTy.f32 4286578688#32 = ⊥ := by simp [Ideal.ofBits, Ideal.ieee]
  rw [h]; rfl

theorem wts_at (R : FVec Ideal S128x640 .f32) (z : Ideal .f32) (a : Fin 128) (n : Fin 640) :
    wts R z (ix2 a n) = Ideal.exp2 (R (ix2 a n) - max (Finset.univ.sup fun n : Fin 640 => R (ix2 a n)) (z * log2e)) := by
  unfold wts
  pointwise
  rw [top_at]; rfl

/-- A group's scores: a head's queries against the group's lanes of the keys. -/
theorem score0_at (K : FVec Ideal S640x128 .bf16) (Q : FVec Ideal S128x512 .bf16) (h : Fin 4) (a : Fin 128) (n : Fin 640) :
    k0_pay16 K Q (ix2 ⟨128 * h.val + a.val, by omega⟩ n) =
      ∑ x : Fin 64, Q (ix2 a ⟨64 * h.val + x.val, by omega⟩) * K (ix2 n ⟨x.val, by omega⟩) := by
  unfold k0_pay16
  pointwise
  refine Finset.sum_congr rfl fun x _ => congrArg (· * _) ?_
  have ha := a.isLt
  obtain ⟨h, hh⟩ := h
  interval_cases h
  · rw [dif_pos (by dsimp only <;> omega)]
    exact congrArg Q (ix2_congr (by dsimp only <;> omega) (by dsimp only <;> omega))
  · rw [dif_neg (by dsimp only <;> omega), dif_pos (by dsimp only <;> omega)]
    exact congrArg Q (ix2_congr (by dsimp only <;> omega) (by dsimp only <;> omega))
  · rw [dif_neg (by dsimp only <;> omega), dif_neg (by dsimp only <;> omega), dif_pos (by dsimp only <;> omega)]
    exact congrArg Q (ix2_congr (by dsimp only <;> omega) (by dsimp only <;> omega))
  · rw [dif_neg (by dsimp only <;> omega), dif_neg (by dsimp only <;> omega), dif_neg (by dsimp only <;> omega)]
    exact congrArg Q (ix2_congr (by dsimp only <;> omega) (by dsimp only <;> omega))

theorem score1_at (K : FVec Ideal S640x128 .bf16) (Q : FVec Ideal S128x512 .bf16) (h : Fin 4) (a : Fin 128) (n : Fin 640) :
    k0_pay41 K Q (ix2 ⟨128 * h.val + a.val, by omega⟩ n) =
      ∑ x : Fin 64, Q (ix2 a ⟨256 + 64 * h.val + x.val, by omega⟩) * K (ix2 n ⟨64 + x.val, by omega⟩) := by
  unfold k0_pay41
  pointwise
  refine Finset.sum_congr rfl fun x _ => congrArg (· * _) ?_
  have ha := a.isLt
  obtain ⟨h, hh⟩ := h
  interval_cases h
  · rw [dif_pos (by dsimp only <;> omega)]
    exact congrArg Q (ix2_congr (by dsimp only <;> omega) (by dsimp only <;> omega))
  · rw [dif_neg (by dsimp only <;> omega), dif_pos (by dsimp only <;> omega)]
    exact congrArg Q (ix2_congr (by dsimp only <;> omega) (by dsimp only <;> omega))
  · rw [dif_neg (by dsimp only <;> omega), dif_neg (by dsimp only <;> omega), dif_pos (by dsimp only <;> omega)]
    exact congrArg Q (ix2_congr (by dsimp only <;> omega) (by dsimp only <;> omega))
  · rw [dif_neg (by dsimp only <;> omega), dif_neg (by dsimp only <;> omega), dif_neg (by dsimp only <;> omega)]
    exact congrArg Q (ix2_congr (by dsimp only <;> omega) (by dsimp only <;> omega))

theorem rows_at (S : FVec Ideal S512x640 .f32) (B : FVec Ideal S128x640 .f32) (o : ℕ) (h : S512x640.Slices ![o, 0] S128x640)
    (a : Fin 128) (n : Fin 640) (ho : o + a.val < 512) :
    rows S B ![o, 0] h (ix2 a n) = S (ix2 ⟨o + a.val, ho⟩ n) + B (ix2 a n) := by
  unfold rows
  pointwise

/-- Which lanes are the first group's, as the kernel computes it. -/
theorem lane_group : ∀ l : Fin 128, (Scalar.select
          (IntOp.andi
            (IntOp.cmpi CmpIPredicate.ne
              (IntOp.subi (BitVec.setWidth 32 (IntOp.cmpi CmpIPredicate.sgt (BitVec.ofNat 32 ↑l) 0#32))
                (BitVec.setWidth 32 (IntOp.cmpi CmpIPredicate.slt (BitVec.ofNat 32 ↑l) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑l) 64#32) 0#32))
          (IntOp.subi (IntOp.divsi ArithUnit.vector (BitVec.ofNat 32 ↑l) 64#32) 1#32)
          (IntOp.divsi ArithUnit.vector (BitVec.ofNat 32 ↑l) 64#32)) = BitVec.ofNat 32 (l.val / 64) := by
  decide +kernel

theorem ext0_at (W : FVec Ideal S640x128 .bf16) (n : Fin 640) (l : Fin 128) :
    ext0 W (ix2 n l) = if l.val < 64 then W (ix2 n l) else 1 := by
  unfold ext0 k0_pay15 k0_pay14 k0_pay12 k0_pay13
  pointwise
  rw [lane_group]
  have h : ∀ l : Fin 128, IntOp.cmpi CmpIPredicate.eq (BitVec.ofNat 32 (l.val / 64)) 0#32 = if l.val < 64 then 1#1 else 0#1 := by
    decide +kernel
  rw [h]; split <;> simp [Scalar.select]

theorem ext1_at (W : FVec Ideal S640x128 .bf16) (n : Fin 640) (l : Fin 128) :
    ext1 W (ix2 n l) = if l.val < 64 then 1 else W (ix2 n l) := by
  unfold ext1 k0_pay40 k0_pay14 k0_pay12 k0_pay13
  pointwise
  rw [lane_group]
  have h : ∀ l : Fin 128, IntOp.cmpi CmpIPredicate.eq (BitVec.ofNat 32 (l.val / 64)) 1#32 = if l.val < 64 then 0#1 else 1#1 := by
    decide +kernel
  rw [h]; split <;> simp [Scalar.select]

/-- A head's weights at one row and key, the row named by its place in the group's 512. -/
theorem rows_sum (S : FVec Ideal S512x640 .f32) (B : FVec Ideal S128x640 .f32) (z : Ideal .f32) (a' : Fin 128) (p : Fin 512)
    (o : ℕ) (h : S512x640.Slices ![o, 0] S128x640) (a : Fin 128) (n : Fin 640) (ha : a'.val = a.val) (hp : p.val = o + a.val)
    (w : EReal) (hw : w = z * log2e := by rfl) :
    wts (rows S B ![o, 0] h) z (ix2 a' n) = Ideal.exp2 ((S (ix2 p n) + B (ix2 a n)) -
        max (Finset.univ.sup fun n : Fin 640 => S (ix2 p n) + B (ix2 a n)) w) := by
  obtain rfl := Fin.ext ha
  have ho : o + a'.val < 512 := hp ▸ p.isLt
  obtain rfl : p = ⟨o + a'.val, ho⟩ := Fin.ext hp
  rw [wts_at, hw]; simp only [rows_at S B o h a' _ ho]

theorem sums_at (S : FVec Ideal S512x640 .f32) (B : FVec Ideal S128x640 .f32) (E : FVec Ideal S640x128 .bf16)
    (z : Fin 4 → Ideal .f32) (h : Fin 4) (a : Fin 128) (l : Fin 128) :
    sums S B E (z 0) (z 1) (z 2) (z 3) (ix2 ⟨128 * h.val + a.val, by omega⟩ l) =
      ∑ n : Fin 640, Ideal.exp2 ((S (ix2 ⟨128 * h.val + a.val, by omega⟩ n) + B (ix2 a n)) -
        max (Finset.univ.sup fun n : Fin 640 => S (ix2 ⟨128 * h.val + a.val, by omega⟩ n) + B (ix2 a n)) (z h * log2e)) * E (ix2 n l) := by
  unfold sums
  pointwise
  refine Finset.sum_congr rfl fun x _ => congrArg (· * _) ?_
  have ha := a.isLt
  obtain ⟨h, hh⟩ := h
  interval_cases h
  · rw [dif_pos (by dsimp only <;> omega)]
    exact rows_sum S B _ _ _ 0 _ a _ (by dsimp only <;> omega) (by dsimp only <;> omega) _
  · rw [dif_neg (by dsimp only <;> omega), dif_pos (by dsimp only <;> omega)]
    exact rows_sum S B _ _ _ 128 _ a _ (by dsimp only <;> omega) (by dsimp only <;> omega) _
  · rw [dif_neg (by dsimp only <;> omega), dif_neg (by dsimp only <;> omega), dif_pos (by dsimp only <;> omega)]
    exact rows_sum S B _ _ _ 256 _ a _ (by dsimp only <;> omega) (by dsimp only <;> omega) _
  · rw [dif_neg (by dsimp only <;> omega), dif_neg (by dsimp only <;> omega), dif_neg (by dsimp only <;> omega)]
    exact rows_sum S B _ _ _ 384 _ a _ (by dsimp only <;> omega) (by dsimp only <;> omega) _

/-- A head's stored lane: its query's result over the group's values, `E` being the values on the lanes at `vl` and one
    at lane `dl`. -/
theorem head_at (S : FVec Ideal S512x640 .f32) (B : FVec Ideal S128x640 .f32) (E : FVec Ideal S640x128 .bf16)
    (z : Fin 4 → Ideal .f32) (h : Fin 4) (o : ℕ) (ho : o = 128 * h.val) (hS : S512x640.Slices ![o, 0] S128x640)
    (hT : S512x128.Slices ![o, 0] S128x128) (dl vl : ℕ) (hd : S128x128.Slices ![0, dl] S128x1) (hv : S128x128.Slices ![0, vl] S128x64)
    (a : Fin 128) (d : Fin 64) (hdl : dl < 128) (hvl : vl + 64 ≤ 128) (V R : Fin 640 → EReal)
    (hE : ∀ n, E (ix2 n ⟨vl + d.val, by omega⟩) = V n) (hE1 : ∀ n, E (ix2 n ⟨dl, hdl⟩) = 1)
    (hR : ∀ n, S (ix2 ⟨128 * h.val + a.val, by omega⟩ n) + B (ix2 a n) = R n) :
    head (rows S B ![o, 0] hS) (z h) (sums S B E (z 0) (z 1) (z 2) (z 3)) ![o, 0] hT ![0, dl] ![0, vl] hd hv (ix2 a d)
      = outOf R (z h) V := by
  subst ho
  have ho : 128 * h.val + a.val < 512 := by omega
  have hs := sums_at S B E z h a
  simp only [hR] at hs
  unfold head outOf
  pointwise
  rw [hs ⟨vl + d.val, by omega⟩, hs ⟨dl, hdl⟩]
  simp only [hE, hE1, top_at, sink2, rows_at S B _ hS a _ ho, hR, mul_one]
  rfl

/-- What a sub-block stores at query row `a`, head `h`, lane `d`: that query's result over the group's keys and values. -/
theorem attend_at (Q : FVec Ideal S128x512 .bf16) (K : FVec Ideal S640x128 .bf16) (W : FVec Ideal S640x128 .bf16)
    (B : FVec Ideal S128x640 .f32) (z : Fin 8 → Ideal .f32) (a : Fin 128) (h : Fin 8) (d : Fin 64) :
    attend Q K (ext0 W) (ext1 W) B (z 0) (z 1) (z 2) (z 3) (z 4) (z 5) (z 6) (z 7) (ix2 a ⟨64 * h.val + d.val, by omega⟩) =
      outOf (fun n => (∑ x : Fin 64, Q (ix2 a ⟨64 * h.val + x.val, by omega⟩) * K (ix2 n ⟨64 * (h.val / 4) + x.val, by omega⟩))
        + B (ix2 a n)) (z h) (fun n => W (ix2 n ⟨64 * (h.val / 4) + d.val, by omega⟩)) := by
  have H0 : ∀ h : Fin 4, ∀ hS hT hd hv,
      head (rows (k0_pay16 K Q) B ![128 * h.val, 0] hS) (z ⟨h.val, by omega⟩) (sums (k0_pay16 K Q) B (ext0 W) (z 0) (z 1) (z 2) (z 3))
        ![128 * h.val, 0] hT ![0, 64] ![0, 0] hd hv (ix2 a d) = _ := fun h hS hT hd hv =>
    head_at (k0_pay16 K Q) B (ext0 W) (fun k => z ⟨k.val, by omega⟩) h (128 * h.val) rfl hS hT 64 0 hd hv a d (by omega) (by omega)
      (fun n => W (ix2 n ⟨64 * (h.val / 4) + d.val, by omega⟩))
      (fun n => (∑ x : Fin 64, Q (ix2 a ⟨64 * h.val + x.val, by omega⟩) * K (ix2 n ⟨64 * (h.val / 4) + x.val, by omega⟩)) + B (ix2 a n))
      (fun n => by rw [ext0_at, if_pos (by dsimp only <;> omega)]; exact congrArg W (ix2_congr rfl (by dsimp only <;> omega)))
      (fun n => by rw [ext0_at, if_neg (by dsimp only <;> omega)])
      (fun n => by
        rw [score0_at]
        exact congrArg (· + _) (Finset.sum_congr rfl fun x _ => congrArg (_ * ·) (congrArg K (ix2_congr rfl (by dsimp only <;> omega)))))
  have H1 : ∀ h : Fin 4, ∀ hS hT hd hv,
      head (rows (k0_pay41 K Q) B ![128 * h.val, 0] hS) (z ⟨4 + h.val, by omega⟩) (sums (k0_pay41 K Q) B (ext1 W) (z 4) (z 5) (z 6) (z 7))
        ![128 * h.val, 0] hT ![0, 0] ![0, 64] hd hv (ix2 a d) = _ := fun h hS hT hd hv =>
    head_at (k0_pay41 K Q) B (ext1 W) (fun k => z ⟨4 + k.val, by omega⟩) h (128 * h.val) rfl hS hT 0 64 hd hv a d (by omega) (by omega)
      (fun n => W (ix2 n ⟨64 * ((4 + h.val) / 4) + d.val, by omega⟩))
      (fun n => (∑ x : Fin 64, Q (ix2 a ⟨64 * (4 + h.val) + x.val, by omega⟩) * K (ix2 n ⟨64 * ((4 + h.val) / 4) + x.val, by omega⟩)) + B (ix2 a n))
      (fun n => by rw [ext1_at, if_neg (by dsimp only <;> omega)]; exact congrArg W (ix2_congr rfl (by dsimp only <;> omega)))
      (fun n => by rw [ext1_at, if_pos (by dsimp only <;> omega)])
      (fun n => by
        rw [score1_at]
        exact congrArg (· + _) (Finset.sum_congr rfl fun x _ => congrArg₂ (· * ·)
          (congrArg Q (ix2_congr rfl (by dsimp only <;> omega))) (congrArg K (ix2_congr rfl (by dsimp only <;> omega)))))
  unfold attend
  pointwise
  have hd := d.isLt
  obtain ⟨h, hh⟩ := h
  interval_cases h
  · rw [dif_pos (by dsimp only <;> omega)]
    exact (congrArg _ (ix2_congr rfl (by dsimp only <;> omega))).trans (H0 0 _ _ _ _)
  · rw [dif_neg (by dsimp only <;> omega), dif_pos (by dsimp only <;> omega)]
    exact (congrArg _ (ix2_congr rfl (by dsimp only <;> omega))).trans (H0 1 _ _ _ _)
  · rw [dif_neg (by dsimp only <;> omega), dif_neg (by dsimp only <;> omega), dif_pos (by dsimp only <;> omega)]
    exact (congrArg _ (ix2_congr rfl (by dsimp only <;> omega))).trans (H0 2 _ _ _ _)
  · rw [dif_neg (by dsimp only <;> omega), dif_neg (by dsimp only <;> omega), dif_neg (by dsimp only <;> omega), dif_pos (by dsimp only <;> omega)]
    exact (congrArg _ (ix2_congr rfl (by dsimp only <;> omega))).trans (H0 3 _ _ _ _)
  · rw [dif_neg (by dsimp only <;> omega), dif_neg (by dsimp only <;> omega), dif_neg (by dsimp only <;> omega), dif_neg (by dsimp only <;> omega), dif_pos (by dsimp only <;> omega)]
    exact (congrArg _ (ix2_congr rfl (by dsimp only <;> omega))).trans (H1 0 _ _ _ _)
  · rw [dif_neg (by dsimp only <;> omega), dif_neg (by dsimp only <;> omega), dif_neg (by dsimp only <;> omega), dif_neg (by dsimp only <;> omega), dif_neg (by dsimp only <;> omega), dif_pos (by dsimp only <;> omega)]
    exact (congrArg _ (ix2_congr rfl (by dsimp only <;> omega))).trans (H1 1 _ _ _ _)
  · rw [dif_neg (by dsimp only <;> omega), dif_neg (by dsimp only <;> omega), dif_neg (by dsimp only <;> omega), dif_neg (by dsimp only <;> omega), dif_neg (by dsimp only <;> omega), dif_neg (by dsimp only <;> omega), dif_pos (by dsimp only <;> omega)]
    exact (congrArg _ (ix2_congr rfl (by dsimp only <;> omega))).trans (H1 2 _ _ _ _)
  · rw [dif_neg (by dsimp only <;> omega), dif_neg (by dsimp only <;> omega), dif_neg (by dsimp only <;> omega), dif_neg (by dsimp only <;> omega), dif_neg (by dsimp only <;> omega), dif_neg (by dsimp only <;> omega), dif_neg (by dsimp only <;> omega)]
    exact (congrArg _ (ix2_congr rfl (by dsimp only <;> omega))).trans (H1 3 _ _ _ _)

end Cert.SwaBlock

end
-- ==== Proof.Softmax.lean ====
/- The softmax with a sink: the kernel's base-two form over biased scores is the ordinary one. -/
module

public import proofs.«01_k».proof.Proof.BlockValue

@[expose] public section

noncomputable section

namespace Cert.SwaBlock

open Cert.KernelIdeal Idealize.ShloMosaic

/-- The largest score, the sink included. -/
def topOf {ι : Type*} [Fintype ι] (L : ι → EReal) (z : EReal) : EReal := max (Finset.univ.sup L) z

/-- The weights' total, the sink's included. -/
def denOf {ι : Type*} [Fintype ι] (L : ι → EReal) (z : EReal) : EReal :=
  (∑ n, Ideal.exp (L n - topOf L z)) + Ideal.exp (z - topOf L z)

/-- One query's result: the values weighed by the softmax of the scores `L` and the sink `z`. -/
def softOf {ι : Type*} [Fintype ι] (L : ι → EReal) (z : EReal) (v : ι → EReal) : EReal :=
  ∑ n, Ideal.div (Ideal.exp (L n - topOf L z)) (denOf L z) * v n

theorem log2e_eq : log2e = (((Real.log 2)⁻¹ : ℝ) : EReal) :=
  IdealRules.named_const.ideal_named_scalar κ "log2e" _ _ rfl

theorem inv_log_two_pos : 0 < (Real.log 2)⁻¹ := inv_pos.mpr (Real.log_pos (by norm_num))

/-- Base two at a score over `ln 2` is base e at the score. -/
theorem exp2_scaled (x : EReal) (hx : x ≠ ⊤) (μ : ℝ) : Ideal.exp2 (x * log2e - μ * log2e) = Ideal.exp (x - μ) := by
  rw [log2e_eq]
  induction x with
  | top => exact absurd rfl hx
  | bot => rw [EReal.bot_mul_coe_of_pos inv_log_two_pos]; simp
  | coe x =>
    have h : ((x : EReal) * (((Real.log 2)⁻¹ : ℝ) : EReal) - μ * (((Real.log 2)⁻¹ : ℝ) : EReal)) = (((x - μ) / Real.log 2 : ℝ) : EReal) := by
      rw [← EReal.coe_mul, ← EReal.coe_mul, ← EReal.coe_sub, div_eq_mul_inv, sub_mul]
    have h' : ((x : EReal) - μ) = ((x - μ : ℝ) : EReal) := (EReal.coe_sub _ _).symm
    rw [h, h', Ideal.exp2_coe, Ideal.exp_coe]
    congr 1
    have : Real.log 2 ≠ 0 := (Real.log_pos (by norm_num)).ne'
    rw [Real.rpow_eq_pow, Real.rpow_def_of_pos (by norm_num), mul_div_cancel₀ _ this]

/-- A sum of extended reals times a real that is not negative. -/
theorem sum_mul_coe {ι : Type*} [Fintype ι] (f : ι → EReal) (k : ℝ) (hk : 0 ≤ k) : (∑ n, f n) * (k : EReal) = ∑ n, f n * (k : EReal) := by
  classical
  refine Finset.induction_on (Finset.univ : Finset ι) (by simp) ?_
  intro a s ha ih
  rw [Finset.sum_insert ha, Finset.sum_insert ha, EReal.right_distrib_of_nonneg_of_ne_top (EReal.coe_nonneg.mpr hk) (EReal.coe_ne_top k), ih]

theorem coe_sum' {ι : Type*} [Fintype ι] (r : ι → ℝ) : ((∑ n, r n : ℝ) : EReal) = ∑ n, (r n : EReal) := by
  classical
  refine Finset.induction_on (Finset.univ : Finset ι) (by simp) ?_
  intro a s ha ih
  rw [Finset.sum_insert ha, Finset.sum_insert ha, EReal.coe_add, ih]

/-- With scores below `⊤` and a real sink the largest is real. -/
theorem topOf_real {ι : Type*} [Fintype ι] (L : ι → EReal) (hL : ∀ n, L n ≠ ⊤) (z : ℝ) : ∃ μ : ℝ, topOf L z = μ := by
  have h1 : topOf L z ≠ ⊤ := by
    have : Finset.univ.sup L < ⊤ := (Finset.sup_lt_iff (by exact bot_lt_top)).mpr fun n _ => lt_top_iff_ne_top.mpr (hL n)
    exact (max_lt this (EReal.coe_lt_top z)).ne
  have h2 : topOf L z ≠ ⊥ := fun h => by
    have : (z : EReal) ≤ ⊥ := h ▸ le_max_right _ _
    exact EReal.coe_ne_bot z (le_bot_iff.mp this)
  exact ⟨(topOf L z).toReal, (EReal.coe_toReal h1 h2).symm⟩

/-- The largest score in the base-two scale. -/
theorem topOf_scaled {ι : Type*} [Fintype ι] (L : ι → EReal) (z : EReal) :
    max (Finset.univ.sup fun n => L n * log2e) (z * log2e) = topOf L z * log2e := by
  have hmono : Monotone fun x : EReal => x * log2e := fun x y h => by
    dsimp only
    rw [log2e_eq]
    exact mul_le_mul_of_nonneg_right h (EReal.coe_nonneg.mpr inv_log_two_pos.le)
  have hbot : (⊥ : EReal) * log2e = ⊥ := by rw [log2e_eq, EReal.bot_mul_coe_of_pos inv_log_two_pos]
  have := Finset.comp_sup_eq_sup_comp_of_is_total (s := Finset.univ) (f := L) (fun x : EReal => x * log2e) hmono hbot
  rw [topOf, hmono.map_max]
  exact congrArg (max · _) this.symm

theorem exp_real (x : EReal) (hx : x ≠ ⊤) (μ : ℝ) : ∃ r : ℝ, 0 ≤ r ∧ Ideal.exp (x - μ) = r := by
  induction x with
  | top => exact absurd rfl hx
  | bot => exact ⟨0, le_rfl, by simp⟩
  | coe x => exact ⟨Real.exp (x - μ), (Real.exp_pos _).le, by rw [← EReal.coe_sub, Ideal.exp_coe]⟩

/-- The kernel's form of one query's result is the softmax's. -/
theorem outOf_eq (L : Fin 640 → EReal) (hL : ∀ n, L n ≠ ⊤) (z : ℝ) (v : Fin 640 → EReal) :
    outOf (fun n => L n * log2e) z v = softOf L z v := by
  obtain ⟨μ, hμ⟩ := topOf_real L hL z
  choose r hr0 hr using fun n => exp_real (L n) (hL n) μ
  have hz : Ideal.exp ((z : EReal) - μ) = ((Real.exp (z - μ) : ℝ) : EReal) := by rw [← EReal.coe_sub, Ideal.exp_coe]
  have hD : 0 < (∑ n, r n) + Real.exp (z - μ) := add_pos_of_nonneg_of_pos (Finset.sum_nonneg fun n _ => hr0 n) (Real.exp_pos _)
  have hdiv : ∀ x : EReal, Ideal.div x (((∑ n, r n) + Real.exp (z - μ) : ℝ) : EReal)
      = x * ((((∑ n, r n) + Real.exp (z - μ))⁻¹ : ℝ) : EReal) := fun x => by
    rw [Ideal.div, if_neg (by exact_mod_cast hD.ne'), EReal.coe_inv]
  have hden : (∑ n, (r n : EReal)) + ((Real.exp (z - μ) : ℝ) : EReal) = (((∑ n, r n) + Real.exp (z - μ) : ℝ) : EReal) := by
    rw [EReal.coe_add, coe_sum']
  unfold outOf softOf denOf
  simp only [topOf_scaled, hμ, exp2_scaled _ (hL _), exp2_scaled _ (EReal.coe_ne_top z), hr, hz, hden, hdiv, one_mul]
  rw [sum_mul_coe _ _ (inv_pos.mpr hD).le]
  exact Finset.sum_congr rfl fun n _ => by rw [mul_right_comm]

/-- The weights' total is not zero. -/
theorem denOf_ne_zero {ι : Type*} [Fintype ι] (L : ι → EReal) (hL : ∀ n, L n ≠ ⊤) (z : ℝ) : denOf L z ≠ 0 := by
  obtain ⟨μ, hμ⟩ := topOf_real L hL z
  choose r hr0 hr using fun n => exp_real (L n) (hL n) μ
  have hz : Ideal.exp ((z : EReal) - μ) = ((Real.exp (z - μ) : ℝ) : EReal) := by rw [← EReal.coe_sub, Ideal.exp_coe]
  have hD : 0 < (∑ n, r n) + Real.exp (z - μ) := add_pos_of_nonneg_of_pos (Finset.sum_nonneg fun n _ => hr0 n) (Real.exp_pos _)
  unfold denOf
  simp only [hμ, hr, hz]
  rw [← coe_sum', ← EReal.coe_add]
  exact_mod_cast hD.ne'

/-- Scores of `⊥` may be left out: only the positions `φ` names count. -/
theorem softOf_comp {ι κ : Type*} [Fintype ι] [Fintype κ] (φ : κ → ι) (hφ : Function.Injective φ) (L v : ι → EReal)
    (hL : ∀ i, L i ≠ ⊤) (z : ℝ) (h : ∀ i, i ∉ Set.range φ → L i = ⊥) : softOf (L ∘ φ) z (v ∘ φ) = softOf L z v := by
  have ht : topOf (L ∘ φ) z = topOf L z := by
    unfold topOf
    congr 1
    refine le_antisymm (Finset.sup_le fun n _ => Finset.le_sup (f := L) (Finset.mem_univ (φ n))) (Finset.sup_le fun i _ => ?_)
    by_cases hi : i ∈ Set.range φ
    · obtain ⟨n, rfl⟩ := hi; exact Finset.le_sup (f := L ∘ φ) (Finset.mem_univ n)
    · rw [h i hi]; exact bot_le
  have he : ∀ i, i ∉ Set.range φ → Ideal.exp (L i - topOf L z) = 0 := fun i hi => by rw [h i hi, EReal.bot_sub]; rfl
  have hd : denOf (L ∘ φ) z = denOf L z := by
    unfold denOf
    rw [ht]
    congr 1
    exact Fintype.sum_of_injective φ hφ _ _ he fun _ => rfl
  unfold softOf
  rw [ht, hd]
  refine Fintype.sum_of_injective φ hφ _ _ (fun i hi => ?_) fun _ => rfl
  rw [he i hi, Ideal.div, if_neg (denOf_ne_zero L hL z), zero_mul, zero_mul]

/-- The positions of a window of 384 keys at `start` and of the context's keys behind it. -/
def place (start : ℕ) (hs : start + 384 ≤ 4096) (n : Fin 640) : Fin 4096 ⊕ Fin 256 :=
  if h : n.val < 384 then .inl ⟨start + n.val, by omega⟩ else .inr ⟨n.val - 384, by omega⟩

theorem place_injective (start : ℕ) (hs : start + 384 ≤ 4096) : Function.Injective (place start hs) := by
  intro n n' h
  unfold place at h
  split at h <;> split at h <;> simp at h <;> exact Fin.ext (by omega)

/-- A key position outside the window is named by none. -/
theorem mem_place (start : ℕ) (hs : start + 384 ≤ 4096) (i : Fin 4096 ⊕ Fin 256) (hi : i ∉ Set.range (place start hs)) :
    ∃ s : Fin 4096, i = .inl s ∧ ¬ (start ≤ s.val ∧ s.val < start + 384) := by
  rcases i with s | k
  · refine ⟨s, rfl, fun hs' => hi ⟨⟨s.val - start, by omega⟩, ?_⟩⟩
    rw [place, dif_pos (by dsimp only; omega)]
    exact congrArg Sum.inl (Fin.ext (by dsimp only; omega))
  · refine absurd ⟨⟨384 + k.val, by omega⟩, ?_⟩ hi
    rw [place, dif_neg (by dsimp only; omega)]
    exact congrArg Sum.inr (Fin.ext (by dsimp only; omega))

/-- The reference's softmax over the latent keys, the context keys and the sink laid end to end. -/
theorem soft_concat (C : Fin 4353 → EReal) (Ll : Fin 4096 → EReal) (Lc : Fin 256 → EReal) (z : EReal)
    (h1 : ∀ s : Fin 4096, C ⟨s.val, by omega⟩ = Ll s) (h2 : ∀ k : Fin 256, C ⟨4096 + k.val, by omega⟩ = Lc k)
    (h3 : C ⟨4352, by omega⟩ = z) (v : Fin 4096 → EReal) (vc : Fin 256 → EReal) :
    (∑ s, Ideal.div (Ideal.exp (Ll s - Finset.univ.sup C)) (∑ k, Ideal.exp (C k - Finset.univ.sup C)) * v s)
      + (∑ k, Ideal.div (Ideal.exp (Lc k - Finset.univ.sup C)) (∑ k, Ideal.exp (C k - Finset.univ.sup C)) * vc k)
      = softOf (Sum.elim Ll Lc) z (Sum.elim v vc) := by
  have hC : ∀ j : Fin 4353, (∃ i, C j = Sum.elim Ll Lc i) ∨ C j = z := fun j => by
    by_cases hj : j.val < 4096
    · exact .inl ⟨.inl ⟨j.val, hj⟩, h1 ⟨j.val, hj⟩⟩
    · by_cases hj' : j.val < 4352
      · refine .inl ⟨.inr ⟨j.val - 4096, by omega⟩, ?_⟩
        rw [Sum.elim_inr, ← h2]
        exact congrArg C (Fin.ext (by dsimp only; omega))
      · refine .inr ?_
        rw [← h3]
        exact congrArg C (Fin.ext (by dsimp only; omega))
  have ht : Finset.univ.sup C = topOf (Sum.elim Ll Lc) z := by
    unfold topOf
    refine le_antisymm (Finset.sup_le fun j _ => ?_) (max_le (Finset.sup_le fun i _ => ?_) ?_)
    · rcases hC j with ⟨i, hi⟩ | hz
      · rw [hi]; exact le_max_of_le_left (Finset.le_sup (f := Sum.elim Ll Lc) (Finset.mem_univ i))
      · rw [hz]; exact le_max_right _ _
    · rcases i with s | k
      · rw [Sum.elim_inl, ← h1]; exact Finset.le_sup (Finset.mem_univ _)
      · rw [Sum.elim_inr, ← h2]; exact Finset.le_sup (Finset.mem_univ _)
    · rw [← h3]; exact Finset.le_sup (Finset.mem_univ _)
  have hd : (∑ k, Ideal.exp (C k - Finset.univ.sup C)) = denOf (Sum.elim Ll Lc) z := by
    rw [ht]
    unfold denOf
    rw [Fintype.sum_sum_type]
    have := Fin.sum_univ_add (a := 4096) (b := 257) fun k => Ideal.exp (C k - topOf (Sum.elim Ll Lc) z)
    rw [this]
    have := Fin.sum_univ_add (a := 256) (b := 1) fun k => Ideal.exp (C (Fin.natAdd 4096 k) - topOf (Sum.elim Ll Lc) z)
    rw [this, ← add_assoc]
    refine congrArg₂ (· + ·) (congrArg₂ (· + ·) (Finset.sum_congr rfl fun s _ => ?_) (Finset.sum_congr rfl fun k _ => ?_)) ?_
    · rw [Sum.elim_inl, ← h1]; rfl
    · rw [Sum.elim_inr, ← h2]; rfl
    · rw [Fin.sum_univ_one, ← h3]; rfl
  rw [hd, ht]
  unfold softOf
  rw [Fintype.sum_sum_type]
  rfl

theorem scale_eq : (Named.named κ "scale_log2e" 0x3E38AA3B#32 : Ideal .f32) = (((1 / 8) * (Real.log 2)⁻¹ : ℝ) : EReal) :=
  IdealRules.named_const.ideal_named_scalar κ "scale_log2e" _ _ rfl

theorem mask_eq : (Named.named κ "mask" 0xF149F2CA#32 : Ideal .f32) = ⊥ :=
  IdealRules.named_const.ideal_named_scalar κ "mask" _ _ rfl

/-- A score in the kernel's scale: the scale put on the queries in front of the product. -/
theorem score_scaled (q k : Fin 64 → EReal) (hq : ∀ x, ∃ r : ℝ, q x = r) (hk : ∀ x, ∃ r : ℝ, k x = r) :
    (∑ x, (q x * (((1 / 8) * (Real.log 2)⁻¹ : ℝ) : EReal)) * k x) = ((∑ x, q x * k x) * ((1 / 8 : ℝ) : EReal)) * log2e
      ∧ ∃ r : ℝ, (∑ x, q x * k x) * ((1 / 8 : ℝ) : EReal) = r := by
  choose q' hq' using hq
  choose k' hk' using hk
  simp only [hq', hk', log2e_eq, ← EReal.coe_mul]
  rw [← coe_sum', ← coe_sum', ← EReal.coe_mul, ← EReal.coe_mul]
  refine ⟨?_, _, rfl⟩
  congr 1
  rw [mul_assoc, Finset.sum_mul]
  exact Finset.sum_congr rfl fun x _ => by ring

end Cert.SwaBlock

end
-- ==== Proof.Words.lean ====
/- What a sub-block loads, read at one index: rotated queries and keys, values, and the band's bias. -/
module

public import proofs.«01_k».proof.Proof.Softmax
public import Idealize.ShloMosaic.Lib.WordArith

@[expose] public section

set_option maxRecDepth 16384

noncomputable section

namespace Cert.SwaBlock

open Cert.KernelIdeal Cert.KernelIdeal.Gen Idealize.ShloMosaic Idealize.ShloMosaic.TcCoe

/-- The partner of lane `x` of a head in the rotation: half a head away. -/
def mate (x : Fin 64) : Fin 64 := if h : x.val < 32 then ⟨x.val + 32, by omega⟩ else ⟨x.val - 32, by omega⟩

theorem mate_lt {x : Fin 64} (h : x.val < 32) : (mate x).val = x.val + 32 := by unfold mate; rw [dif_pos h]

theorem mate_ge {x : Fin 64} (h : ¬ x.val < 32) : (mate x).val = x.val - 32 := by unfold mate; rw [dif_neg h]

/-- The position of the first query of sub-block `r` of point `i` in its batch entry. -/
def pos (i : grid0.Coords) (r : Fin 8) : ℕ := 1024 * (i 1).val + 128 * r.val

/-- The position of its first key. -/
def start (i : grid0.Coords) (r : Fin 8) : ℕ := min 3712 (pos i r - 128)

theorem pos_le (i : grid0.Coords) (r : Fin 8) : pos i r + 128 ≤ 4096 := by
  have : (i 1).val < 4 := (i 1).isLt
  unfold pos; omega

theorem start_le (i : grid0.Coords) (r : Fin 8) : start i r + 384 ≤ 4096 := by unfold start; omega

theorem off1_eq (i : grid0.Coords) (r : Fin 8) : k0_off1 i (bw r) = ![pos i r, 0] := k0_off1_eq i r

theorem off2_eq : ∀ (i : grid0.Coords) (r : Fin 8), k0_off2 i (bw r) = ![start i r, 0] := by decide +kernel

theorem qPos_eq : ∀ (i : grid0.Coords) (r : Fin 8), qPos i (bw r) = BitVec.ofNat 32 (pos i r) := by decide +kernel

theorem kPos_eq : ∀ (i : grid0.Coords) (r : Fin 8), kPos i (bw r) = BitVec.ofNat 32 (start i r) := by decide +kernel

/-- The kernel's word for "the lane with number `w` is in the first half of its head". -/
def firstHalf (w : BitVec 32) : BitVec 1 :=
  IntOp.cmpi CmpIPredicate.slt
    (Scalar.select
      (IntOp.andi
        (IntOp.xori
          (IntOp.cmpi CmpIPredicate.slt (IntOp.remsi ArithUnit.vector w (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector w (Scalar.select (Scalar.cmpi CmpIPredicate.eq 64#32 0#32) 1#32 64#32)) 0#32))
      (IntOp.addi (IntOp.remsi ArithUnit.vector w (Scalar.select (Scalar.cmpi CmpIPredicate.eq 64#32 0#32) 1#32 64#32))
        (Scalar.select (Scalar.cmpi CmpIPredicate.eq 64#32 0#32) 1#32 64#32))
      (IntOp.remsi ArithUnit.vector w (Scalar.select (Scalar.cmpi CmpIPredicate.eq 64#32 0#32) 1#32 64#32)))
    32#32

theorem firstHalf_eq (h : Fin 8) (x : Fin 64) : firstHalf (BitVec.ofNat 32 (64 * h.val + x.val)) = BitVec.ofBool (decide (x.val < 32)) :=
  (by decide +kernel : ∀ (h : Fin 8) (x : Fin 64), firstHalf (BitVec.ofNat 32 (64 * h.val + x.val)) = BitVec.ofBool (decide (x.val < 32))) h x

theorem qRope_at (q : Vec Ideal S128x512 .bf16) (C S : Vec Ideal S128x128 .f32) (a : Fin 128) (h : Fin 8) (x : Fin 64) :
    qRope q C S (ix2 a ⟨64 * h.val + x.val, by omega⟩)
      = q (ix2 a ⟨64 * h.val + x.val, by omega⟩) * C (ix2 a ⟨64 * (h.val % 2) + x.val, by omega⟩)
        + q (ix2 a ⟨64 * h.val + (mate x).val, by omega⟩) * S (ix2 a ⟨64 * (h.val % 2) + x.val, by omega⟩) := by
  unfold qRope k0_pay6 k0_pay2 k0_pay3 k0_pay4 k0_pay5
  pointwise
  have hx := x.isLt
  refine congrArg₂ (· + ·) (congrArg (_ * ·) ?_) (congrArg₂ (· * ·) ?_ ?_)
  · obtain ⟨h, hh⟩ := h
    by_cases h1 : h < 2
    · rw [dif_pos (by dsimp only <;> omega)]
      exact congrArg C (ix2_congr rfl (by dsimp only <;> omega))
    rw [dif_neg (by dsimp only <;> omega)]
    by_cases h2 : h < 4
    · rw [dif_pos (by dsimp only <;> omega)]
      exact congrArg C (ix2_congr rfl (by dsimp only <;> omega))
    rw [dif_neg (by dsimp only <;> omega)]
    by_cases h3 : h < 6
    · rw [dif_pos (by dsimp only <;> omega)]
      exact congrArg C (ix2_congr rfl (by dsimp only <;> omega))
    rw [dif_neg (by dsimp only <;> omega)]
    exact congrArg C (ix2_congr rfl (by dsimp only <;> omega))
  · change Scalar.select (firstHalf (BitVec.ofNat 32 (64 * h.val + x.val))) _ _ = _
    rw [firstHalf_eq]
    by_cases hx' : x.val < 32
    · rw [decide_eq_true hx']
      change q _ = _
      exact congrArg q (ix2_congr rfl (by have := mate_lt hx'; dsimp only; omega))
    · rw [decide_eq_false hx']
      change q _ = _
      exact congrArg q (ix2_congr rfl (by have := mate_ge hx'; dsimp only; omega))
  · obtain ⟨h, hh⟩ := h
    by_cases h1 : h < 2
    · rw [dif_pos (by dsimp only <;> omega)]
      exact congrArg S (ix2_congr rfl (by dsimp only <;> omega))
    rw [dif_neg (by dsimp only <;> omega)]
    by_cases h2 : h < 4
    · rw [dif_pos (by dsimp only <;> omega)]
      exact congrArg S (ix2_congr rfl (by dsimp only <;> omega))
    rw [dif_neg (by dsimp only <;> omega)]
    by_cases h3 : h < 6
    · rw [dif_pos (by dsimp only <;> omega)]
      exact congrArg S (ix2_congr rfl (by dsimp only <;> omega))
    rw [dif_neg (by dsimp only <;> omega)]
    exact congrArg S (ix2_congr rfl (by dsimp only <;> omega))

theorem kRope_at (k : Vec Ideal S384x128 .bf16) (C S : Vec Ideal S384x128 .f32) (a : Fin 384) (g : Fin 2) (x : Fin 64) :
    k0_pay7 k C S (ix2 a ⟨64 * g.val + x.val, by omega⟩)
      = k (ix2 a ⟨64 * g.val + x.val, by omega⟩) * C (ix2 a ⟨64 * g.val + x.val, by omega⟩)
        + k (ix2 a ⟨64 * g.val + (mate x).val, by omega⟩) * S (ix2 a ⟨64 * g.val + x.val, by omega⟩) := by
  unfold k0_pay7
  pointwise
  have hx := x.isLt
  refine congrArg (_ + ·) (congrArg (· * _) ?_)
  change Scalar.select (firstHalf (BitVec.ofNat 32 (64 * g.val + x.val))) _ _ = _
  have := firstHalf_eq ⟨g.val, by omega⟩ x
  dsimp only at this
  rw [this]
  by_cases hx' : x.val < 32
  · rw [decide_eq_true hx']
    change k _ = _
    exact congrArg k (ix2_congr rfl (by have := mate_lt hx'; dsimp only; omega))
  · rw [decide_eq_false hx']
    change k _ = _
    exact congrArg k (ix2_congr rfl (by have := mate_ge hx'; dsimp only; omega))

theorem bias_at (P T : ℕ) (hP : P < 4096) (hT : T < 4096) (a : Fin 128) (n : Fin 640) :
    k0_pay11 (F := Ideal) (BitVec.ofNat 32 P) (BitVec.ofNat 32 T) (ix2 a n)
      = if 384 ≤ n.val ∨ (T + n.val ≤ P + a.val + 128 ∧ P + a.val ≤ T + n.val + 128) then (0 : EReal) else ⊥ := by
  unfold k0_pay11
  pointwise
  have ha := a.isLt
  have hn := n.isLt
  have e1 : IntOp.cmpi CmpIPredicate.sge (BitVec.ofNat 32 n.val) 384#32 = BitVec.ofBool (decide (384 ≤ n.val)) :=
    (by decide +kernel : ∀ n : Fin 640, IntOp.cmpi CmpIPredicate.sge (BitVec.ofNat 32 n.val) 384#32 = BitVec.ofBool (decide (384 ≤ n.val))) n
  have e2 : IntOp.cmpi CmpIPredicate.sle (IntOp.absi (IntOp.subi (IntOp.addi (BitVec.ofNat 32 T) (BitVec.ofNat 32 n.val))
      (IntOp.addi (BitVec.ofNat 32 P) (BitVec.ofNat 32 a.val)))) 128#32
      = BitVec.ofBool (decide (T + n.val ≤ P + a.val + 128 ∧ P + a.val ≤ T + n.val + 128)) := by
    unfold IntOp.cmpi IntOp.absi IntOp.subi IntOp.addi
    congr 1
    rw [BitVec.msb_eq_decide]
    dsimp only
    rw [BitVec.sle, decide_eq_decide]
    split <;> rename_i hm <;> simp only [decide_eq_true_eq] at hm <;>
      rw [BitVec.toInt_eq_toNat_cond] <;> simp [BitVec.toNat_sub, BitVec.toNat_neg] at hm ⊢ <;> omega
  rw [e1, e2, mask_eq]
  by_cases h1 : 384 ≤ n.val <;> by_cases h2 : T + n.val ≤ P + a.val + 128 ∧ P + a.val ≤ T + n.val + 128 <;>
    simp only [h1, h2, true_or, or_true, or_self, if_true, if_false] <;> rfl

end Cert.SwaBlock

end
-- ==== Proof.Tables.lean ====
/- The two angle tables: the kernel's host lines and the reference's, at an index. -/
module

public import proofs.«01_k».proof.Proof.Words
public import proofs.«01_k».proof.Proof.Gen.ReferenceIdeal.Read

@[expose] public section

set_option maxRecDepth 16384

noncomputable section

namespace Cert.SwaBlock

open Cert.KernelIdeal Cert.KernelIdeal.Gen Idealize.ShloMosaic Idealize.ShloMosaic.TcCoe Idealize.ShloMosaic.StableHlo

/-- The `y`-th frequency, `10000 ^ (−y / 16)`. -/
def freq (y : ℕ) : EReal :=
  Ideal.pow (Ideal.ofBits FTy.f32 1176256512#32)
    (Ideal.div (-FloatOps.sitofp (F := Ideal) FTy.f32 (BitVec.ofNat 32 y)) (Ideal.ofBits FTy.f32 1098907648#32))

/-- The angle of position `t` at lane `y` of half a head: sixteen frequencies of the row, sixteen of the column. -/
def angle (t : Fin 4096) (y : Fin 32) : EReal :=
  if y.val < 16 then FloatOps.sitofp (F := Ideal) FTy.f32 (BitVec.ofNat 32 (t.val / 64)) * freq y.val
  else FloatOps.sitofp (F := Ideal) FTy.f32 (BitVec.ofNat 32 (t.val % 64)) * freq (y.val - 16)

/-- A lane's place in its half of the head. -/
def half (x : Fin 64) : Fin 32 := ⟨x.val % 32, by omega⟩

variable (m : (ℓ : Loc nD τ sig) → Buf (Elt Ideal) ℓ)

theorem cos_table (c : Dev nD) (t : Fin 4096) (g : Fin 2) (x : Fin 64) :
    V m c main_v31 (ix2 t ⟨64 * g.val + x.val, by omega⟩) = Ideal.cos (angle t (half x)) := by
  unfold_abbrev_sides
  after_results
  pointwise
  unfold angle freq half
  have hx := x.isLt
  by_cases h : x.val < 32
  · have e : x.val % 32 = x.val := by omega
    simp only [h, e, dite_true]
    by_cases h' : x.val < 16 <;> simp only [h', dite_true, dite_false, if_true, if_false]
  · have e : x.val % 32 = x.val - 32 := by omega
    simp only [h, e, dite_false]
    by_cases h' : x.val - 32 < 16 <;> simp only [h', dite_true, dite_false, if_true, if_false]

theorem sin_table (c : Dev nD) (t : Fin 4096) (g : Fin 2) (x : Fin 64) :
    V m c main_v34 (ix2 t ⟨64 * g.val + x.val, by omega⟩)
      = if x.val < 32 then -Ideal.sin (angle t (half x)) else Ideal.sin (angle t (half x)) := by
  unfold_abbrev_sides
  after_results
  pointwise
  unfold angle freq half
  have hx := x.isLt
  by_cases h : x.val < 32
  · have e : x.val % 32 = x.val := by omega
    simp only [h, e, dite_true, if_true]
    by_cases h' : x.val < 16 <;> simp only [h', dite_true, dite_false, if_true, if_false]
  · have e : x.val % 32 = x.val - 32 := by omega
    simp only [h, e, dite_false, if_false]
    by_cases h' : x.val - 32 < 16 <;> simp only [h', dite_true, dite_false, if_true, if_false]

open Cert.ReferenceIdeal.Read in
theorem ref_angle (t : Fin 4096) (y : Fin 32) : val_main_v28 (F := Ideal) (ix2 t y) = angle t y := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v9 val_main_v8 val_main_v7 val_main_v6 val_main_v5 val_main_cst val_main_cst_0
  pointwise
  unfold angle freq
  by_cases h' : y.val < 16 <;> simp only [h', dite_true, dite_false, if_true, if_false]

theorem ofBits_10000 : Ideal.ofBits FTy.f32 1176256512#32 = ((10000 : ℝ) : EReal) := by
  simp [Ideal.ofBits, Ideal.ieee]
  rw [← EReal.coe_mul]; congr 1; norm_num

theorem ofBits_16 : Ideal.ofBits FTy.f32 1098907648#32 = ((16 : ℝ) : EReal) := by
  simp [Ideal.ofBits, Ideal.ieee]
  rw [← EReal.coe_mul]; congr 1; norm_num

theorem ofBits_eighth : Ideal.ofBits FTy.f32 0x3E000000#32 = ((1 / 8 : ℝ) : EReal) := by
  simp [Ideal.ofBits, Ideal.ieee]
  rw [← EReal.coe_mul]; congr 1; norm_num

/-- Every angle is a real number. -/
theorem angle_real (t : Fin 4096) (y : Fin 32) : ∃ r : ℝ, angle t y = r := by
  have hf : ∀ n : ℕ, ∃ r : ℝ, freq n = r := fun n => by
    unfold freq
    rw [ofBits_10000, ofBits_16]
    refine ⟨Real.rpow 10000 (-((BitVec.ofNat 32 n).toInt : ℝ) * (1 / 16)), ?_⟩
    rw [Ideal.div_coe (by norm_num)]
    rfl
  have hs : ∀ w : BitVec 32, FloatOps.sitofp (F := Ideal) FTy.f32 w = ((w.toInt : ℝ) : EReal) := fun _ => rfl
  unfold angle
  split
  · obtain ⟨r, hr⟩ := hf y.val
    rw [hr, hs, ← EReal.coe_mul]; exact ⟨_, rfl⟩
  · obtain ⟨r, hr⟩ := hf (y.val - 16)
    rw [hr, hs, ← EReal.coe_mul]; exact ⟨_, rfl⟩

end Cert.SwaBlock

end
-- ==== Proof.RefRead.lean ====
/- The reference's result at an index. -/
module

public import proofs.«01_k».proof.Proof.Tables

@[expose] public section

set_option maxRecDepth 16384

noncomputable section

namespace Cert.SwaBlock

open Cert.ReferenceIdeal Cert.ReferenceIdeal.Gen Cert.ReferenceIdeal.Read Idealize.ShloMosaic Idealize.ShloMosaic.TcCoe

/-- The mixer's input rows: queries, keys and values of the latent positions, then of the context. -/
abbrev Rows := (⟨S17408x768, .bf16⟩ : BufTy).Contents (Elt Ideal)
/-- One sink per head. -/
abbrev Sinks := (⟨S8, .f32⟩ : BufTy).Contents (Elt Ideal)

/-- A latent position's query head. -/
def qAt (p : Rows) (b : Fin 4) (t : Fin 4096) (h : Fin 8) (x : Fin 64) : EReal :=
  p (ix2 ⟨b.val * 4096 + t.val, by omega⟩ ⟨64 * h.val + x.val, by omega⟩)
/-- A latent position's key head. -/
def kAt (p : Rows) (b : Fin 4) (t : Fin 4096) (g : Fin 2) (x : Fin 64) : EReal :=
  p (ix2 ⟨b.val * 4096 + t.val, by omega⟩ ⟨512 + (64 * g.val + x.val), by omega⟩)
/-- A latent position's value head. -/
def vAt (p : Rows) (b : Fin 4) (t : Fin 4096) (g : Fin 2) (x : Fin 64) : EReal :=
  p (ix2 ⟨b.val * 4096 + t.val, by omega⟩ ⟨640 + (64 * g.val + x.val), by omega⟩)
/-- A context position's key head. -/
def kcAt (p : Rows) (b : Fin 4) (k : Fin 256) (g : Fin 2) (x : Fin 64) : EReal :=
  p (ix2 ⟨16384 + (b.val * 256 + k.val), by omega⟩ ⟨512 + (64 * g.val + x.val), by omega⟩)
/-- A context position's value head. -/
def vcAt (p : Rows) (b : Fin 4) (k : Fin 256) (g : Fin 2) (x : Fin 64) : EReal :=
  p (ix2 ⟨16384 + (b.val * 256 + k.val), by omega⟩ ⟨640 + (64 * g.val + x.val), by omega⟩)

/-- The rotation of one head at position `t`. -/
def rot (t : Fin 4096) (f : Fin 64 → EReal) (x : Fin 64) : EReal :=
  if x.val < 32 then f x * Ideal.cos (angle t (half x)) - f (mate x) * Ideal.sin (angle t (half x))
  else f x * Ideal.cos (angle t (half x)) + f (mate x) * Ideal.sin (angle t (half x))

/-- The score of a latent query against a latent key. -/
def scoreL (p : Rows) (b : Fin 4) (t : Fin 4096) (h : Fin 8) (s : Fin 4096) : EReal :=
  if s.val ≤ t.val + 128 ∧ t.val ≤ s.val + 128 then
    (∑ x : Fin 64, rot t (qAt p b t h) x * rot s (kAt p b s ⟨h.val / 4, by omega⟩) x) * ((1 / 8 : ℝ) : EReal)
  else ⊥
/-- Its score against a context key. -/
def scoreC (p : Rows) (b : Fin 4) (t : Fin 4096) (h : Fin 8) (k : Fin 256) : EReal :=
  (∑ x : Fin 64, rot t (qAt p b t h) x * kcAt p b k ⟨h.val / 4, by omega⟩ x) * ((1 / 8 : ℝ) : EReal)

variable (p : Rows) (z : Sinks)

theorem r40 (b : Fin 4) (t : Fin 4096) (h : Fin 8) (x : Fin 64) : val_main_v40 (F := Ideal) p (ix4 b t h x) = qAt p b t h x := by
  unfold val_main_v40 val_main_v39 val_main_v2 val_main_v1 val_main_v0 qAt
  pointwise
  exact congrArg p (ix2_congr rfl (by dsimp only; omega))
theorem r42 (b : Fin 4) (t : Fin 4096) (g : Fin 2) (x : Fin 64) : val_main_v42 (F := Ideal) p (ix4 b t g x) = kAt p b t g x := by
  unfold val_main_v42 val_main_v41 val_main_v2 val_main_v1 val_main_v0 kAt
  pointwise
  exact congrArg p (ix2_congr rfl (by dsimp only; omega))
theorem r44 (b : Fin 4) (t : Fin 4096) (g : Fin 2) (x : Fin 64) : val_main_v44 (F := Ideal) p (ix4 b t g x) = vAt p b t g x := by
  unfold val_main_v44 val_main_v43 val_main_v2 val_main_v1 val_main_v0 vAt
  pointwise
  exact congrArg p (ix2_congr rfl (by dsimp only; omega))
theorem r36 (b : Fin 4) (k : Fin 256) (g : Fin 2) (x : Fin 64) : val_main_v36 (F := Ideal) p (ix4 b k g x) = kcAt p b k g x := by
  unfold val_main_v36 val_main_v35 val_main_v4 val_main_v3 val_main_v0 kcAt
  pointwise
  exact congrArg p (ix2_congr rfl (by dsimp only; omega))
theorem r38 (b : Fin 4) (k : Fin 256) (g : Fin 2) (x : Fin 64) : val_main_v38 (F := Ideal) p (ix4 b k g x) = vcAt p b k g x := by
  unfold val_main_v38 val_main_v37 val_main_v4 val_main_v3 val_main_v0 vcAt
  pointwise
  exact congrArg p (ix2_congr rfl (by dsimp only; omega))

/-! ## The rotation -/

theorem c48 (b : Fin 4) (t : Fin 4096) (h : Fin 8) (y : Fin 32) : val_main_v48 (F := Ideal) (ix4 b t h y) = Ideal.cos (angle t y) := by
  rw [val_main_v48_apply, val_main_v47_apply, val_main_v30_apply, val_main_v29_apply, ← ref_angle]
  exact congrArg (fun i => Ideal.cos (val_main_v28 (F := Ideal) i)) (funext fun a => match a with | ⟨0, _⟩ => rfl | ⟨1, _⟩ => rfl)
theorem c51 (b : Fin 4) (t : Fin 4096) (h : Fin 8) (y : Fin 32) : val_main_v51 (F := Ideal) (ix4 b t h y) = Ideal.sin (angle t y) := by
  rw [val_main_v51_apply, val_main_v50_apply, val_main_v32_apply, val_main_v31_apply, ← ref_angle]
  exact congrArg (fun i => Ideal.sin (val_main_v28 (F := Ideal) i)) (funext fun a => match a with | ⟨0, _⟩ => rfl | ⟨1, _⟩ => rfl)
theorem c65 (b : Fin 4) (t : Fin 4096) (h : Fin 2) (y : Fin 32) : val_main_v65 (F := Ideal) (ix4 b t h y) = Ideal.cos (angle t y) := by
  rw [val_main_v65_apply, val_main_v64_apply, val_main_v30_apply, val_main_v29_apply, ← ref_angle]
  exact congrArg (fun i => Ideal.cos (val_main_v28 (F := Ideal) i)) (funext fun a => match a with | ⟨0, _⟩ => rfl | ⟨1, _⟩ => rfl)
theorem c68 (b : Fin 4) (t : Fin 4096) (h : Fin 2) (y : Fin 32) : val_main_v68 (F := Ideal) (ix4 b t h y) = Ideal.sin (angle t y) := by
  rw [val_main_v68_apply, val_main_v67_apply, val_main_v32_apply, val_main_v31_apply, ← ref_angle]
  exact congrArg (fun i => Ideal.sin (val_main_v28 (F := Ideal) i)) (funext fun a => match a with | ⟨0, _⟩ => rfl | ⟨1, _⟩ => rfl)

theorem r45 (b : Fin 4) (t : Fin 4096) (h : Fin 8) (y : Fin 32) :
    val_main_v45 (F := Ideal) p (ix4 b t h y) = qAt p b t h ⟨y.val, by omega⟩ := by
  rw [val_main_v45_apply, ← r40]
  exact congrArg (val_main_v40 (F := Ideal) p) (funext fun a => match a with | ⟨0, _⟩ => rfl | ⟨1, _⟩ => rfl | ⟨2, _⟩ => rfl | ⟨3, _⟩ => rfl)
theorem r46 (b : Fin 4) (t : Fin 4096) (h : Fin 8) (y : Fin 32) :
    val_main_v46 (F := Ideal) p (ix4 b t h y) = qAt p b t h ⟨32 + y.val, by omega⟩ := by
  rw [val_main_v46_apply, ← r40]
  exact congrArg (val_main_v40 (F := Ideal) p) (funext fun a => match a with | ⟨0, _⟩ => rfl | ⟨1, _⟩ => rfl | ⟨2, _⟩ => rfl | ⟨3, _⟩ => rfl)
theorem r62 (b : Fin 4) (t : Fin 4096) (h : Fin 2) (y : Fin 32) :
    val_main_v62 (F := Ideal) p (ix4 b t h y) = kAt p b t h ⟨y.val, by omega⟩ := by
  rw [val_main_v62_apply, ← r42]
  exact congrArg (val_main_v42 (F := Ideal) p) (funext fun a => match a with | ⟨0, _⟩ => rfl | ⟨1, _⟩ => rfl | ⟨2, _⟩ => rfl | ⟨3, _⟩ => rfl)
theorem r63 (b : Fin 4) (t : Fin 4096) (h : Fin 2) (y : Fin 32) :
    val_main_v63 (F := Ideal) p (ix4 b t h y) = kAt p b t h ⟨32 + y.val, by omega⟩ := by
  rw [val_main_v63_apply, ← r42]
  exact congrArg (val_main_v42 (F := Ideal) p) (funext fun a => match a with | ⟨0, _⟩ => rfl | ⟨1, _⟩ => rfl | ⟨2, _⟩ => rfl | ⟨3, _⟩ => rfl)

/-- The two halves of a rotated head laid end to end. -/
theorem rot_halves (t : Fin 4096) (f : Fin 64 → EReal) (x : Fin 64) :
    (if h : x.val < 32 then f ⟨x.val, by omega⟩ * Ideal.cos (angle t ⟨x.val, h⟩) - f ⟨32 + x.val, by omega⟩ * Ideal.sin (angle t ⟨x.val, h⟩)
      else f ⟨32 + (x.val - 32), by omega⟩ * Ideal.cos (angle t ⟨x.val - 32, by omega⟩)
        + f ⟨x.val - 32, by omega⟩ * Ideal.sin (angle t ⟨x.val - 32, by omega⟩)) = rot t f x := by
  unfold rot
  by_cases h' : x.val < 32
  · have e3 : half x = ⟨x.val, h'⟩ := Fin.ext (Nat.mod_eq_of_lt h')
    have e4 : mate x = ⟨32 + x.val, by omega⟩ := Fin.ext (by rw [mate_lt h']; dsimp only; omega)
    rw [dif_pos h', if_pos h', e3, e4]
  · have e3 : half x = ⟨x.val - 32, by omega⟩ := Fin.ext (by unfold half; dsimp only; omega)
    have e4 : mate x = ⟨x.val - 32, by omega⟩ := Fin.ext (mate_ge h')
    have e5 : (⟨32 + (x.val - 32), by omega⟩ : Fin 64) = x := Fin.ext (by dsimp only; omega)
    rw [dif_neg h', if_neg h', e3, e4, e5]

theorem r61 (b : Fin 4) (t : Fin 4096) (h : Fin 8) (x : Fin 64) :
    val_main_v61 (F := Ideal) p (ix4 b t h x) = rot t (qAt p b t h) x := by
  have e1 : ∀ y : Fin 32, val_main_v53 (F := Ideal) p (ix4 b t h y)
      = qAt p b t h ⟨y.val, by omega⟩ * Ideal.cos (angle t y) - qAt p b t h ⟨32 + y.val, by omega⟩ * Ideal.sin (angle t y) := fun y => by
    rw [val_main_v53_apply, val_main_v49_apply, val_main_v52_apply, c48, c51, r45, r46]; rfl
  have e2 : ∀ y : Fin 32, val_main_v60 (F := Ideal) p (ix4 b t h y)
      = qAt p b t h ⟨32 + y.val, by omega⟩ * Ideal.cos (angle t y) + qAt p b t h ⟨y.val, by omega⟩ * Ideal.sin (angle t y) := fun y => by
    rw [val_main_v60_apply, val_main_v56_apply, val_main_v59_apply, show val_main_v55 (F := Ideal) = val_main_v48 from rfl,
      show val_main_v58 (F := Ideal) = val_main_v51 from rfl, c48, c51, r45, r46]; rfl
  unfold val_main_v61
  generalize val_main_v53 (F := Ideal) p = q at e1 ⊢
  generalize val_main_v60 (F := Ideal) p = q' at e2 ⊢
  pointwise
  simp only [e1, e2]
  exact rot_halves t _ x

theorem r78 (b : Fin 4) (t : Fin 4096) (h : Fin 2) (x : Fin 64) :
    val_main_v78 (F := Ideal) p (ix4 b t h x) = rot t (kAt p b t h) x := by
  have e1 : ∀ y : Fin 32, val_main_v70 (F := Ideal) p (ix4 b t h y)
      = kAt p b t h ⟨y.val, by omega⟩ * Ideal.cos (angle t y) - kAt p b t h ⟨32 + y.val, by omega⟩ * Ideal.sin (angle t y) := fun y => by
    rw [val_main_v70_apply, val_main_v66_apply, val_main_v69_apply, c65, c68, r62, r63]; rfl
  have e2 : ∀ y : Fin 32, val_main_v77 (F := Ideal) p (ix4 b t h y)
      = kAt p b t h ⟨32 + y.val, by omega⟩ * Ideal.cos (angle t y) + kAt p b t h ⟨y.val, by omega⟩ * Ideal.sin (angle t y) := fun y => by
    rw [val_main_v77_apply, val_main_v73_apply, val_main_v76_apply, show val_main_v72 (F := Ideal) = val_main_v65 from rfl,
      show val_main_v75 (F := Ideal) = val_main_v68 from rfl, c65, c68, r62, r63]; rfl
  unfold val_main_v78
  generalize val_main_v70 (F := Ideal) p = q at e1 ⊢
  generalize val_main_v77 (F := Ideal) p = q' at e2 ⊢
  pointwise
  simp only [e1, e2]
  exact rot_halves t _ x

theorem r79 (b : Fin 4) (t : Fin 4096) (g : Fin 2) (r : Fin 4) (x : Fin 64) :
    val_main_v79 (F := Ideal) p (ix5 b t g r x) = rot t (qAt p b t ⟨4 * g.val + r.val, by omega⟩) x := by
  rw [← r61]
  unfold val_main_v79
  generalize val_main_v61 (F := Ideal) p = q
  pointwise
  exact congrArg q (congrArg (fun h => ix4 b t h x) (Fin.ext (by dsimp only; omega)))

/-! ## The scores -/

theorem r84 (b : Fin 4) (g : Fin 2) (r : Fin 4) (t s : Fin 4096) :
    val_main_v84 (F := Ideal) p (ix5 b g r t s)
      = (∑ x : Fin 64, rot t (qAt p b t ⟨4 * g.val + r.val, by omega⟩) x * rot s (kAt p b s g) x) * ((1 / 8 : ℝ) : EReal) := by
  rw [val_main_v84_apply, val_main_v82_apply, val_main_v81_apply, val_main_v83_apply]
  refine congrArg₂ (· * ·) (Finset.sum_congr rfl fun x _ => ?_) ofBits_eighth
  rw [mul_comm, ← r79, ← r78]
  exact congrArg₂ (· * ·)
    (congrArg (val_main_v79 (F := Ideal) p) (funext fun a => match a with | ⟨0, _⟩ => rfl | ⟨1, _⟩ => rfl | ⟨2, _⟩ => rfl | ⟨3, _⟩ => rfl | ⟨4, _⟩ => rfl))
    (congrArg (val_main_v78 (F := Ideal) p) (funext fun a => match a with | ⟨0, _⟩ => rfl | ⟨1, _⟩ => rfl | ⟨2, _⟩ => rfl | ⟨3, _⟩ => rfl))

theorem r88 (b : Fin 4) (g : Fin 2) (r : Fin 4) (t : Fin 4096) (k : Fin 256) :
    val_main_v88 (F := Ideal) p (ix5 b g r t k)
      = (∑ x : Fin 64, rot t (qAt p b t ⟨4 * g.val + r.val, by omega⟩) x * kcAt p b k g x) * ((1 / 8 : ℝ) : EReal) := by
  rw [val_main_v88_apply, val_main_v86_apply, val_main_v85_apply, val_main_v87_apply]
  refine congrArg₂ (· * ·) (Finset.sum_congr rfl fun x _ => ?_) ofBits_eighth
  rw [mul_comm, ← r79, ← r36]
  exact congrArg₂ (· * ·)
    (congrArg (val_main_v79 (F := Ideal) p) (funext fun a => match a with | ⟨0, _⟩ => rfl | ⟨1, _⟩ => rfl | ⟨2, _⟩ => rfl | ⟨3, _⟩ => rfl | ⟨4, _⟩ => rfl))
    (congrArg (val_main_v36 (F := Ideal) p) (funext fun a => match a with | ⟨0, _⟩ => rfl | ⟨1, _⟩ => rfl | ⟨2, _⟩ => rfl | ⟨3, _⟩ => rfl))

theorem r97 (t s : Fin 4096) : val_main_v97 (F := Ideal) (ix2 t s) = BitVec.ofBool (decide (s.val ≤ t.val + 128 ∧ t.val ≤ s.val + 128)) := by
  unfold val_main_v97 val_main_v96 val_main_v95 val_main_v94 val_main_v93 val_main_v92 val_main_v91 val_main_v90 val_main_v89 val_main_c
  pointwise
  have ht := t.isLt
  have hs := s.isLt
  unfold IntOp.cmpi IntOp.absi IntOp.subi
  congr 1
  rw [BitVec.msb_eq_decide]
  dsimp only
  rw [BitVec.sle, decide_eq_decide]
  split <;> rename_i hm <;> simp only [decide_eq_true_eq] at hm <;>
    rw [BitVec.toInt_eq_toNat_cond] <;> simp [BitVec.toNat_sub, BitVec.toNat_neg] at hm ⊢ <;> omega

theorem ofBits_bot : Ideal.ofBits FTy.f32 4286578688#32 = ⊥ := by simp [Ideal.ofBits, Ideal.ieee]

theorem r98 (b : Fin 4) (g : Fin 2) (r : Fin 4) (t s : Fin 4096) :
    val_main_v98 (F := Ideal) p (ix5 b g r t s) = scoreL p b t ⟨4 * g.val + r.val, by omega⟩ s := by
  have hb : ∀ i, val_main_call0_v2 (F := Ideal) i = ⊥ := fun i => by
    rw [val_main_call0_v2_apply]; exact ofBits_bot
  have hc : val_main_call0_v1 (F := Ideal) (ix5 b g r t s) = BitVec.ofBool (decide (s.val ≤ t.val + 128 ∧ t.val ≤ s.val + 128)) := by
    rw [val_main_call0_v1_apply, ← r97]
    exact congrArg (val_main_v97 (F := Ideal)) (funext fun a => match a with | ⟨0, _⟩ => rfl | ⟨1, _⟩ => rfl)
  rw [val_main_v98_apply, hb, hc, r84]
  unfold scoreL
  have hg : (⟨(4 * g.val + r.val) / 4, by omega⟩ : Fin 2) = g := Fin.ext (by dsimp only; omega)
  dsimp only
  rw [hg]
  by_cases h : s.val ≤ t.val + 128 ∧ t.val ≤ s.val + 128
  · rw [decide_eq_true h, if_pos h]; rfl
  · rw [decide_eq_false h, if_neg h]; rfl

theorem r100 (b : Fin 4) (g : Fin 2) (r : Fin 4) (t : Fin 4096) (u : Fin 1) :
    val_main_v100 (F := Ideal) z (ix5 b g r t u) = z (ix1 ⟨4 * g.val + r.val, by omega⟩) := by
  rw [val_main_v100_apply, val_main_v99_apply, val_main_v80_apply]
  exact congrArg z (funext fun a => match a with | ⟨0, _⟩ => Fin.ext (by show g.val * 4 + r.val = 4 * g.val + r.val; omega))

theorem r101 (b : Fin 4) (g : Fin 2) (r : Fin 4) (t : Fin 4096) (j : Fin 4353) :
    val_main_v101 (F := Ideal) p z (ix5 b g r t j) =
      if h : j.val < 4096 then scoreL p b t ⟨4 * g.val + r.val, by omega⟩ ⟨j.val, h⟩
      else if h' : j.val - 4096 < 256 then scoreC p b t ⟨4 * g.val + r.val, by omega⟩ ⟨j.val - 4096, h'⟩
      else z (ix1 ⟨4 * g.val + r.val, by omega⟩) := by
  have e1 := r98 p b g r t
  have e2 := r88 p b g r t
  have e3 := r100 z b g r t
  have hg : (⟨(4 * g.val + r.val) / 4, by omega⟩ : Fin 2) = g := Fin.ext (by dsimp only; omega)
  unfold val_main_v101
  generalize val_main_v98 (F := Ideal) p = q1 at e1 ⊢
  generalize val_main_v88 (F := Ideal) p = q2 at e2 ⊢
  generalize val_main_v100 (F := Ideal) z = q3 at e3 ⊢
  pointwise
  simp only [e1, e2, e3]
  unfold scoreC
  simp only [hg]

/-! ## The weights and the result -/

/-- A query's scores against every key, and its sink, as the reference lays them out. -/
def allScores (b : Fin 4) (t : Fin 4096) (g : Fin 2) (r : Fin 4) (j : Fin 4353) : EReal := val_main_v101 (F := Ideal) p z (ix5 b g r t j)

/-- The largest of them. -/
theorem r102 (b : Fin 4) (g : Fin 2) (r : Fin 4) (t : Fin 4096) :
    val_main_v102 (F := Ideal) p z (ix4 b g r t) = Finset.univ.sup (allScores p z b t g r) := by
  unfold val_main_v102 allScores
  have hc : ∀ i, val_main_cst_4 (F := Ideal) i = (⊥ : EReal) := fun i => ofBits_bot
  generalize val_main_cst_4 (F := Ideal) = c at hc ⊢
  generalize val_main_v101 (F := Ideal) p z = C
  pointwise
  rw [hc]
  rfl

theorem r108 (b : Fin 4) (g : Fin 2) (r : Fin 4) (t : Fin 4096) (j : Fin 4353) :
    val_main_v108 (F := Ideal) p z (ix5 b g r t j) = Ideal.exp (allScores p z b t g r j - Finset.univ.sup (allScores p z b t g r)) := by
  have hm : val_main_v106 (F := Ideal) p z (ix5 b g r t j) = Finset.univ.sup (allScores p z b t g r) := by
    rw [val_main_v106_apply, val_main_v105_apply, val_main_v104_apply, val_main_v103_apply, val_main_cst_5_apply, ← r102]
    refine Eq.trans ?_ (congrArg (val_main_v102 (F := Ideal) p z)
      (funext fun a => match a with | ⟨0, _⟩ => rfl | ⟨1, _⟩ => rfl | ⟨2, _⟩ => rfl | ⟨3, _⟩ => rfl :
        idx_main_v105 (idx_main_v106 (ix5 b g r t j)) = ix4 b g r t))
    rw [show (FloatOps.ofBits FTy.f32 4286578688#32 : Ideal .f32) = (⊥ : EReal) from ofBits_bot]
    exact max_eq_right bot_le
  rw [val_main_v108_apply, val_main_v107_apply, hm]
  rfl

theorem r112 (b : Fin 4) (g : Fin 2) (r : Fin 4) (t : Fin 4096) (j : Fin 4353) :
    val_main_v112 (F := Ideal) p z (ix5 b g r t j) =
      Ideal.div (Ideal.exp (allScores p z b t g r j - Finset.univ.sup (allScores p z b t g r)))
        (∑ k, Ideal.exp (allScores p z b t g r k - Finset.univ.sup (allScores p z b t g r))) := by
  rw [val_main_v112_apply, r108, val_main_v111_apply, val_main_v110_apply, val_main_v109_apply]
  refine congrArg (Ideal.div _) (Eq.trans (congrArg (· + _) (?_ : _ = (0 : EReal))) ((zero_add _).trans (Finset.sum_congr rfl fun k _ => ?_)))
  · simp [val_main_cst_6_apply, Ideal.ofBits, Ideal.ieee]
  · rw [← r108]
    exact congrArg (val_main_v108 (F := Ideal) p z) (funext fun a => match a with | ⟨0, _⟩ => rfl | ⟨1, _⟩ => rfl | ⟨2, _⟩ => rfl | ⟨3, _⟩ => rfl | ⟨4, _⟩ => rfl)

theorem r114 (b : Fin 4) (t : Fin 4096) (g : Fin 2) (r : Fin 4) (d : Fin 64) :
    val_main_v115 (F := Ideal) p z (ix5 b t g r d) = ∑ s : Fin 4096, val_main_v112 (F := Ideal) p z (ix5 b g r t ⟨s.val, by omega⟩) * vAt p b s g d := by
  rw [val_main_v115_apply, val_main_v114_apply]
  refine Finset.sum_congr rfl fun s _ => ?_
  rw [mul_comm, val_main_v113_apply, ← r44]
  exact congrArg₂ (· * ·)
    (congrArg (val_main_v112 (F := Ideal) p z) (funext fun a => match a with | ⟨0, _⟩ => rfl | ⟨1, _⟩ => rfl | ⟨2, _⟩ => rfl | ⟨3, _⟩ => rfl | ⟨4, _⟩ => rfl))
    (congrArg (val_main_v44 (F := Ideal) p) (funext fun a => match a with | ⟨0, _⟩ => rfl | ⟨1, _⟩ => rfl | ⟨2, _⟩ => rfl | ⟨3, _⟩ => rfl))

theorem r117 (b : Fin 4) (t : Fin 4096) (g : Fin 2) (r : Fin 4) (d : Fin 64) :
    val_main_v118 (F := Ideal) p z (ix5 b t g r d) = ∑ k : Fin 256, val_main_v112 (F := Ideal) p z (ix5 b g r t ⟨4096 + k.val, by omega⟩) * vcAt p b k g d := by
  rw [val_main_v118_apply, val_main_v117_apply]
  refine Finset.sum_congr rfl fun k _ => ?_
  rw [mul_comm, val_main_v116_apply, ← r38]
  exact congrArg₂ (· * ·)
    (congrArg (val_main_v112 (F := Ideal) p z) (funext fun a => match a with | ⟨0, _⟩ => rfl | ⟨1, _⟩ => rfl | ⟨2, _⟩ => rfl | ⟨3, _⟩ => rfl | ⟨4, _⟩ => rfl))
    (congrArg (val_main_v38 (F := Ideal) p) (funext fun a => match a with | ⟨0, _⟩ => rfl | ⟨1, _⟩ => rfl | ⟨2, _⟩ => rfl | ⟨3, _⟩ => rfl))

/-- One element of the mixer's result: the softmax of the window's and the context's scores with the sink beside them,
    weighing the values. -/
def result (b : Fin 4) (t : Fin 4096) (h : Fin 8) (d : Fin 64) : EReal :=
  softOf (Sum.elim (scoreL p b t h) (scoreC p b t h)) (z (ix1 h))
    (Sum.elim (fun s => vAt p b s ⟨h.val / 4, by omega⟩ d) fun k => vcAt p b k ⟨h.val / 4, by omega⟩ d)

theorem r121 (b : Fin 4) (t : Fin 4096) (h : Fin 8) (d : Fin 64) :
    val_main_v121 (F := Ideal) p z (ix2 ⟨b.val * 4096 + t.val, by omega⟩ ⟨64 * h.val + d.val, by omega⟩) = result p z b t h d := by
  rw [show val_main_v121 (F := Ideal) p z (ix2 ⟨b.val * 4096 + t.val, by omega⟩ ⟨64 * h.val + d.val, by omega⟩)
      = val_main_v119 (F := Ideal) p z (ix5 b t ⟨h.val / 4, by omega⟩ ⟨h.val % 4, by omega⟩ d) from by
    rw [val_main_v121_apply, val_main_v120_apply]
    refine congrArg (val_main_v119 (F := Ideal) p z) (funext fun a => match a with
      | ⟨0, _⟩ => Fin.ext ?_ | ⟨1, _⟩ => Fin.ext ?_ | ⟨2, _⟩ => Fin.ext ?_ | ⟨3, _⟩ => Fin.ext ?_ | ⟨4, _⟩ => Fin.ext ?_)
    · show ((b.val * 4096 + t.val) * 512 + (64 * h.val + d.val)) / 2097152 = b.val; omega
    · show ((b.val * 4096 + t.val) * 512 + (64 * h.val + d.val)) / 512 % 4096 = t.val; omega
    · show ((b.val * 4096 + t.val) * 512 + (64 * h.val + d.val)) / 256 % 2 = h.val / 4; omega
    · show ((b.val * 4096 + t.val) * 512 + (64 * h.val + d.val)) / 64 % 4 = h.val % 4; omega
    · show ((b.val * 4096 + t.val) * 512 + (64 * h.val + d.val)) % 64 = d.val; omega]
  have hh : (⟨4 * (h.val / 4) + h.val % 4, by omega⟩ : Fin 8) = h := Fin.ext (by dsimp only; omega)
  rw [val_main_v119_apply, r114, r117]
  simp only [r112]
  unfold result
  have hC : ∀ j, allScores p z b t ⟨h.val / 4, by omega⟩ ⟨h.val % 4, by omega⟩ j = _ := fun j => r101 p z b _ _ t j
  simp only [hh] at hC
  generalize allScores p z b t ⟨h.val / 4, by omega⟩ ⟨h.val % 4, by omega⟩ = C at hC ⊢
  have h1 : ∀ s : Fin 4096, C ⟨s.val, by omega⟩ = scoreL p b t h s := fun s => by rw [hC, dif_pos s.isLt]
  have h2 : ∀ k : Fin 256, C ⟨4096 + k.val, by omega⟩ = scoreC p b t h k := fun k => by
    rw [hC, dif_neg (by dsimp only; omega), dif_pos (by dsimp only; omega)]
    exact congrArg (scoreC p b t h) (Fin.ext (by dsimp only; omega))
  have h3 : C ⟨4352, by omega⟩ = z (ix1 h) := by
    rw [hC, dif_neg (by dsimp only; omega), dif_neg (by dsimp only; omega)]
  simp only [h1, h2]
  exact soft_concat C _ _ _ h1 h2 h3 _ _

end Cert.SwaBlock

end
-- ==== Proof.KernelValue.lean ====
/- What one sub-block stores is the reference's result at the sub-block's queries. -/
module

public import proofs.«01_k».proof.Proof.RefRead
public import Idealize.ShloMosaic.Lib.Pipeline.ValueKit

@[expose] public section

set_option maxRecDepth 16384

noncomputable section

namespace Cert.SwaBlock

open Cert.KernelIdeal Cert.KernelIdeal.Gen Idealize.ShloMosaic Idealize.ShloMosaic.TcCoe

/-- The contents of a point's blocks: `x1` the point's 1024 query rows, `x2` and `x3` its batch entry's keys and values,
    `x4` and `x5` the entry's context, `x6` and `x7` the two angle tables, `x0` the sinks. -/
structure Blocks (p : Rows) (z : Sinks) (b : Fin 4) (i : grid0.Coords) (x0 : Vec Ideal S8 .f32) (x1 : Vec Ideal S1024x512 .bf16)
    (x2 x3 : Vec Ideal S4096x128 .bf16) (x4 x5 : Vec Ideal S256x128 .bf16) (x6 x7 : Vec Ideal S4096x128 .f32) : Prop where
  sink : ∀ h : Fin 8, x0 (ix1 h) = z (ix1 h)
  query : ∀ (a : Fin 1024) (t : Fin 4096) (h : Fin 8) (x : Fin 64), t.val = 1024 * (i 1).val + a.val →
    x1 (ix2 a ⟨64 * h.val + x.val, by omega⟩) = qAt p b t h x
  key : ∀ (t : Fin 4096) (g : Fin 2) (x : Fin 64), x2 (ix2 t ⟨64 * g.val + x.val, by omega⟩) = kAt p b t g x
  value : ∀ (t : Fin 4096) (g : Fin 2) (x : Fin 64), x3 (ix2 t ⟨64 * g.val + x.val, by omega⟩) = vAt p b t g x
  ckey : ∀ (k : Fin 256) (g : Fin 2) (x : Fin 64), x4 (ix2 k ⟨64 * g.val + x.val, by omega⟩) = kcAt p b k g x
  cvalue : ∀ (k : Fin 256) (g : Fin 2) (x : Fin 64), x5 (ix2 k ⟨64 * g.val + x.val, by omega⟩) = vcAt p b k g x
  cosT : ∀ (t : Fin 4096) (g : Fin 2) (x : Fin 64),
    x6 (ix2 t ⟨64 * g.val + x.val, by omega⟩) = Ideal.cos (angle t (half x))
  sinT : ∀ (t : Fin 4096) (g : Fin 2) (x : Fin 64), x7 (ix2 t ⟨64 * g.val + x.val, by omega⟩)
    = if x.val < 32 then -Ideal.sin (angle t (half x)) else Ideal.sin (angle t (half x))

/-- A load of rows of a matrix, at an index. -/
theorem ld_rows {e : EltTy} {R C r : ℕ} (X : Vec Ideal ⟨2, ![R, C]⟩ e) (off : Fin 2 → ℕ) (o : ℕ) (ho : off = ![o, 0])
    (inb : ∀ a, off a + (⟨2, ![r, C]⟩ : Shape).size a ≤ (⟨2, ![R, C]⟩ : Shape).size a) (a : Fin r) (l : Fin C) (a' : Fin R)
    (ha : a'.val = o + a.val) :
    View.ld X (Rect.unit (s := ⟨2, ![R, C]⟩) off (⟨2, ![r, C]⟩ : Shape).size inb) (ix2 a l) = X (ix2 a' l) := by
  subst ho
  refine View.ld_unit_apply_of X _ _ inb (ix2 a l) (ix2 a' l) fun d => ?_
  match d with
  | ⟨0, _⟩ => exact ha
  | ⟨1, _⟩ => exact (Nat.zero_add _).symm

variable {p : Rows} {z : Sinks} {b : Fin 4} {i : grid0.Coords} {x0 : Vec Ideal S8 .f32} {x1 : Vec Ideal S1024x512 .bf16}
  {x2 x3 : Vec Ideal S4096x128 .bf16} {x4 x5 : Vec Ideal S256x128 .bf16} {x6 x7 : Vec Ideal S4096x128 .f32}

/-- The kernel's rotation, the sign kept in its sine table, is the reference's. -/
theorem rot_eq (t : Fin 4096) (f : Fin 64 → EReal) (x : Fin 64) :
    f x * Ideal.cos (angle t (half x))
      + f (mate x) * (if x.val < 32 then -Ideal.sin (angle t (half x)) else Ideal.sin (angle t (half x))) = rot t f x := by
  unfold rot
  split
  · rw [sub_eq_add_neg, mul_neg]
  · rfl

/-- The position in its batch entry of query `a` of sub-block `r`. -/
abbrev qT (i : grid0.Coords) (r : Fin 8) (a : Fin 128) : Fin 4096 := ⟨pos i r + a.val, by have := pos_le i r; omega⟩
/-- The position of key `n` of its window. -/
abbrev kT (i : grid0.Coords) (r : Fin 8) (n : Fin 384) : Fin 4096 := ⟨start i r + n.val, by have := start_le i r; omega⟩

theorem qWord_at (B : Blocks p z b i x0 x1 x2 x3 x4 x5 x6 x7) (r : Fin 8) (qo : Fin 2 → ℕ) (hqo : qo = ![128 * r.val, 0])
    (hq : ∀ a, qo a + S128x512.size a ≤ S1024x512.size a) (a : Fin 128) (h : Fin 8) (x : Fin 64) :
    qWord i r qo hq x1 x6 x7 (ix2 a ⟨64 * h.val + x.val, by omega⟩)
      = rot (qT i r a) (qAt p b (qT i r a) h) x * (((1 / 8) * (Real.log 2)⁻¹ : ℝ) : EReal) := by
  have hp : ∀ y : Fin 64, View.ld x1 (Rect.unit (s := S1024x512) qo S128x512.size hq) (ix2 a ⟨64 * h.val + y.val, by omega⟩)
      = qAt p b (qT i r a) h y := fun y => by
    refine (ld_rows x1 qo (128 * r.val) hqo hq a _ ⟨128 * r.val + a.val, by omega⟩ rfl).trans (B.query _ _ h y ?_)
    dsimp only [pos]; omega
  unfold qWord k0_pay10
  pointwise
  rw [qRope_at, hp, hp, scale_eq]
  refine congrArg (· * _) ?_
  rw [← rot_eq]
  refine congrArg₂ (fun c s => _ * c + _ * s) ?_ ?_
  · exact (ld_rows x6 _ _ (off1_eq i r) _ a _ (qT i r a) rfl).trans (B.cosT _ ⟨h.val % 2, by omega⟩ x)
  · exact (ld_rows x7 _ _ (off1_eq i r) _ a _ (qT i r a) rfl).trans (B.sinT _ ⟨h.val % 2, by omega⟩ x)

theorem kBand_at (B : Blocks p z b i x0 x1 x2 x3 x4 x5 x6 x7) (r : Fin 8) (n : Fin 384) (g : Fin 2) (x : Fin 64) :
    k0_pay7 (ldK i r x2) (ldK i r x6) (ldK i r x7) (ix2 n ⟨64 * g.val + x.val, by omega⟩)
      = rot (kT i r n) (kAt p b (kT i r n) g) x := by
  rw [kRope_at, ← rot_eq]
  have hk : ∀ y : Fin 64, ldK i r x2 (ix2 n ⟨64 * g.val + y.val, by omega⟩) = kAt p b (kT i r n) g y := fun y =>
    (ld_rows x2 _ _ (off2_eq i r) _ n _ (kT i r n) rfl).trans (B.key _ g y)
  rw [hk, hk]
  refine congrArg₂ (fun c s => _ * c + _ * s) ?_ ?_
  · exact (ld_rows x6 _ _ (off2_eq i r) _ n _ (kT i r n) rfl).trans (B.cosT _ g x)
  · exact (ld_rows x7 _ _ (off2_eq i r) _ n _ (kT i r n) rfl).trans (B.sinT _ g x)

/-- A key head of the window or of the context below it. -/
def keyOf (p : Rows) (b : Fin 4) (g : Fin 2) : Fin 4096 ⊕ Fin 256 → Fin 64 → EReal
  | .inl s => rot s (kAt p b s g)
  | .inr k => kcAt p b k g

theorem kWord_at (B : Blocks p z b i x0 x1 x2 x3 x4 x5 x6 x7) (r : Fin 8) (n : Fin 640) (g : Fin 2) (x : Fin 64) :
    kWord i r x2 x4 x6 x7 (ix2 n ⟨64 * g.val + x.val, by omega⟩) = keyOf p b g (place (start i r) (start_le i r) n) x := by
  unfold kWord k0_pay8
  have hN := kBand_at B r
  generalize k0_pay7 (ldK i r x2) (ldK i r x6) (ldK i r x7) = N at hN
  have hC : ∀ k : Fin 256, View.ld x4 (Rect.unit (s := S256x128) ![0, 0] S256x128.size inb_S256x128_S256x128_0_0)
      (ix2 k ⟨64 * g.val + x.val, by omega⟩) = kcAt p b k g x := fun k =>
    (ld_rows x4 _ 0 rfl _ k _ k (Nat.zero_add _).symm).trans (B.ckey k g x)
  generalize View.ld x4 (Rect.unit (s := S256x128) ![0, 0] S256x128.size inb_S256x128_S256x128_0_0) = C at hC
  pointwise
  unfold place
  split
  · exact hN _ g x
  · exact hC _

theorem wWord_at (B : Blocks p z b i x0 x1 x2 x3 x4 x5 x6 x7) (r : Fin 8) (n : Fin 640) (g : Fin 2) (x : Fin 64) :
    wWord i r x3 x5 (ix2 n ⟨64 * g.val + x.val, by omega⟩)
      = Sum.elim (fun s => vAt p b s g x) (fun k => vcAt p b k g x) (place (start i r) (start_le i r) n) := by
  unfold wWord k0_pay9
  have hN : ∀ n : Fin 384, ldK i r x3 (ix2 n ⟨64 * g.val + x.val, by omega⟩) = vAt p b (kT i r n) g x := fun n =>
    (ld_rows x3 _ _ (off2_eq i r) _ n _ (kT i r n) rfl).trans (B.value _ g x)
  generalize ldK i r x3 = N at hN
  have hC : ∀ k : Fin 256, View.ld x5 (Rect.unit (s := S256x128) ![0, 0] S256x128.size inb_S256x128_S256x128_0_0)
      (ix2 k ⟨64 * g.val + x.val, by omega⟩) = vcAt p b k g x := fun k =>
    (ld_rows x5 _ 0 rfl _ k _ k (Nat.zero_add _).symm).trans (B.cvalue k g x)
  generalize View.ld x5 (Rect.unit (s := S256x128) ![0, 0] S256x128.size inb_S256x128_S256x128_0_0) = C at hC
  pointwise
  unfold place
  split
  · exact hN _
  · exact hC _

theorem bWord_at (i : grid0.Coords) (r : Fin 8) (a : Fin 128) (n : Fin 640) :
    bWord (F := Ideal) i r (ix2 a n) = if 384 ≤ n.val ∨ (start i r + n.val ≤ pos i r + a.val + 128
      ∧ pos i r + a.val ≤ start i r + n.val + 128) then (0 : EReal) else ⊥ := by
  unfold bWord
  rw [qPos_eq, kPos_eq]
  have := pos_le i r
  have := start_le i r
  exact bias_at _ _ (by omega) (by omega) a n

/-! ## Finite entries -/

/-- Every entry the mixer reads is a real number. -/
structure AllReal (p : Rows) (z : Sinks) : Prop where
  q : ∀ b t h x, ∃ r : ℝ, qAt p b t h x = r
  k : ∀ b t g x, ∃ r : ℝ, kAt p b t g x = r
  c : ∀ b k g x, ∃ r : ℝ, kcAt p b k g x = r
  s : ∀ h : Fin 8, ∃ r : ℝ, z (ix1 h) = r

theorem rot_real (t : Fin 4096) (f : Fin 64 → EReal) (hf : ∀ x, ∃ r : ℝ, f x = r) (x : Fin 64) : ∃ r : ℝ, rot t f x = r := by
  obtain ⟨α, hα⟩ := angle_real t (half x)
  obtain ⟨u, hu⟩ := hf x
  obtain ⟨w, hw⟩ := hf (mate x)
  unfold rot
  rw [hα, hu, hw, Ideal.cos_coe, Ideal.sin_coe]
  split
  · exact ⟨u * Real.cos α - w * Real.sin α, by rw [EReal.coe_sub, EReal.coe_mul, EReal.coe_mul]⟩
  · exact ⟨u * Real.cos α + w * Real.sin α, by rw [EReal.coe_add, EReal.coe_mul, EReal.coe_mul]⟩

theorem keyOf_real (H : AllReal p z) (g : Fin 2) (s : Fin 4096 ⊕ Fin 256) (x : Fin 64) : ∃ r : ℝ, keyOf p b g s x = r := by
  rcases s with s | k
  · exact rot_real s _ (H.k b s g) x
  · exact H.c b k g x

/-- The reference's scores of one query, latent keys and context keys. -/
abbrev scores (p : Rows) (b : Fin 4) (t : Fin 4096) (h : Fin 8) : Fin 4096 ⊕ Fin 256 → EReal :=
  Sum.elim (scoreL p b t h) (scoreC p b t h)

theorem scores_eq (t : Fin 4096) (h : Fin 8) (s : Fin 4096 ⊕ Fin 256) : scores p b t h s
    = if (∀ u, s = .inl u → u.val ≤ t.val + 128 ∧ t.val ≤ u.val + 128) then
        (∑ x : Fin 64, rot t (qAt p b t h) x * keyOf p b ⟨h.val / 4, by omega⟩ s x) * ((1 / 8 : ℝ) : EReal)
      else ⊥ := by
  rcases s with s | k
  · show scoreL p b t h s = _
    unfold scoreL
    exact if_congr ⟨fun h u hu => by obtain rfl := Sum.inl.inj hu; exact h, fun h => h s rfl⟩ rfl rfl
  · rw [if_pos (fun u hu => nomatch hu)]; rfl

theorem scores_ne_top (H : AllReal p z) (t : Fin 4096) (h : Fin 8) (s : Fin 4096 ⊕ Fin 256) : scores p b t h s ≠ ⊤ := by
  rw [scores_eq]
  split
  · obtain ⟨_, r, hr⟩ := score_scaled _ _ (rot_real t _ (H.q b t h)) (keyOf_real (b := b) H ⟨h.val / 4, by omega⟩ s)
    rw [hr]; exact EReal.coe_ne_top r
  · exact bot_ne_top

/-- Outside the sub-block's window a latent key's score is `⊥`. -/
theorem outside (r : Fin 8) (a : Fin 128) (h : Fin 8) (s : Fin 4096 ⊕ Fin 256)
    (hs : s ∉ Set.range (place (start i r) (start_le i r))) : scores p b (qT i r a) h s = ⊥ := by
  obtain ⟨u, rfl, hu⟩ := mem_place _ _ s hs
  show scoreL p b (qT i r a) h u = ⊥
  unfold scoreL
  refine if_neg fun hw => hu ?_
  have := pos_le i r
  have ha := a.isLt
  have hu := u.isLt
  have hd : 128 ∣ pos i r := ⟨8 * (i 1).val + r.val, by unfold pos; omega⟩
  dsimp only at hw
  unfold start
  omega

/-- What sub-block `r` stores at query `a`, head `h`, lane `d`. -/
theorem stored_at (B : Blocks p z b i x0 x1 x2 x3 x4 x5 x6 x7) (H : AllReal p z) (r : Fin 8) (qo : Fin 2 → ℕ)
    (hqo : qo = ![128 * r.val, 0]) (hq : ∀ a, qo a + S128x512.size a ≤ S1024x512.size a) (a : Fin 128) (h : Fin 8) (d : Fin 64) :
    stored i r qo hq x0 x1 x2 x3 x4 x5 x6 x7 (ix2 a ⟨64 * h.val + d.val, by omega⟩) = result p z b (qT i r a) h d := by
  have hz : ∀ (k : Fin 8) (hk : ∀ a, (![k.val] : Fin 1 → ℕ) a + S1.size a ≤ S8.size a), ldZ x0 ![k.val] hk = z (ix1 k) := fun k hk =>
    (View.ld_unit_apply_of x0 ![k.val] S1.size hk _ (ix1 k) (fun e => match e with | ⟨0, _⟩ => rfl)).trans (B.sink k)
  unfold stored
  rw [show ldZ x0 ![0] inb_S8_S1_0 = z (ix1 0) from hz 0 _, show ldZ x0 ![1] inb_S8_S1_1 = z (ix1 1) from hz 1 _,
    show ldZ x0 ![2] inb_S8_S1_2 = z (ix1 2) from hz 2 _, show ldZ x0 ![3] inb_S8_S1_3 = z (ix1 3) from hz 3 _,
    show ldZ x0 ![4] inb_S8_S1_4 = z (ix1 4) from hz 4 _, show ldZ x0 ![5] inb_S8_S1_5 = z (ix1 5) from hz 5 _,
    show ldZ x0 ![6] inb_S8_S1_6 = z (ix1 6) from hz 6 _, show ldZ x0 ![7] inb_S8_S1_7 = z (ix1 7) from hz 7 _]
  refine (attend_at _ _ _ _ (fun h => z (ix1 h)) a h d).trans ?_
  obtain ⟨s, hs⟩ := H.s h
  have hR : ∀ n : Fin 640, (∑ x : Fin 64, qWord i r qo hq x1 x6 x7 (ix2 a ⟨64 * h.val + x.val, by omega⟩)
        * kWord i r x2 x4 x6 x7 (ix2 n ⟨64 * (h.val / 4) + x.val, by omega⟩)) + bWord (F := Ideal) i r (ix2 a n)
      = (scores p b (qT i r a) h ∘ place (start i r) (start_le i r)) n * log2e := fun n => by
    have hsum : (∑ x : Fin 64, qWord i r qo hq x1 x6 x7 (ix2 a ⟨64 * h.val + x.val, by omega⟩)
        * kWord i r x2 x4 x6 x7 (ix2 n ⟨64 * (h.val / 4) + x.val, by omega⟩))
        = ∑ x : Fin 64, rot (qT i r a) (qAt p b (qT i r a) h) x * (((1 / 8) * (Real.log 2)⁻¹ : ℝ) : EReal)
          * keyOf p b ⟨h.val / 4, by omega⟩ (place (start i r) (start_le i r) n) x :=
      Finset.sum_congr rfl fun x _ => congrArg₂ (· * ·) (qWord_at B r qo hqo hq a h x) (kWord_at B r n ⟨h.val / 4, by omega⟩ x)
    obtain ⟨hmul, ρ, hρ⟩ := score_scaled _ _ (rot_real (qT i r a) _ (H.q b (qT i r a) h))
      (keyOf_real (b := b) H ⟨h.val / 4, by omega⟩ (place (start i r) (start_le i r) n))
    rw [hsum, hmul, bWord_at, Function.comp_apply, scores_eq]
    have hcond : (384 ≤ n.val ∨ (start i r + n.val ≤ pos i r + a.val + 128 ∧ pos i r + a.val ≤ start i r + n.val + 128)) ↔
        ∀ u, place (start i r) (start_le i r) n = .inl u → u.val ≤ (qT i r a).val + 128 ∧ (qT i r a).val ≤ u.val + 128 := by
      unfold place
      split
      · refine ⟨fun hc u hu => ?_, fun hc => .inr (hc _ rfl)⟩
        obtain rfl := Sum.inl.inj hu
        exact hc.resolve_left (by omega)
      · exact ⟨fun _ u hu => (nomatch hu), fun _ => .inl (by omega)⟩
    rw [if_congr hcond rfl rfl]
    split
    · rw [add_zero]
    · rw [EReal.add_bot, log2e_eq, EReal.bot_mul_coe_of_pos inv_log_two_pos]
  have hv : ∀ n : Fin 640, wWord i r x3 x5 (ix2 n ⟨64 * (h.val / 4) + d.val, by omega⟩)
      = (Sum.elim (fun s => vAt p b s ⟨h.val / 4, by omega⟩ d) (fun k => vcAt p b k ⟨h.val / 4, by omega⟩ d)
          ∘ place (start i r) (start_le i r)) n := fun n => wWord_at B r n ⟨h.val / 4, by omega⟩ d
  simp only [hR, hv]
  unfold result
  rw [hs]
  refine (outOf_eq (scores p b (qT i r a) h ∘ place (start i r) (start_le i r)) (fun n => scores_ne_top H _ _ _) s _).trans ?_
  exact softOf_comp _ (place_injective _ _) _ _ (scores_ne_top H _ _) s (outside r a h)

end Cert.SwaBlock

end
-- ==== Proof.Array.lean ====
/- The kernel's result array is the reference's. -/
module

public import proofs.«01_k».proof.Proof.KernelValue

@[expose] public section

set_option maxRecDepth 16384

noncomputable section

namespace Cert.SwaBlock

open Cert.KernelIdeal Cert.KernelIdeal.Gen Idealize.ShloMosaic Idealize.ShloMosaic.TcCoe

variable (m : (ℓ : Loc nD τ sig) → Buf (Elt Ideal) ℓ)

/-- Where each window's block lies at a point of the grid. -/
theorem block_index : ∀ t : Fin grid0.N, win0_0.index t = ![0]
    ∧ win0_1.index t = ![4 * (grid0.coords t 0).val + (grid0.coords t 1).val, 0]
    ∧ win0_2.index t = ![(grid0.coords t 0).val, 4] ∧ win0_3.index t = ![(grid0.coords t 0).val, 5]
    ∧ win0_4.index t = ![64 + (grid0.coords t 0).val, 4] ∧ win0_5.index t = ![64 + (grid0.coords t 0).val, 5]
    ∧ win0_6.index t = ![0, 0] ∧ win0_7.index t = ![0, 0]
    ∧ win0_8.index t = ![4 * (grid0.coords t 0).val + (grid0.coords t 1).val, 0] := by decide +kernel

/-- The batch entry of a point. -/
def batch (t : Fin cfg0.N) : Fin 4 := ⟨(grid0.coords t 0).val, (grid0.coords t 0).isLt⟩

theorem quarter_lt (t : Fin cfg0.N) : (grid0.coords t 1).val < 4 := (grid0.coords t 1).isLt

/-- The mixer's input and the sinks as a run finds them. -/
abbrev pOf (c : Dev nD) : Rows := m ((c : Thread nD τ).loc main_arg0)
abbrev zOfM (c : Dev nD) : Sinks := m ((c : Thread nD τ).loc main_arg1)

theorem pOf_eq (c : Dev nD) : pOf m c = V m c main_arg0 := (V_main_arg0 m c).symm
theorem zOfM_eq (c : Dev nD) : zOfM m c = V m c main_arg1 := (V_main_arg1 m c).symm

section Reads

variable (c : Dev nD) (t : Fin cfg0.N)

theorem read_sink (h : Fin 8) : iblk m c 0 t (ix1 h) = zOfM m c (ix1 h) := by
  rw [zOfM_eq m c]
  blk_ext [iblk, block_index t]
theorem read_query (a : Fin 1024) (s : Fin 4096) (h : Fin 8) (x : Fin 64)
    (hs : s.val = 1024 * (grid0.coords t 1).val + a.val) :
    X0_1 m c t (ix2 a ⟨64 * h.val + x.val, by omega⟩) = qAt (pOf m c) (batch t) s h x := by
  unfold X0_1 Pipeline.Window.fill qAt
  rw [dif_pos (moved0_1 t _), pOf_eq m c]
  blk_ext [iblk, block_index t, batch]
theorem read_key (s : Fin 4096) (g : Fin 2) (x : Fin 64) :
    X0_2 m c t (ix2 s ⟨64 * g.val + x.val, by omega⟩) = kAt (pOf m c) (batch t) s g x := by
  unfold X0_2 Pipeline.Window.fill kAt
  rw [dif_pos (moved0_2 t _), pOf_eq m c]
  blk_ext [iblk, block_index t, batch]
theorem read_value (s : Fin 4096) (g : Fin 2) (x : Fin 64) :
    X0_3 m c t (ix2 s ⟨64 * g.val + x.val, by omega⟩) = vAt (pOf m c) (batch t) s g x := by
  unfold X0_3 Pipeline.Window.fill vAt
  rw [dif_pos (moved0_3 t _), pOf_eq m c]
  blk_ext [iblk, block_index t, batch]
theorem read_ckey (k : Fin 256) (g : Fin 2) (x : Fin 64) :
    iblk m c 4 t (ix2 k ⟨64 * g.val + x.val, by omega⟩) = kcAt (pOf m c) (batch t) k g x := by
  unfold kcAt
  rw [pOf_eq m c]
  blk_ext [iblk, block_index t, batch]
theorem read_cvalue (k : Fin 256) (g : Fin 2) (x : Fin 64) :
    iblk m c 5 t (ix2 k ⟨64 * g.val + x.val, by omega⟩) = vcAt (pOf m c) (batch t) k g x := by
  unfold vcAt
  rw [pOf_eq m c]
  blk_ext [iblk, block_index t, batch]
theorem read_cos (s : Fin 4096) (l : Fin 128) : iblk m c 6 t (ix2 s l) = V m c main_v31 (ix2 s l) := by
  blk_ext [iblk, block_index t]
theorem read_sin (s : Fin 4096) (l : Fin 128) : iblk m c 7 t (ix2 s l) = V m c main_v34 (ix2 s l) := by
  blk_ext [iblk, block_index t]

/-- The blocks of point `t` are the parts of the arguments and tables that its sub-blocks read. -/
theorem blocks_at : Blocks (pOf m c) (zOfM m c) (batch t) (grid0.coords t)
    (iblk m c 0 t) (X0_1 m c t) (X0_2 m c t) (X0_3 m c t) (iblk m c 4 t) (iblk m c 5 t) (iblk m c 6 t) (iblk m c 7 t) where
  sink := read_sink m c t
  query := read_query m c t
  key := read_key m c t
  value := read_value m c t
  ckey := read_ckey m c t
  cvalue := read_cvalue m c t
  cosT s g x := (read_cos m c t s _).trans (cos_table m c s g x)
  sinT s g x := (read_sin m c t s _).trans (sin_table m c s g x)

end Reads

/-- Sub-block `r`'s store, where its band of rows holds index `y` of the point's block. -/
theorem tile {p : Rows} {z : Sinks} {b : Fin 4} {i : grid0.Coords} {x0 : Vec Ideal S8 .f32} {x1 : Vec Ideal S1024x512 .bf16}
    {x2 x3 : Vec Ideal S4096x128 .bf16} {x4 x5 : Vec Ideal S256x128 .bf16} {x6 x7 : Vec Ideal S4096x128 .f32}
    (B : Blocks p z b i x0 x1 x2 x3 x4 x5 x6 x7) (H : AllReal p z) (r : Fin 8) (qo : Fin 2 → ℕ) (hqo : qo = ![128 * r.val, 0])
    (hq : ∀ a, qo a + S128x512.size a ≤ S1024x512.size a) (y : S1024x512.Idx) (s : Fin 4096) (h : Fin 8) (d : Fin 64)
    (hs : s.val = 1024 * (i 1).val + (y 0).val) (hy : (y 1).val = 64 * h.val + d.val) :
    View.TileAt (Val := Elt Ideal) (e := .bf16) y qo S128x512.size (stored i r qo hq x0 x1 x2 x3 x4 x5 x6 x7) (result p z b s h d) := by
  intro x hx
  have h0 : (y 0).val = 128 * r.val + (x 0).val := by have := hx 0; rw [hqo] at this; exact this
  have h1 : (y 1).val = (x 1).val := by have := hx 1; rw [hqo] at this; exact this.trans (Nat.zero_add _)
  have hxe : x = ix2 (⟨(x 0).val, (x 0).isLt⟩ : Fin 128) (⟨64 * h.val + d.val, by omega⟩ : Fin 512) := funext fun a => match a with
    | ⟨0, _⟩ => rfl
    | ⟨1, _⟩ => Fin.ext (h1.symm.trans hy)
  refine (congrArg (stored i r qo hq x0 x1 x2 x3 x4 x5 x6 x7) hxe).trans
    ((stored_at B H r qo hqo hq ⟨(x 0).val, (x 0).isLt⟩ h d).trans ?_)
  exact congrArg (fun s => result p z b s h d) (Fin.ext (by dsimp only [pos]; omega))

/-- The kernel's result array. -/
theorem array_eq (c : Dev nD) (H : AllReal (pOf m c) (zOfM m c)) :
    (dats m 0 c).arrAt 8 cfg0.N = Cert.ReferenceIdeal.Read.val_main_v121 (F := Ideal) (pOf m c) (zOfM m c) := by
  refine (dats m 0 c).arrAt_eq_of_covers 8 _ (by decide +kernel) fun t hf y => ?_
  blk_simp
  rw [after0_8]
  unfold outsAt0 out0_A_8
  rw [View.read_writes_junk_eq_canon]
  have hy0 : (y 0).val < 1024 := (y 0).isLt
  have hy1 : (y 1).val < 512 := (y 1).isLt
  have hq := quarter_lt t
  have hb := (batch t).isLt
  have he : (win0_8.blk t).view.emb y = ix2 ⟨(batch t).val * 4096 + (1024 * (grid0.coords t 1).val + (y 0).val), by omega⟩
      ⟨64 * ((y 1).val / 64) + (y 1).val % 64, by omega⟩ := by
    blk_ext [block_index t, batch]
  rw [he]
  refine Eq.trans ?_ (r121 (pOf m c) (zOfM m c) (batch t) ⟨1024 * (grid0.coords t 1).val + (y 0).val, by omega⟩
    ⟨(y 1).val / 64, by omega⟩ ⟨(y 1).val % 64, by omega⟩).symm
  have B := blocks_at m c t
  have T := fun r qo hqo hq => tile B H r qo hqo hq y ⟨1024 * (grid0.coords t 1).val + (y 0).val, by omega⟩
    ⟨(y 1).val / 64, by omega⟩ ⟨(y 1).val % 64, by omega⟩ rfl (by dsimp only; omega)
  refine View.canon_eq_of_allAt _ _ _ (cover0_A_8 _ _ _ _ _ _ _ _ _ _ _ _ _ _ _ _ _ _ _ _ _ _ _ _ _ _ _ _ y) ?_
  rw [run_pieces]
  exact View.allAt_cons_unit _ _ _ _ _ (T 7 _ rfl _) <| View.allAt_cons_unit _ _ _ _ _ (T 6 _ rfl _) <|
    View.allAt_cons_unit _ _ _ _ _ (T 5 _ rfl _) <| View.allAt_cons_unit _ _ _ _ _ (T 4 _ rfl _) <|
    View.allAt_cons_unit _ _ _ _ _ (T 3 _ rfl _) <| View.allAt_cons_unit _ _ _ _ _ (T 2 _ rfl _) <|
    View.allAt_cons_unit _ _ _ _ _ (T 1 _ rfl _) <| View.allAt_cons_unit _ _ _ _ _ (T 0 _ rfl _) <| View.allAt_nil _ _

end Cert.SwaBlock

end
-- ==== Proof.Claims.lean ====
/- The claims, each from its part. -/
module

public import proofs.«01_k».proof.Defs
public import proofs.«01_k».proof.Proof.Array

@[expose] public section

set_option maxRecDepth 16384

noncomputable section

namespace Cert.SwaBlock

open Idealize.ShloMosaic Idealize.ShloMosaic.TcCoe Idealize.SL.Sem

/-- The precondition's own side conditions. -/
instance finite_facts : Cert.Pre_finite.Facts where
  slices_S17408x768_S17408x640_0_0 := by decide +kernel
  bitsLt_bf16_f32 := by decide
  bcast_S_S17408x640 := by decide +kernel
  bcast_S_S8 := by decide +kernel

theorem ofBits_inf : Ideal.ofBits FTy.f32 0x7F800000#32 = ⊤ := by simp [Ideal.ofBits, Ideal.ieee]

/-- An entry the precondition's comparison admits is a real number. -/
theorem real_of_lt (x : EReal)
    (h : BitVec.ofBool (decide (FloatOps.absf (F := Ideal) (φ := .f32) x < Ideal.ofBits FTy.f32 0x7F800000#32)) = 1#1) :
    ∃ r : ℝ, x = r := by
  rw [ofBits_inf] at h
  change BitVec.ofBool (decide (max x (-x) < ⊤)) = 1#1 at h
  have hlt : max x (-x) < ⊤ := by
    by_contra hn
    rw [decide_eq_false hn] at h
    exact absurd h (by decide)
  induction x with
  | top => exact absurd hlt (by simp)
  | bot => exact absurd hlt (by simp)
  | coe r => exact ⟨r, rfl⟩

theorem all_real [hPre : Cert.Pre_finite.Facts] (p : Rows) (z : Sinks)
    (h1 : (Cert.Pre_finite.fn (F := Ideal) p z).1 = fun _ => 1#1) (h2 : (Cert.Pre_finite.fn (F := Ideal) p z).2 = fun _ => 1#1) :
    AllReal p z := by
  have e : ∀ (a : Fin 17408) (l : Fin 768) (_ : l.val < 640), ∃ r : ℝ, p (ix2 a l) = r := fun a l hl => by
    have := congrFun h1 (ix2 a ⟨l.val, hl⟩)
    dsimp only [Cert.Pre_finite.fn] at this
    pointwise at this
    exact real_of_lt _ this
  refine ⟨fun b t h x => e _ _ ?_, fun b t g x => e _ _ ?_, fun b k g x => e _ _ ?_, fun h => ?_⟩
  · show 64 * h.val + x.val < 640; omega
  · show 512 + (64 * g.val + x.val) < 640; omega
  · show 512 + (64 * g.val + x.val) < 640; omega
  · have := congrFun h2 (ix1 h)
    dsimp only [Cert.Pre_finite.fn] at this
    pointwise at this
    exact real_of_lt _ this

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three constants read as the reals (and `−∞`) they round. -/
theorem preserves : Cert.preserves_Kernel_KernelIdeal :=
  ⟨IdealRules.named_const.statement Cert.KernelIdeal.κ "scale_log2e" .f32 0x3E38AA3B#32 (((1 / 8) * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- Kernel and reference end with equal results on finite queries, keys and sinks. -/
theorem algebraic [hPre : Cert.Pre_finite.Facts] : Cert.algebraic_KernelIdeal_ReferenceIdeal_pre_finite := by
  intro m g m' g' hpre hagree
  refine ⟨fun c => Cert.ReferenceIdeal.Read.val_main_v121 (F := Ideal) (pOf m c) (zOfM m c),
    (θ_run Cert.KernelIdeal.defs _ _).mono (fun r h c => ⟨(h c).1.trans (array_eq m c (all_real _ _ (hpre c).1 (hpre c).2)), (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  refine (Cert.ReferenceIdeal.Read.val_main_v121_eq (StableHlo.launchContents m' c)).trans ?_
  exact congrArg₂ (Cert.ReferenceIdeal.Read.val_main_v121 (F := Ideal)) (hagree c).1 (hagree c).2

end Cert.SwaBlock

end
-- ==== Proof.Ffn.lean ====
/- The dense feed-forward call: the value at one row and column, from the arguments. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe

/-- The sigmoid-weighted unit, `x / (1 + exp (−x))`. -/
def silu (x : EReal) : EReal := x * Ideal.div 1 (1 + Ideal.exp (-x))

/-- The shapes of the arguments. -/
abbrev Tokens := (⟨S17408x1024, .bf16⟩ : BufTy).Contents (Elt Ideal)
abbrev Stream := (⟨S17408x1024, .f32⟩ : BufTy).Contents (Elt Ideal)
abbrev Mods := (⟨S8x6x1024, .f32⟩ : BufTy).Contents (Elt Ideal)
abbrev Up := (⟨S1024x2816, .f32⟩ : BufTy).Contents (Elt Ideal)
abbrev Down := (⟨S2816x1024, .f32⟩ : BufTy).Contents (Elt Ideal)

/-- A hidden unit of one token, from its row. -/
def unit (t : Fin 1024 → EReal) (w1 w3 : Up) (k : Fin 2816) : EReal :=
  silu (∑ d, t d * w1 (ix2 d k)) * ∑ d, t d * w3 (ix2 d k)

/-- Which row of modulations a row of the stream takes: its batch entry's if latent, else the context's. -/
def seg (r : Fin 17408) : Fin 8 := ⟨if r.val < 16384 then r.val / 4096 else 4, by split <;> omega⟩

/-- The new stream at a row and column. -/
def value (T : Tokens) (X : Stream) (M : Mods) (w1 w3 : Up) (w2 : Down) (r : Fin 17408) (o : Fin 1024) : EReal :=
  X (ix2 r o) + M (ix3 (seg r) 5 o) * ∑ k, unit (fun d => T (ix2 r d)) w1 w3 k * w2 (ix2 k o)

/-- What a point stores, at a row of its block and a column. -/
theorem stored_at (v0 : Vec Ideal S512x1024 .bf16) (v1 v12 : Vec Ideal S1024x2816 .bf16) (v17 : Vec Ideal S512x1024 .f32)
    (v18 : Vec Ideal S1x1x1024 .f32) (v20 : Vec Ideal S2816x1024 .bf16) (a : Fin 512) (o : Fin 1024) :
    k0_pay1 v0 v1 v12 v17 v18 v20 (ix2 a o)
      = v17 (ix2 a o) + v18 (ix3 0 0 o) * ∑ k, unit (fun d => v0 (ix2 a d)) v1 v12 k * v20 (ix2 k o) := by
  unfold k0_pay1 unit silu
  pointwise
  simp only [zero_sub]

end Cert.Ffn
-- ==== Proof.FfnRef.lean ====
/- The feed-forward reference at an index. -/
module

public import proofs.«01_k».proof.Proof.Ffn

@[expose] public section

set_option maxRecDepth 16384

noncomputable section

namespace Cert.Ffn

open Cert.Reference2Ideal Cert.Reference2Ideal.Gen Cert.Reference2Ideal.Read Idealize.ShloMosaic Idealize.ShloMosaic.TcCoe

variable (T : Tokens) (X : Stream) (M : Mods) (w1 w3 : Up) (w2 : Down)

theorem r4 (r : Fin 17408) (k : Fin 2816) :
    val_main_v4 (F := Ideal) T w1 w3 (ix2 r k) = unit (fun d => T (ix2 r d)) w1 w3 k := by
  unfold val_main_v4 val_main_v3 val_main_v2 val_main_call0_v5 val_main_call0_v4 val_main_call0_v3 val_main_call0_v2
    val_main_call0_v1 val_main_call0_v0 val_main_call0_cst val_main_call0_cst_0 val_main_v1 val_main_v0 unit silu
  pointwise

theorem r5 (r : Fin 17408) (o : Fin 1024) :
    val_main_v5 (F := Ideal) T w1 w3 w2 (ix2 r o) = ∑ k, unit (fun d => T (ix2 r d)) w1 w3 k * w2 (ix2 k o) := by
  refine (val_main_v5_apply T w1 w3 w2 (ix2 r o)).trans (Finset.sum_congr rfl fun k _ => ?_)
  refine congrArg₂ (· * ·) ((congrArg _ ?_).trans (r4 T w1 w3 r k)) (congrArg _ ?_) <;>
    exact funext fun a => match a with | ⟨0, _⟩ => rfl | ⟨1, _⟩ => rfl

/-- The reference's result. -/
theorem result_at (r : Fin 17408) (o : Fin 1024) :
    val_main_v28 (F := Ideal) T X M w1 w3 w2 (ix2 r o) = value T X M w1 w3 w2 r o := by
  unfold val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7 val_main_v6 value seg
  generalize hy : val_main_v5 (F := Ideal) T w1 w3 w2 = y
  pointwise
  subst hy
  rw [← r5]
  have hr := r.isLt
  by_cases h : r.val < 16384
  · have e : r.val / 4096 * 4096 + r.val % 4096 = r.val := by omega
    simp only [h, e, dite_true, if_true, Fin.eta]
  · have e : 16384 + ((r.val - 16384) / 256 * 256 + (r.val - 16384) % 256) = r.val := by omega
    simp only [h, e, dite_false, if_false, Fin.eta]
    rfl

end Cert.Ffn
-- ==== Proof.FfnArray.lean ====
/- The feed-forward call's result array, and its claims. -/
module

public import proofs.«01_k».proof.Defs
public import proofs.«01_k».proof.Proof.FfnRef
public import proofs.«01_k».proof.Proof.Gen.Kernel2
public import proofs.«01_k».proof.Proof.Gen.Kernel2.Frame
public import proofs.«01_k».proof.Proof.Gen.Reference2Ideal

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ)

/-- Where each window's block lies at a point of the grid. -/
theorem block_index : ∀ t : Fin grid0.N, win0_0.index t = ![t.val, 0] ∧ win0_1.index t = ![t.val, 0]
    ∧ win0_2.index t = ![if t.val < 32 then t.val / 8 else 4, 0, 0] ∧ win0_3.index t = ![0, 0] ∧ win0_4.index t = ![0, 0]
    ∧ win0_5.index t = ![0, 0] ∧ win0_7.index t = ![t.val, 0] := by decide +kernel

section Reads

variable (c : Dev nD) (t : Fin cfg0.N)

/-- The row of the stream at row `a` of point `t`'s block. -/
def row (a : Fin 512) : Fin 17408 := ⟨t.val * 512 + a.val, by have : t.val < 34 := t.isLt; omega⟩

theorem read_token (a : Fin 512) (d : Fin 1024) :
    iblk m c 0 t (ix2 a d) = m ((c : Thread nD τ).loc main_arg0) (ix2 (row t a) d) := by
  rw [← V_main_arg0 m c]
  blk_ext [iblk, block_index t, row]
theorem read_stream (a : Fin 512) (d : Fin 1024) :
    iblk m c 1 t (ix2 a d) = m ((c : Thread nD τ).loc main_arg1) (ix2 (row t a) d) := by
  rw [← V_main_arg1 m c]
  blk_ext [iblk, block_index t, row]
theorem read_mod (a : Fin 512) (k : Fin 6) (d : Fin 1024) :
    iblk m c 2 t (ix3 0 k d) = m ((c : Thread nD τ).loc main_arg2) (ix3 (seg (row t a)) k d) := by
  rw [← V_main_arg2 m c]
  have ht : t.val < 34 := t.isLt
  have e : (seg (row t a)).val = if t.val < 32 then t.val / 8 else 4 := by
    dsimp only [seg, row]
    split <;> split <;> omega
  blk_ext [iblk, block_index t, e]
theorem read_w1 (d : Fin 1024) (k : Fin 2816) : iblk m c 3 t (ix2 d k) = m ((c : Thread nD τ).loc main_arg3) (ix2 d k) := by
  have e : V m c main_v0 (ix2 d k) = m ((c : Thread nD τ).loc main_arg3) (ix2 d k) := by
    unfold_abbrev_sides
    after_results
    pointwise
  rw [← e]
  blk_ext [iblk, block_index t]
theorem read_w3 (d : Fin 1024) (k : Fin 2816) : iblk m c 4 t (ix2 d k) = m ((c : Thread nD τ).loc main_arg4) (ix2 d k) := by
  have e : V m c main_v1 (ix2 d k) = m ((c : Thread nD τ).loc main_arg4) (ix2 d k) := by
    unfold_abbrev_sides
    after_results
    pointwise
  rw [← e]
  blk_ext [iblk, block_index t]
theorem read_w2 (k : Fin 2816) (o : Fin 1024) : iblk m c 5 t (ix2 k o) = m ((c : Thread nD τ).loc main_arg5) (ix2 k o) := by
  have e : V m c main_v2 (ix2 k o) = m ((c : Thread nD τ).loc main_arg5) (ix2 k o) := by
    unfold_abbrev_sides
    after_results
    pointwise
  rw [← e]
  blk_ext [iblk, block_index t]

end Reads

/-- What point `t` leaves in its block of the result. -/
theorem block_at (c : Dev nD) (t : Fin cfg0.N) (a : Fin 512) (o : Fin 1024) :
    out0_7 (iblk m c 0 t) (iblk m c 1 t) (iblk m c 2 t) (iblk m c 3 t) (iblk m c 4 t) (iblk m c 5 t) (iblk m c 6 t) (ix2 a o)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (row t a) o := by
  unfold out0_7
  rw [View.canon_cons_unit_lit _ _ _ (by decide), stored_at]
  have hv : ∀ o, View.ld (iblk m c 2 t) r0_2 (ix3 0 0 o) = iblk m c 2 t (ix3 0 5 o) := fun o =>
    View.ld_unit_apply_of _ _ _ _ _ _ fun a => match a with | ⟨0, _⟩ => rfl | ⟨1, _⟩ => rfl | ⟨2, _⟩ => (Nat.zero_add _).symm
  have h2 : ∀ {n k : ℕ} {e : EltTy} (X : Vec Ideal ⟨2, ![n, k]⟩ e) (inb) (i : (⟨2, ![n, k]⟩ : Shape).Idx),
      View.ld X (Rect.unit (s := ⟨2, ![n, k]⟩) ![0, 0] ![n, k] inb) i = X i := fun X inb i =>
    View.ld_unit_apply_of _ _ _ _ _ _ fun a => match a with | ⟨0, _⟩ => (Nat.zero_add _).symm | ⟨1, _⟩ => (Nat.zero_add _).symm
  unfold value unit
  have e0 : ∀ d, View.ld (iblk m c 0 t) r0_0 (ix2 a d) = _ := fun d => (h2 _ _ _).trans (read_token m c t a d)
  have e3 : ∀ d k, View.ld (iblk m c 3 t) r0_1 (ix2 d k) = _ := fun d k => (h2 _ _ _).trans (read_w1 m c t d k)
  have e4 : ∀ d k, View.ld (iblk m c 4 t) r0_1 (ix2 d k) = _ := fun d k => (h2 _ _ _).trans (read_w3 m c t d k)
  have e5 : ∀ k, View.ld (iblk m c 5 t) r0_3 (ix2 k o) = _ := fun k => (h2 _ _ _).trans (read_w2 m c t k o)
  rw [hv, read_mod m c t a, h2, read_stream]
  simp only [e0, e3, e4, e5]

/-- The kernel's result array. -/
theorem array_eq (c : Dev nD) :
    (dats m 0 c).arrAt 7 cfg0.N = Cert.Reference2Ideal.Read.val_main_v28 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 7 _ (by decide +kernel) fun t hf y => ?_
  blk_simp
  rw [after0_7]
  have he : (win0_7.blk t).view.emb y = ix2 (row t (y 0)) (y 1) := by
    blk_ext [block_index t, row]
  rw [he]
  refine Eq.trans ?_ (result_at _ _ _ _ _ _ (row t (y 0)) (y 1)).symm
  exact (congrArg _ (funext fun a => match a with | ⟨0, _⟩ => rfl | ⟨1, _⟩ => rfl)).trans (block_at m c t (y 0) (y 1))

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with equal results. -/
theorem algebraic : Cert.algebraic_Kernel2Ideal_Reference2Ideal := by
  intro m g m' g' _ hagree
  refine ⟨_,
    (θ_run Cert.Kernel2Ideal.defs _ _).mono (fun r h c => ⟨(h c).1.trans (array_eq m c), (h c).2⟩)
      (Cert.Kernel2Ideal.Value.run_blocks (F := Ideal) m g),
    (θ_run Cert.Reference2Ideal.defs _ _).mono (fun r h c => ⟨(h c).1.trans ?_, (h c).2⟩)
      (Cert.Reference2Ideal.Value.run (F := Ideal) m' g')⟩
  refine (Cert.Reference2Ideal.Read.val_main_v28_eq _ _ _ _ _ _).trans ?_
  obtain ⟨h0, h1, h2, h3, h4, h5, -⟩ := hagree c
  rw [← h0, ← h1, ← h2, ← h3, ← h4, ← h5]

end Cert.Ffn
-- ==== Proof.Route.lean ====
module

public import Idealize.ShloMosaic.Lib.Pipeline.Kit
public import Idealize.ShloMosaic.Lib.Pointwise
public import Idealize.ShloMosaic.PureOps.Ideal

/-! # Which expert each tile of rows goes to

The experts' calls are steered by two small tables: the expert of each of the 76 tiles of 512 rows, and the number of
tiles in use. Here are the tables in range, and what the words computed from them amount to. -/

@[expose] public section

noncomputable section

namespace Cert.Moe

open Idealize.ShloMosaic

/-- A choice of experts for the tiles: each of the eight experts is allowed, and at least one tile is in use. -/
structure Route where
  experts : (⟨1, ![76]⟩ : Shape).Idx → BitVec 32
  used : (⟨1, ![1]⟩ : Shape).Idx → BitVec 32
  experts_lt : ∀ x, (experts x).toNat < 8
  used_pos : ∀ x, 1 ≤ (used x).toNat
  used_le : ∀ x, (used x).toNat ≤ 76

/-- A one-element table has one index, -/
theorem Route.one (x y : (⟨1, ![1]⟩ : Shape).Idx) : x = y := by
  funext a; fin_cases a
  have hx : (x 0).val < 1 := (x 0).isLt
  have hy : (y 0).val < 1 := (y 0).isLt
  exact Fin.ext (by show (x 0).val = (y 0).val; omega)

/-- and an index of the other is its one coordinate. -/
theorem Route.idx_ext {x y : (⟨1, ![76]⟩ : Shape).Idx} (h : (x 0).val = (y 0).val) : x = y := by
  funext a; fin_cases a; exact Fin.ext h

/-- The index of tile `n`. -/
def Route.tile (n : ℕ) (h : n < 76) : (⟨1, ![76]⟩ : Shape).Idx :=
  fun a => ⟨n, by have e : a = 0 := Subsingleton.elim _ _; subst e; exact h⟩

theorem ofNat_small (n : ℕ) (h : n < 4294967296) : (BitVec.ofNat 32 n).toNat = n := by
  rw [BitVec.toNat_ofNat]; exact Nat.mod_eq_of_lt h

/-- A word in range is one of 77. -/
theorem word_cases (w : BitVec 32) (h : w.toNat ≤ 76) : ∃ n : Fin 77, w = BitVec.ofNat 32 n.val :=
  ⟨⟨w.toNat, by omega⟩, BitVec.eq_of_toNat_eq (by rw [ofNat_small _ (by show w.toNat < _; omega)])⟩

/-! ## Indices clipped to the tiles in use -/

theorem clip_here (w : BitVec 32) (h1 : 1 ≤ w.toNat) (h2 : w.toNat ≤ 76) (i : ℕ) (hi : i < 76) :
    (Scalar.indexCast (Scalar.minsi (Scalar.subi w 1#32) (Scalar.maxsi 0#32 (BitVec.ofNat 32 i)))).toNat = min (w.toNat - 1) i := by
  have H : ∀ n : Fin 77, ∀ k : Fin 76, 1 ≤ n.val →
      (Scalar.indexCast (Scalar.minsi (Scalar.subi (BitVec.ofNat 32 n.val) 1#32) (Scalar.maxsi 0#32 (BitVec.ofNat 32 k.val)))).toNat = min (n.val - 1) k.val := by
    decide +kernel
  obtain ⟨n, rfl⟩ := word_cases w h2
  have e : (BitVec.ofNat 32 n.val).toNat = n.val := ofNat_small _ (by omega)
  rw [e] at h1 ⊢
  exact H n ⟨i, hi⟩ h1

theorem clip_before (w : BitVec 32) (h1 : 1 ≤ w.toNat) (h2 : w.toNat ≤ 76) (i : ℕ) (hi : i < 76) :
    (Scalar.indexCast (Scalar.minsi (Scalar.subi w 1#32) (Scalar.maxsi 0#32 (Scalar.subi (BitVec.ofNat 32 i) 1#32)))).toNat = min (w.toNat - 1) (i - 1) := by
  have H : ∀ n : Fin 77, ∀ k : Fin 76, 1 ≤ n.val →
      (Scalar.indexCast (Scalar.minsi (Scalar.subi (BitVec.ofNat 32 n.val) 1#32) (Scalar.maxsi 0#32 (Scalar.subi (BitVec.ofNat 32 k.val) 1#32)))).toNat = min (n.val - 1) (k.val - 1) := by
    decide +kernel
  obtain ⟨n, rfl⟩ := word_cases w h2
  have e : (BitVec.ofNat 32 n.val).toNat = n.val := ofNat_small _ (by omega)
  rw [e] at h1 ⊢
  exact H n ⟨i, hi⟩ h1

theorem clip_in (w : BitVec 32) (h1 : 1 ≤ w.toNat) (h2 : w.toNat ≤ 76) (i : ℕ) (hi : i < 76) :
    (Scalar.minsi (BitVec.ofNat 32 i) (Scalar.subi w 1#32)).toNat = min (w.toNat - 1) i := by
  have H : ∀ n : Fin 77, ∀ k : Fin 76, 1 ≤ n.val →
      (Scalar.minsi (BitVec.ofNat 32 k.val) (Scalar.subi (BitVec.ofNat 32 n.val) 1#32)).toNat = min (n.val - 1) k.val := by
    decide +kernel
  obtain ⟨n, rfl⟩ := word_cases w h2
  have e : (BitVec.ofNat 32 n.val).toNat = n.val := ofNat_small _ (by omega)
  rw [e] at h1 ⊢
  exact H n ⟨i, hi⟩ h1

/-! ## The tests on them -/

theorem slt_iff (w : BitVec 32) (_ : 1 ≤ w.toNat) (h2 : w.toNat ≤ 76) (i : ℕ) (hi : i < 76) :
    Scalar.cmpi .ne (Scalar.extui (Scalar.cmpi .slt (BitVec.ofNat 32 i) w)) 0#32 = 1#1 ↔ i < w.toNat := by
  have H : ∀ n : Fin 77, ∀ k : Fin 76,
      (Scalar.cmpi .ne (Scalar.extui (Scalar.cmpi .slt (BitVec.ofNat 32 k.val) (BitVec.ofNat 32 n.val))) 0#32 = 1#1 ↔ k.val < n.val) := by
    decide +kernel
  obtain ⟨n, rfl⟩ := word_cases w h2
  have e : (BitVec.ofNat 32 n.val).toNat = n.val := ofNat_small _ (by omega)
  rw [e]
  exact H n ⟨i, hi⟩

theorem sge_iff (w : BitVec 32) (_ : 1 ≤ w.toNat) (h2 : w.toNat ≤ 76) (i : ℕ) (hi : i < 76) :
    Scalar.cmpi .ne (Scalar.extui (Scalar.cmpi .sge (BitVec.ofNat 32 i) w)) 0#32 = 1#1 ↔ w.toNat ≤ i := by
  have H : ∀ n : Fin 77, ∀ k : Fin 76,
      (Scalar.cmpi .ne (Scalar.extui (Scalar.cmpi .sge (BitVec.ofNat 32 k.val) (BitVec.ofNat 32 n.val))) 0#32 = 1#1 ↔ n.val ≤ k.val) := by
    decide +kernel
  obtain ⟨n, rfl⟩ := word_cases w h2
  have e : (BitVec.ofNat 32 n.val).toNat = n.val := ofNat_small _ (by omega)
  rw [e]
  exact H n ⟨i, hi⟩

/-- The reload test: the first tile, or two different words. -/
theorem change_iff (i : ℕ) (hi : i < 76) (a b : BitVec 32) :
    Scalar.cmpi .ne (Scalar.extui (Scalar.ori (Scalar.cmpi .eq (BitVec.ofNat 32 i) 0#32) (Scalar.cmpi .ne a b))) 0#32 = 1#1 ↔ (i = 0 ∨ a ≠ b) := by
  have H : ∀ k : Fin 76, ∀ c : Bool,
      (Scalar.cmpi .ne (Scalar.extui (Scalar.ori (Scalar.cmpi .eq (BitVec.ofNat 32 k.val) 0#32) (BitVec.ofBool c))) 0#32 = 1#1 ↔ (k.val = 0 ∨ c = true)) := by
    decide +kernel
  refine (H ⟨i, hi⟩ (a != b)).trans ?_
  rw [bne_iff_ne]

/-! ## What the precondition says of a word -/

theorem both_true (a b : Bool) (h : BitVec.ofBool a &&& BitVec.ofBool b = 1#1) : a = true ∧ b = true := by
  revert a b; decide

theorem expert_lt (w : BitVec 32) (h : IntOp.andi (IntOp.cmpi .sge w 0#32) (IntOp.cmpi .slt w 8#32) = 1#1) : w.toNat < 8 := by
  obtain ⟨h0, h1⟩ := both_true ((0#32).sle w) (w.slt 8#32) h
  rw [BitVec.sle_iff_toInt_le] at h0
  rw [BitVec.slt_iff_toInt_lt] at h1
  have e8 : (8#32).toInt = 8 := by decide
  have e0 : (0#32).toInt = 0 := by decide
  rw [e8] at h1; rw [e0] at h0
  rw [BitVec.toInt_eq_toNat_cond] at h0 h1
  have := w.isLt
  split at h1 <;> omega

theorem used_range (w : BitVec 32) (h : IntOp.andi (IntOp.cmpi .sge w 1#32) (IntOp.cmpi .sle w 76#32) = 1#1) : 1 ≤ w.toNat ∧ w.toNat ≤ 76 := by
  obtain ⟨h0, h1⟩ := both_true ((1#32).sle w) (w.sle 76#32) h
  rw [BitVec.sle_iff_toInt_le] at h0 h1
  have e8 : (76#32).toInt = 76 := by decide
  have e0 : (1#32).toInt = 1 := by decide
  rw [e8] at h1; rw [e0] at h0
  rw [BitVec.toInt_eq_toNat_cond] at h0 h1
  have := w.isLt
  split at h1 <;> omega

end Cert.Moe

end
-- ==== Proof.Down.lean ====
module

public import proofs.«01_k».proof.Proof.Route
public import proofs.«01_k».proof.Proof.Gen.Kernel4Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! # The experts' second product

The frame of the call for EVERY pair of tables in range, not for one instance of them: `ch` is any assignment of
experts to row tiles together with any number of tiles in use (`Route`). Three paths occur. On path A the tile's
expert changes and the weight columns are reloaded into the scratch; on path B the tile is in use and the scratch is
kept; on path C the tile is past the last one in use and a block of zeros is stored. -/

@[expose] public section

set_option maxRecDepth 16384
set_option Elab.async false

noncomputable section

namespace Cert.Down

open Cert Cert.Moe Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (ch : Route)

/-! ## The words the body reads -/

/-- The number of tiles in use, as the body reads it. -/
abbrev word : BitVec 32 :=
  View.readAt (Elt Ideal) (tbM0_1).view (Rect.unit (s := S1) ![0] S1.size inb_S1_S1_0).toLoadRect ch.used (Shape.Idx.first (numel1_S1.symm ▸ Nat.one_pos))

theorem word_eq (x : S1.Idx) : word ch = ch.used x :=
  (show word ch = ch.used _ from rfl).trans (congrArg ch.used (Route.one x _).symm)

theorem word_pos : 1 ≤ (word ch).toNat := ch.used_pos _
theorem word_le : (word ch).toNat ≤ 76 := ch.used_le _

/-- Where the body reads the tile's own expert: at the tile, or at the last tile in use. -/
theorem off2_eq (i : grid0.Coords) (w : BitVec 32) (h1 : 1 ≤ w.toNat) (h2 : w.toNat ≤ 76) :
    k0_off2 i w = ![min (w.toNat - 1) (i 1).val] := by
  unfold k0_off2
  exact congrArg (fun n : ℕ => (![n] : Fin 1 → ℕ)) (clip_here w h1 h2 (i 1).val (i 1).isLt)

/-- Where it reads the expert of the tile before. -/
theorem off3_eq (i : grid0.Coords) (w : BitVec 32) (h1 : 1 ≤ w.toNat) (h2 : w.toNat ≤ 76) :
    k0_off3 i w = ![min (w.toNat - 1) ((i 1).val - 1)] := by
  unfold k0_off3
  exact congrArg (fun n : ℕ => (![n] : Fin 1 → ℕ)) (clip_before w h1 h2 (i 1).val (i 1).isLt)

/-- Both reads lie in the table, so the body's two checks hold at every point. -/
theorem chk1 (i : grid0.Coords) : k0_chk1 i (word ch) := by
  have h := word_le ch
  unfold k0_chk1
  rw [off2_eq i _ (word_pos ch) h]
  intro a; fin_cases a
  show min ((word ch).toNat - 1) (i 1).val + 1 ≤ 76
  omega

theorem chk2 (i : grid0.Coords) : k0_chk2 i (word ch) := by
  have h := word_le ch
  unfold k0_chk2
  rw [off3_eq i _ (word_pos ch) h]
  intro a; fin_cases a
  show min ((word ch).toNat - 1) ((i 1).val - 1) + 1 ≤ 76
  omega

/-- The expert the body reads for the tile, and for the tile before it. -/
abbrev here (i : grid0.Coords) : BitVec 32 :=
  View.readAt (Elt Ideal) (tbM0_0).view (Rect.unit (s := S76) (k0_off2 i (word ch)) S1.size (k0_off2_inb i (word ch) (chk1 ch i))).toLoadRect ch.experts (Shape.Idx.first (numel1_S1.symm ▸ Nat.one_pos))
abbrev before (i : grid0.Coords) : BitVec 32 :=
  View.readAt (Elt Ideal) (tbM0_0).view (Rect.unit (s := S76) (k0_off3 i (word ch)) S1.size (k0_off3_inb i (word ch) (chk2 ch i))).toLoadRect ch.experts (Shape.Idx.first (numel1_S1.symm ▸ Nat.one_pos))

/-- The body reloads the weights: on the first tile, and where the expert changes. -/
abbrev Reload (i : grid0.Coords) : Prop :=
  (Scalar.cmpi .ne (Scalar.extui (Scalar.ori (Scalar.cmpi .eq (BitVec.ofNat 32 (i 1).val) 0#32) (Scalar.cmpi .ne (here ch i) (before ch i)))) 0#32) = 1#1
/-- The tile is in use; -/
abbrev Live (i : grid0.Coords) : Prop := k0_cond2 i (word ch) = 1#1
/-- the tile is past the last one in use. -/
abbrev Dead (i : grid0.Coords) : Prop := k0_cond3 i (word ch) = 1#1

theorem live_iff (i : grid0.Coords) : Live ch i ↔ (i 1).val < (word ch).toNat :=
  slt_iff (word ch) (word_pos ch) (word_le ch) (i 1).val (i 1).isLt
theorem dead_iff (i : grid0.Coords) : Dead ch i ↔ (word ch).toNat ≤ (i 1).val :=
  sge_iff (word ch) (word_pos ch) (word_le ch) (i 1).val (i 1).isLt
theorem not_dead_of_live (i : grid0.Coords) (h : Live ch i) : ¬Dead ch i := by
  rw [dead_iff]; rw [live_iff] at h; omega
theorem dead_of_not_live (i : grid0.Coords) (h : ¬Live ch i) : Dead ch i := by
  rw [dead_iff]; rw [live_iff] at h; omega

/-- The two reads as entries of the table. -/
theorem here_eq (i : grid0.Coords) (x : S76.Idx) (hx : (x 0).val = min ((word ch).toNat - 1) (i 1).val) : here ch i = ch.experts x := by
  refine (show here ch i = ch.experts _ from rfl).trans (congrArg ch.experts (Route.idx_ext ?_))
  rw [hx]
  exact (Nat.add_zero _).trans (congrFun (off2_eq i _ (word_pos ch) (word_le ch)) 0)
theorem before_eq (i : grid0.Coords) (x : S76.Idx) (hx : (x 0).val = min ((word ch).toNat - 1) ((i 1).val - 1)) : before ch i = ch.experts x := by
  refine (show before ch i = ch.experts _ from rfl).trans (congrArg ch.experts (Route.idx_ext ?_))
  rw [hx]
  exact (Nat.add_zero _).trans (congrFun (off3_eq i _ (word_pos ch) (word_le ch)) 0)

/-- What the reload test says: it fails exactly where the point is not the first of its sweep and both reads agree. -/
theorem reload_iff (i : grid0.Coords) : Reload ch i ↔ ((i 1).val = 0 ∨ here ch i ≠ before ch i) :=
  change_iff (i 1).val (i 1).isLt _ _

/-- Past the last tile in use both reads are of that last tile, so nothing is reloaded there. -/
theorem live_of_reload (i : grid0.Coords) (h : Reload ch i) : Live ch i := by
  by_contra hn
  have hp := word_pos ch; have hl := word_le ch; have hi : (i 1).val < 76 := (i 1).isLt
  rw [live_iff] at hn
  rcases (reload_iff ch i).1 h with h0 | h0
  · omega
  · refine h0 ?_
    have hlt : (word ch).toNat - 1 < 76 := by omega
    rw [here_eq ch i (Route.tile _ hlt) (by show (word ch).toNat - 1 = _; omega),
      before_eq ch i (Route.tile _ hlt) (by show (word ch).toNat - 1 = _; omega)]

/-! ## The pipeline at these tables -/

/-- The tables' contents. -/
def pf : pre0.Contents (Elt Ideal) := fun | ⟨0, _⟩ => ch.experts | ⟨1, _⟩ => ch.used | ⟨_ + 2, h⟩ => absurd h (by simp)

/-- Window 0 stays inside its array. -/
theorem inb_0 : ∀ i : grid0.Coords, ∀ a, (cc0_transform_0 inb_S1_S1_0 numel1_S1 (pf ch) i a + 1) * S512x3584.size a ≤ S38912x3584.size a := by
  have hp := word_pos ch; have hl := word_le ch
  intro i a
  have e : cc0_transform_0 inb_S1_S1_0 numel1_S1 (pf ch) i = ![min ((word ch).toNat - 1) (i 1).val, 0] :=
    congrArg (fun n : ℕ => (![n, 0] : Fin 2 → ℕ)) (clip_in (word ch) hp hl (i 1).val (i 1).isLt)
  rw [e]
  have hi : (i 1).val < 76 := (i 1).isLt
  fin_cases a
  · show (min ((word ch).toNat - 1) (i 1).val + 1) * 512 ≤ 38912
    omega
  · show (0 + 1) * 3584 ≤ 3584
    decide
/-- Window 1 stays inside its array. -/
theorem inb_1 : ∀ i : grid0.Coords, ∀ a, (cc0_transform_1 k0_off1_inb numel1_S1 (pf ch) i a + 1) * S1x1x3584x1024.size a ≤ S2x8x3584x1024.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 1 := (i 0).isLt
  fin_cases a
  · show (0 + 1) * 1 ≤ 2
    decide
  · exact (Nat.mul_one _).trans_le he
  · show (0 + 1) * 3584 ≤ 3584
    decide
  · show ((BitVec.ofNat 32 (i 0).val).toNat + 1) * 1024 ≤ 1024
    rw [hj]; omega
theorem ok_0 : (∀ i : grid0.Coords, ∃ h : (∀ a, (cc0_transform_0 inb_S1_S1_0 numel1_S1 (pf ch) i a + 1) * S512x3584.size a ≤ S38912x3584.size a), EltTy.bits .bf16 = 32 ∨ (Rect.block (s := S38912x3584) S512x3584.size (cc0_transform_0 inb_S1_S1_0 numel1_S1 (pf ch) i) h).WholeWords (EltTy.packing .bf16)) := fun i => ⟨inb_0 ch i, .inr (Affine.block_words_dvd (s := S38912x3584) (p := EltTy.packing .bf16) (by decide) (by decide))⟩
theorem ok_1 : (∀ i : grid0.Coords, ∃ h : (∀ a, (cc0_transform_1 k0_off1_inb numel1_S1 (pf ch) i a + 1) * S1x1x3584x1024.size a ≤ S2x8x3584x1024.size a), EltTy.bits .f32 = 32 ∨ (Rect.block (s := S2x8x3584x1024) S1x1x3584x1024.size (cc0_transform_1 k0_off1_inb numel1_S1 (pf ch) i) h).WholeWords (EltTy.packing .f32)) := fun i => ⟨inb_1 ch i, .inl rfl⟩
/-- The side condition of the launch at these tables. -/
theorem ok : ok0 (F := Ideal) (pf ch) := ⟨ok_0 ch, ok_1 ch⟩

/-- The pipeline at the tables. -/
def adm : (pcfg0 (F := Ideal)).Adm := ⟨pf ch, ok ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- A point's coordinates. -/
abbrev crd (t : Fin (cfgA ch).N) : (cfgA ch).grid.Coords := (cfgA ch).grid.coords t

/-- The staging buffers at a point. -/
abbrev ms0 (t : Fin (cfgA ch).N) : Memref sig .tc .vmem S512x3584 .bf16 := spec0_0.stage ((cfgA ch).slots t (0 : Fin 3))
abbrev hs0 (t : Fin (cfgA ch).N) : (ms0 ch t).IsWhole := hstage0_0 (((cfgA ch).slots t (0 : Fin 3)).cast nbuf0_0)
abbrev ms1 (t : Fin (cfgA ch).N) : Memref sig .tc .vmem S1x1x3584x1024 .f32 := spec0_1.stage ((cfgA ch).slots t (1 : Fin 3))
abbrev hs1 (t : Fin (cfgA ch).N) : (ms1 ch t).IsWhole := hstage0_1 (((cfgA ch).slots t (1 : Fin 3)).cast nbuf0_1)
abbrev ms2 (t : Fin (cfgA ch).N) : Memref sig .tc .vmem S512x1024 .f32 := spec0_2.stage ((cfgA ch).slots t (2 : Fin 3))
abbrev hs2 (t : Fin (cfgA ch).N) : (ms2 ch t).IsWhole := hstage0_2 (((cfgA ch).slots t (2 : Fin 3)).cast nbuf0_2)
/-- Window `w`'s block at point `t`, read off the array the launch finds. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- Some store reaches the output's buffer at every point: the tile is in use or past the last one in use. -/
theorem idle_false (t : Fin (cfgA ch).N) : (cfgA ch).idle (2 : Fin 3) ((cfgA ch).grid.coords t) = false := by
  show (!(k0_cond2 (crd ch t) (word ch) == 1#1) && !(k0_cond3 (crd ch t) (word ch) == 1#1)) = false
  by_cases h : Live ch (crd ch t)
  · rw [show k0_cond2 (crd ch t) (word ch) = 1#1 from h]; rfl
  · rw [show k0_cond3 (crd ch t) (word ch) = 1#1 from dead_of_not_live ch (crd ch t) h, Bool.and_comm]; rfl

/-- A point that does not reload is not the first of the run. -/
theorem ne_zero (t : Fin (cfgA ch).N) (h : ¬Reload ch (crd ch t)) : t.val ≠ 0 := by
  intro h0
  refine h ((reload_iff ch _).2 (.inl ?_))
  exact (by decide +kernel : ∀ t : Fin grid0.N, t.val = 0 → ((grid0.coords t) 1).val = 0) t h0

/-! ## What the output's buffer and the scratches hold after each point -/

/-- One point's step, from what they held before. -/
def step (c : Dev nD) (t : Fin (cfgA ch).N) (prev : (S512x1024.Idx → Elt Ideal .f32) × Buf (Elt Ideal) ((c : Thread nD τ).loc cc0_scratch0)) : (S512x1024.Idx → Elt Ideal .f32) × Buf (Elt Ideal) ((c : Thread nD τ).loc cc0_scratch0) :=
  if q0 : Reload ch (crd ch t) then
    (out0_A_2 c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.1)
  else
    if q1 : Live ch (crd ch t) then
      (out0_B_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1)).2.1)
    else
      (out0_C_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1)).2.1)

/-- What they hold after point `n`. -/
def traj (c : Dev nD) : (n : ℕ) → n < (cfgA ch).N → (S512x1024.Idx → Elt Ideal .f32) × Buf (Elt Ideal) ((c : Thread nD τ).loc cc0_scratch0)
  | 0, h => step ch m ρ c ⟨0, h⟩ (default, default)
  | n + 1, h => step ch m ρ c ⟨n + 1, h⟩ (traj c n (Nat.lt_of_succ_lt h))

/-- What they held before point `t`. -/
def prev (c : Dev nD) (t : Fin (cfgA ch).N) : (S512x1024.Idx → Elt Ideal .f32) × Buf (Elt Ideal) ((c : Thread nD τ).loc cc0_scratch0) :=
  if h : t.val = 0 then (default, default) else traj ch m ρ c (t.val - 1) (by omega)

theorem traj_eq (c : Dev nD) (t : Fin (cfgA ch).N) : traj ch m ρ c t.val t.isLt = step ch m ρ c t (prev ch m ρ c t) := by
  obtain ⟨n, hn⟩ := t
  cases n with
  | zero => rfl
  | succ n => unfold prev; simp only [Nat.add_one_ne_zero, dif_neg, not_false_eq_true]; rfl

/-- The step on path A. -/
theorem step_A (c : Dev nD) (t : Fin (cfgA ch).N) (prev : (S512x1024.Idx → Elt Ideal .f32) × Buf (Elt Ideal) ((c : Thread nD τ).loc cc0_scratch0)) (q0 : Reload ch (crd ch t)) :
    step ch m ρ c t prev = (out0_A_2 c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.1) := by
  unfold step; simp only [dif_pos q0]

/-- The step on path B. -/
theorem step_B (c : Dev nD) (t : Fin (cfgA ch).N) (prev : (S512x1024.Idx → Elt Ideal .f32) × Buf (Elt Ideal) ((c : Thread nD τ).loc cc0_scratch0)) (q0 : ¬Reload ch (crd ch t)) (q1 : Live ch (crd ch t)) :
    step ch m ρ c t prev = (out0_B_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1)).2.1) := by
  unfold step; simp only [dif_neg q0, dif_pos q1]

/-- The step on path C. -/
theorem step_C (c : Dev nD) (t : Fin (cfgA ch).N) (prev : (S512x1024.Idx → Elt Ideal .f32) × Buf (Elt Ideal) ((c : Thread nD τ).loc cc0_scratch0)) (q0 : ¬Reload ch (crd ch t)) (q1 : ¬Live ch (crd ch t)) :
    step ch m ρ c t prev = (out0_C_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1)).2.1) := by
  unfold step; simp only [dif_neg q0, dif_neg q1]

/-! ## The proof data -/

def prevT (c : Dev nD) (t : Fin ((cfgA ch).N + 1)) : (S512x1024.Idx → Elt Ideal .f32) × Buf (Elt Ideal) ((c : Thread nD τ).loc cc0_scratch0) :=
  if h : t.val = 0 then (default, default) else traj ch m ρ c (t.val - 1) (by omega)

theorem prevT_castSucc (c : Dev nD) (t : Fin (cfgA ch).N) : prevT ch m ρ c t.castSucc = prev ch m ρ c t := by
  unfold prevT prev; simp only [Fin.val_castSucc]
theorem prevT_succ (c : Dev nD) (t : Fin (cfgA ch).N) : prevT ch m ρ c t.succ = traj ch m ρ c t.val t.isLt := by
  unfold prevT; simp only [Fin.val_succ, Nat.add_one_ne_zero, ↓reduceDIte, Nat.add_one_sub_one]

/-- The invariant before a point: each scratch at what the points before it left, and the body's halves of the tables. -/
def Phi (c : Dev nD) (t : Fin ((cfgA ch).N + 1)) : sProp 𝕄 :=
  iprop((∃ a, ⌜t.val ≠ 0 → a = (prevT ch m ρ c t).2⌝ ∗ (scM0_0.view.loc (c : Thread nD τ) ↦{fullShare} a)) ∗ (tbM0_0.view.loc (c : Thread nD τ) ↦{fullShare.right} ch.experts) ∗ (tbM0_1.view.loc (c : Thread nD τ) ↦{fullShare.right} ch.used))

def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 3) t
    | ⟨1, _⟩ => iblk ch m ρ c (1 : Fin 3) t
    | ⟨2, _⟩ => (traj ch m ρ c t.val t.isLt).1
  Φ t := Phi ch m ρ c t
  q _ := fullShare
  owed _ := 0

theorem after_0 (c : Dev nD) (t : Fin (cfgA ch).N) : (dats ch m ρ 0 c).after (0 : Fin 3) t = iblk ch m ρ c (0 : Fin 3) t := rfl
theorem after_1 (c : Dev nD) (t : Fin (cfgA ch).N) : (dats ch m ρ 0 c).after (1 : Fin 3) t = iblk ch m ρ c (1 : Fin 3) t := rfl
theorem after_2 (c : Dev nD) (t : Fin (cfgA ch).N) : (dats ch m ρ 0 c).after (2 : Fin 3) t = (traj ch m ρ c t.val t.isLt).1 := rfl

/-- When the body runs, input window 0's buffer holds the block. -/
theorem before_0 (c : Dev nD) (t : Fin (cfgA ch).N) (d) : (dats ch m ρ 0 c).before (0 : Fin 3) t d = iblk ch m ρ c (0 : Fin 3) t :=
  ((dats ch m ρ 0 c).before_in_eq_fetched (0 : Fin 3) rfl (fun _ => rfl) (fun _ _ _ => rfl) (fun t => by rw [after_0]; unfold Dat.blockOf iblk; rfl) t d).trans
    (by unfold Dat.fetched Dat.blockOf iblk; rfl)
/-- When the body runs, input window 1's buffer holds the block. -/
theorem before_1 (c : Dev nD) (t : Fin (cfgA ch).N) (d) : (dats ch m ρ 0 c).before (1 : Fin 3) t d = iblk ch m ρ c (1 : Fin 3) t :=
  ((dats ch m ρ 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The body at a point -/

/-- The body on the staging buffers of point `t`. -/
abbrev bodyAt (t : Fin (cfgA ch).N) : Prog (TpuEff nD τ sig (Elt Ideal) Λ₀ .tc) PUnit :=
  cc0_moe_down (crd ch t) (Memref.whole main_arg0) (Memref.isWhole_whole _) (Memref.whole main_arg1) (Memref.isWhole_whole _) (ms0 ch t) (hs0 ch t) (ms1 ch t) (hs1 ch t) (ms2 ch t) (hs2 ch t) (Memref.whole cc0_scratch0) (Memref.isWhole_whole _)

set_option maxHeartbeats 4000000 in
/-- From the invariant and the windows' buffers the body reaches the invariant of the next point, by path. -/
theorem sound_body (c : Dev nD) (t : Fin (cfgA ch).N) :
    iprop((dats ch m ρ 0 c).Φ t.castSucc ∗ (dats ch m ρ 0 c).owesAt () t.castSucc
        ∗ (∃ d, owns (c : Thread nD τ) (ms0 ch t) fullShare ((dats ch m ρ 0 c).before (0 : Fin 3) t d))
        ∗ (∃ d, owns (c : Thread nD τ) (ms1 ch t) fullShare ((dats ch m ρ 0 c).before (1 : Fin 3) t d))
        ∗ (∃ d, owns (c : Thread nD τ) (ms2 ch t) fullShare ((dats ch m ρ 0 c).before (2 : Fin 3) t d)))
      ⊢ wp frame (wpE (defs₀ (F := Ideal)) Variants.none c none) Set.univ (bodyAt ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : Reload ch (crd ch t)
  · rewrite [idle_false ch t]
    simp only [before_0, before_1, after_0, after_1, after_2]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj_eq, step_A ch m ρ c t _ q0]
    unfold Phi; simp only [prevT_castSucc, prevT_succ, traj_eq, step_A ch m ρ c t _ q0, Fin.val_castSucc, Fin.val_succ]
    iintro ⟨⟨⟨%a0, -, HS0⟩, HT0, HT1⟩, Ho, ⟨%d0, H0⟩, ⟨%d1, H1⟩, ⟨%d2, H2⟩⟩
    iapply ((kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.2 a0 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e, H2⟩, HS0⟩
    isplitl [HS0 HT0 HT1]
    · isplitl [HS0]
      · iexists _; isplitr; swap
        · iexact HS0
        · ipureintro; intro _; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _ _ _ _)
  · have hne : t.val ≠ 0 := ne_zero ch t q0
    by_cases q1 : Live ch (crd ch t)
    · rewrite [idle_false ch t]
      simp only [before_0, before_1, after_0, after_1, after_2]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_B ch m ρ c t _ q0 q1]
      unfold Phi; simp only [prevT_castSucc, prevT_succ, traj_eq, step_B ch m ρ c t _ q0 q1, Fin.val_castSucc, Fin.val_succ]
      simp only [exists_held hne]
      iintro ⟨⟨HS0, HT0, HT1⟩, Ho, ⟨%d0, H0⟩, ⟨%d1, H1⟩, ⟨%d2, H2⟩⟩
      iapply ((kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) _ (chk1 ch (crd ch t)) (chk2 ch (crd ch t)) q0 q1 (not_dead_of_live ch (crd ch t) q1)).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e, H2⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_B_2 c _ _ _ _ _ _ _ _ _ _ _ _ _ _ _ _ _)
    · rewrite [idle_false ch t]
      simp only [before_0, before_1, after_0, after_1, after_2]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_C ch m ρ c t _ q0 q1]
      unfold Phi; simp only [prevT_castSucc, prevT_succ, traj_eq, step_C ch m ρ c t _ q0 q1, Fin.val_castSucc, Fin.val_succ]
      simp only [exists_held hne]
      iintro ⟨⟨HS0, HT0, HT1⟩, Ho, ⟨%d0, H0⟩, ⟨%d1, H1⟩, ⟨%d2, H2⟩⟩
      iapply ((kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) _ (chk1 ch (crd ch t)) (chk2 ch (crd ch t)) q0 q1 (dead_of_not_live ch (crd ch t) q1)).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e, H2⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_C_2 c _ _ _ _ _ _ _ _ _ _ _ _ _ _ _ _ _)

theorem body_obligation (c : Dev nD) : BodyObligation (dats ch m ρ 0 c) (defs₀ (F := Ideal)) Variants.none () Set.univ := fun t => by
  rw [bigSep_W0]
  exact sound_body ch m ρ c t

/-! ## The launch -/

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The two tables as the launch hands them over. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

theorem phi_last (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The launch memory holds these tables, on every device. -/
def Holds (m : (ℓ : Loc nD τ sig) → Buf (Elt Ideal) ℓ) : Prop :=
  (∀ c : Dev nD, m ((c : Thread nD τ).loc main_arg0) = ch.experts) ∧ (∀ c : Dev nD, m ((c : Thread nD τ).loc main_arg1) = ch.used)

/-- What holds at the end: each array at what the pipeline computes, the tables as they were. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem tables_eq (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run from a memory with these tables ends, with the arrays as computed and every counter at zero. -/
theorem run_quiescent (hp : Holds ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre emb₁ defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := tables_eq ch m hp)
    (X := fun _ => iprop(emp)) (Y := fun _ => iprop(emp)) (Z := fun _ => iprop(emp))
    (hX := fun c => by rw [unscopedRestP0_eq]; iintro -; isplitr <;> iempintro)
    (hin := phi_first ch m ρ)
    (hout := phi_last ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds ch m) : θ_run (defs (F := Ideal)) (onTc (τ := τ) (main (F := Ideal))) (s₀ m ρ) (QC ch m ρ) :=
  (θ_run defs _ _).mono (fun _ h => h.1) (run_quiescent ch m ρ hp)

/-- The arguments end unchanged. -/
theorem unchanged (hp : Holds ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm, ((h c).1 (0 : Fin 3)).trans ((dats ch m ρ 0 c).arrAt_in (0 : Fin 3) rfl _), ((h c).1 (1 : Fin 3)).trans ((dats ch m ρ 0 c).arrAt_in (1 : Fin 3) rfl _)⟩) (run ch m ρ hp)

/-- The tables of a memory that satisfies the precondition. -/
theorem route_of_pre [hP : Cert.Pre_experts_down.Facts] (h : Pre_Kernel4Ideal m) : ∃ ch : Route, Holds ch m := by
  have hd : ∀ c d : Dev nD, c = d := by decide
  obtain ⟨h0, h1⟩ := h (0 : Dev nD)
  refine ⟨⟨m (((0 : Dev nD) : Thread nD τ).loc main_arg0), m (((0 : Dev nD) : Thread nD τ).loc main_arg1),
    fun x => expert_lt _ (congrFun h0 x), fun x => (used_range _ (congrFun h1 x)).1, fun x => (used_range _ (congrFun h1 x)).2⟩,
    fun c => by rw [hd c 0], fun c => by rw [hd c 0]⟩

/-- The frame claim. -/
theorem frame_of_pre [hP : Cert.Pre_experts_down.Facts] (m : (ℓ : Loc nD τ sig) → Buf (Elt Ideal) ℓ) (ρ : Dev nD → PrngReg) (h : Pre_Kernel4Ideal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (route_of_pre m h).elim fun ch hp =>
    θ_run_and (unchanged ch m ρ hp) ((θ_run defs _ _).mono (fun _ h => h.2) (run_quiescent ch m ρ hp))

end Cert.Down

end
-- ==== Proof.DownBits.lean ====
module

public import proofs.«01_k».proof.Proof.Route
public import proofs.«01_k».proof.Proof.Gen.Kernel4.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! # The experts' second product, bit by bit

The frame of the call for EVERY pair of tables in range, not for one instance of them: `ch` is any assignment of
experts to row tiles together with any number of tiles in use (`Route`). Three paths occur. On path A the tile's
expert changes and the weight columns are reloaded into the scratch; on path B the tile is in use and the scratch is
kept; on path C the tile is past the last one in use and a block of zeros is stored. -/

@[expose] public section

set_option maxRecDepth 16384
set_option Elab.async false

noncomputable section

namespace Cert.DownBits

open Cert Cert.Moe Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (ch : Route)

/-! ## The words the body reads -/

/-- The number of tiles in use, as the body reads it. -/
abbrev word : BitVec 32 :=
  View.readAt (Elt Bits) (tbM0_1).view (Rect.unit (s := S1) ![0] S1.size inb_S1_S1_0).toLoadRect ch.used (Shape.Idx.first (numel1_S1.symm ▸ Nat.one_pos))

theorem word_eq (x : S1.Idx) : word ch = ch.used x :=
  (show word ch = ch.used _ from rfl).trans (congrArg ch.used (Route.one x _).symm)

theorem word_pos : 1 ≤ (word ch).toNat := ch.used_pos _
theorem word_le : (word ch).toNat ≤ 76 := ch.used_le _

/-- Where the body reads the tile's own expert: at the tile, or at the last tile in use. -/
theorem off2_eq (i : grid0.Coords) (w : BitVec 32) (h1 : 1 ≤ w.toNat) (h2 : w.toNat ≤ 76) :
    k0_off2 i w = ![min (w.toNat - 1) (i 1).val] := by
  unfold k0_off2
  exact congrArg (fun n : ℕ => (![n] : Fin 1 → ℕ)) (clip_here w h1 h2 (i 1).val (i 1).isLt)

/-- Where it reads the expert of the tile before. -/
theorem off3_eq (i : grid0.Coords) (w : BitVec 32) (h1 : 1 ≤ w.toNat) (h2 : w.toNat ≤ 76) :
    k0_off3 i w = ![min (w.toNat - 1) ((i 1).val - 1)] := by
  unfold k0_off3
  exact congrArg (fun n : ℕ => (![n] : Fin 1 → ℕ)) (clip_before w h1 h2 (i 1).val (i 1).isLt)

/-- Both reads lie in the table, so the body's two checks hold at every point. -/
theorem chk1 (i : grid0.Coords) : k0_chk1 i (word ch) := by
  have h := word_le ch
  unfold k0_chk1
  rw [off2_eq i _ (word_pos ch) h]
  intro a; fin_cases a
  show min ((word ch).toNat - 1) (i 1).val + 1 ≤ 76
  omega

theorem chk2 (i : grid0.Coords) : k0_chk2 i (word ch) := by
  have h := word_le ch
  unfold k0_chk2
  rw [off3_eq i _ (word_pos ch) h]
  intro a; fin_cases a
  show min ((word ch).toNat - 1) ((i 1).val - 1) + 1 ≤ 76
  omega

/-- The expert the body reads for the tile, and for the tile before it. -/
abbrev here (i : grid0.Coords) : BitVec 32 :=
  View.readAt (Elt Bits) (tbM0_0).view (Rect.unit (s := S76) (k0_off2 i (word ch)) S1.size (k0_off2_inb i (word ch) (chk1 ch i))).toLoadRect ch.experts (Shape.Idx.first (numel1_S1.symm ▸ Nat.one_pos))
abbrev before (i : grid0.Coords) : BitVec 32 :=
  View.readAt (Elt Bits) (tbM0_0).view (Rect.unit (s := S76) (k0_off3 i (word ch)) S1.size (k0_off3_inb i (word ch) (chk2 ch i))).toLoadRect ch.experts (Shape.Idx.first (numel1_S1.symm ▸ Nat.one_pos))

/-- The body reloads the weights: on the first tile, and where the expert changes. -/
abbrev Reload (i : grid0.Coords) : Prop :=
  (Scalar.cmpi .ne (Scalar.extui (Scalar.ori (Scalar.cmpi .eq (BitVec.ofNat 32 (i 1).val) 0#32) (Scalar.cmpi .ne (here ch i) (before ch i)))) 0#32) = 1#1
/-- The tile is in use; -/
abbrev Live (i : grid0.Coords) : Prop := k0_cond2 i (word ch) = 1#1
/-- the tile is past the last one in use. -/
abbrev Dead (i : grid0.Coords) : Prop := k0_cond3 i (word ch) = 1#1

theorem live_iff (i : grid0.Coords) : Live ch i ↔ (i 1).val < (word ch).toNat :=
  slt_iff (word ch) (word_pos ch) (word_le ch) (i 1).val (i 1).isLt
theorem dead_iff (i : grid0.Coords) : Dead ch i ↔ (word ch).toNat ≤ (i 1).val :=
  sge_iff (word ch) (word_pos ch) (word_le ch) (i 1).val (i 1).isLt
theorem not_dead_of_live (i : grid0.Coords) (h : Live ch i) : ¬Dead ch i := by
  rw [dead_iff]; rw [live_iff] at h; omega
theorem dead_of_not_live (i : grid0.Coords) (h : ¬Live ch i) : Dead ch i := by
  rw [dead_iff]; rw [live_iff] at h; omega

/-- The two reads as entries of the table. -/
theorem here_eq (i : grid0.Coords) (x : S76.Idx) (hx : (x 0).val = min ((word ch).toNat - 1) (i 1).val) : here ch i = ch.experts x := by
  refine (show here ch i = ch.experts _ from rfl).trans (congrArg ch.experts (Route.idx_ext ?_))
  rw [hx]
  exact (Nat.add_zero _).trans (congrFun (off2_eq i _ (word_pos ch) (word_le ch)) 0)
theorem before_eq (i : grid0.Coords) (x : S76.Idx) (hx : (x 0).val = min ((word ch).toNat - 1) ((i 1).val - 1)) : before ch i = ch.experts x := by
  refine (show before ch i = ch.experts _ from rfl).trans (congrArg ch.experts (Route.idx_ext ?_))
  rw [hx]
  exact (Nat.add_zero _).trans (congrFun (off3_eq i _ (word_pos ch) (word_le ch)) 0)

/-- What the reload test says: it fails exactly where the point is not the first of its sweep and both reads agree. -/
theorem reload_iff (i : grid0.Coords) : Reload ch i ↔ ((i 1).val = 0 ∨ here ch i ≠ before ch i) :=
  change_iff (i 1).val (i 1).isLt _ _

/-- Past the last tile in use both reads are of that last tile, so nothing is reloaded there. -/
theorem live_of_reload (i : grid0.Coords) (h : Reload ch i) : Live ch i := by
  by_contra hn
  have hp := word_pos ch; have hl := word_le ch; have hi : (i 1).val < 76 := (i 1).isLt
  rw [live_iff] at hn
  rcases (reload_iff ch i).1 h with h0 | h0
  · omega
  · refine h0 ?_
    have hlt : (word ch).toNat - 1 < 76 := by omega
    rw [here_eq ch i (Route.tile _ hlt) (by show (word ch).toNat - 1 = _; omega),
      before_eq ch i (Route.tile _ hlt) (by show (word ch).toNat - 1 = _; omega)]

/-! ## The pipeline at these tables -/

/-- The tables' contents. -/
def pf : pre0.Contents (Elt Bits) := fun | ⟨0, _⟩ => ch.experts | ⟨1, _⟩ => ch.used | ⟨_ + 2, h⟩ => absurd h (by simp)

/-- Window 0 stays inside its array. -/
theorem inb_0 : ∀ i : grid0.Coords, ∀ a, (cc0_transform_0 inb_S1_S1_0 numel1_S1 (pf ch) i a + 1) * S512x3584.size a ≤ S38912x3584.size a := by
  have hp := word_pos ch; have hl := word_le ch
  intro i a
  have e : cc0_transform_0 inb_S1_S1_0 numel1_S1 (pf ch) i = ![min ((word ch).toNat - 1) (i 1).val, 0] :=
    congrArg (fun n : ℕ => (![n, 0] : Fin 2 → ℕ)) (clip_in (word ch) hp hl (i 1).val (i 1).isLt)
  rw [e]
  have hi : (i 1).val < 76 := (i 1).isLt
  fin_cases a
  · show (min ((word ch).toNat - 1) (i 1).val + 1) * 512 ≤ 38912
    omega
  · show (0 + 1) * 3584 ≤ 3584
    decide
/-- Window 1 stays inside its array. -/
theorem inb_1 : ∀ i : grid0.Coords, ∀ a, (cc0_transform_1 k0_off1_inb numel1_S1 (pf ch) i a + 1) * S1x1x3584x1024.size a ≤ S2x8x3584x1024.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 1 := (i 0).isLt
  fin_cases a
  · show (0 + 1) * 1 ≤ 2
    decide
  · exact (Nat.mul_one _).trans_le he
  · show (0 + 1) * 3584 ≤ 3584
    decide
  · show ((BitVec.ofNat 32 (i 0).val).toNat + 1) * 1024 ≤ 1024
    rw [hj]; omega
theorem ok_0 : (∀ i : grid0.Coords, ∃ h : (∀ a, (cc0_transform_0 inb_S1_S1_0 numel1_S1 (pf ch) i a + 1) * S512x3584.size a ≤ S38912x3584.size a), EltTy.bits .bf16 = 32 ∨ (Rect.block (s := S38912x3584) S512x3584.size (cc0_transform_0 inb_S1_S1_0 numel1_S1 (pf ch) i) h).WholeWords (EltTy.packing .bf16)) := fun i => ⟨inb_0 ch i, .inr (Affine.block_words_dvd (s := S38912x3584) (p := EltTy.packing .bf16) (by decide) (by decide))⟩
theorem ok_1 : (∀ i : grid0.Coords, ∃ h : (∀ a, (cc0_transform_1 k0_off1_inb numel1_S1 (pf ch) i a + 1) * S1x1x3584x1024.size a ≤ S2x8x3584x1024.size a), EltTy.bits .f32 = 32 ∨ (Rect.block (s := S2x8x3584x1024) S1x1x3584x1024.size (cc0_transform_1 k0_off1_inb numel1_S1 (pf ch) i) h).WholeWords (EltTy.packing .f32)) := fun i => ⟨inb_1 ch i, .inl rfl⟩
/-- The side condition of the launch at these tables. -/
theorem ok : ok0 (F := Bits) (pf ch) := ⟨ok_0 ch, ok_1 ch⟩

/-- The pipeline at the tables. -/
def adm : (pcfg0 (F := Bits)).Adm := ⟨pf ch, ok ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-- A point's coordinates. -/
abbrev crd (t : Fin (cfgA ch).N) : (cfgA ch).grid.Coords := (cfgA ch).grid.coords t

/-- The staging buffers at a point. -/
abbrev ms0 (t : Fin (cfgA ch).N) : Memref sig .tc .vmem S512x3584 .bf16 := spec0_0.stage ((cfgA ch).slots t (0 : Fin 3))
abbrev hs0 (t : Fin (cfgA ch).N) : (ms0 ch t).IsWhole := hstage0_0 (((cfgA ch).slots t (0 : Fin 3)).cast nbuf0_0)
abbrev ms1 (t : Fin (cfgA ch).N) : Memref sig .tc .vmem S1x1x3584x1024 .f32 := spec0_1.stage ((cfgA ch).slots t (1 : Fin 3))
abbrev hs1 (t : Fin (cfgA ch).N) : (ms1 ch t).IsWhole := hstage0_1 (((cfgA ch).slots t (1 : Fin 3)).cast nbuf0_1)
abbrev ms2 (t : Fin (cfgA ch).N) : Memref sig .tc .vmem S512x1024 .f32 := spec0_2.stage ((cfgA ch).slots t (2 : Fin 3))
abbrev hs2 (t : Fin (cfgA ch).N) : (ms2 ch t).IsWhole := hstage0_2 (((cfgA ch).slots t (2 : Fin 3)).cast nbuf0_2)
/-- Window `w`'s block at point `t`, read off the array the launch finds. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- Some store reaches the output's buffer at every point: the tile is in use or past the last one in use. -/
theorem idle_false (t : Fin (cfgA ch).N) : (cfgA ch).idle (2 : Fin 3) ((cfgA ch).grid.coords t) = false := by
  show (!(k0_cond2 (crd ch t) (word ch) == 1#1) && !(k0_cond3 (crd ch t) (word ch) == 1#1)) = false
  by_cases h : Live ch (crd ch t)
  · rw [show k0_cond2 (crd ch t) (word ch) = 1#1 from h]; rfl
  · rw [show k0_cond3 (crd ch t) (word ch) = 1#1 from dead_of_not_live ch (crd ch t) h, Bool.and_comm]; rfl

/-- A point that does not reload is not the first of the run. -/
theorem ne_zero (t : Fin (cfgA ch).N) (h : ¬Reload ch (crd ch t)) : t.val ≠ 0 := by
  intro h0
  refine h ((reload_iff ch _).2 (.inl ?_))
  exact (by decide +kernel : ∀ t : Fin grid0.N, t.val = 0 → ((grid0.coords t) 1).val = 0) t h0

/-! ## What the output's buffer and the scratches hold after each point -/

/-- One point's step, from what they held before. -/
def step (c : Dev nD) (t : Fin (cfgA ch).N) (prev : (S512x1024.Idx → Elt Bits .f32) × Buf (Elt Bits) ((c : Thread nD τ).loc cc0_scratch0)) : (S512x1024.Idx → Elt Bits .f32) × Buf (Elt Bits) ((c : Thread nD τ).loc cc0_scratch0) :=
  if q0 : Reload ch (crd ch t) then
    (out0_A_2 c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.1)
  else
    if q1 : Live ch (crd ch t) then
      (out0_B_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1)).2.1)
    else
      (out0_C_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1)).2.1)

/-- What they hold after point `n`. -/
def traj (c : Dev nD) : (n : ℕ) → n < (cfgA ch).N → (S512x1024.Idx → Elt Bits .f32) × Buf (Elt Bits) ((c : Thread nD τ).loc cc0_scratch0)
  | 0, h => step ch m ρ c ⟨0, h⟩ (default, default)
  | n + 1, h => step ch m ρ c ⟨n + 1, h⟩ (traj c n (Nat.lt_of_succ_lt h))

/-- What they held before point `t`. -/
def prev (c : Dev nD) (t : Fin (cfgA ch).N) : (S512x1024.Idx → Elt Bits .f32) × Buf (Elt Bits) ((c : Thread nD τ).loc cc0_scratch0) :=
  if h : t.val = 0 then (default, default) else traj ch m ρ c (t.val - 1) (by omega)

theorem traj_eq (c : Dev nD) (t : Fin (cfgA ch).N) : traj ch m ρ c t.val t.isLt = step ch m ρ c t (prev ch m ρ c t) := by
  obtain ⟨n, hn⟩ := t
  cases n with
  | zero => rfl
  | succ n => unfold prev; simp only [Nat.add_one_ne_zero, dif_neg, not_false_eq_true]; rfl

/-- The step on path A. -/
theorem step_A (c : Dev nD) (t : Fin (cfgA ch).N) (prev : (S512x1024.Idx → Elt Bits .f32) × Buf (Elt Bits) ((c : Thread nD τ).loc cc0_scratch0)) (q0 : Reload ch (crd ch t)) :
    step ch m ρ c t prev = (out0_A_2 c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.1) := by
  unfold step; simp only [dif_pos q0]

/-- The step on path B. -/
theorem step_B (c : Dev nD) (t : Fin (cfgA ch).N) (prev : (S512x1024.Idx → Elt Bits .f32) × Buf (Elt Bits) ((c : Thread nD τ).loc cc0_scratch0)) (q0 : ¬Reload ch (crd ch t)) (q1 : Live ch (crd ch t)) :
    step ch m ρ c t prev = (out0_B_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (not_dead_of_live ch (crd ch t) q1)).2.1) := by
  unfold step; simp only [dif_neg q0, dif_pos q1]

/-- The step on path C. -/
theorem step_C (c : Dev nD) (t : Fin (cfgA ch).N) (prev : (S512x1024.Idx → Elt Bits .f32) × Buf (Elt Bits) ((c : Thread nD τ).loc cc0_scratch0)) (q0 : ¬Reload ch (crd ch t)) (q1 : ¬Live ch (crd ch t)) :
    step ch m ρ c t prev = (out0_C_2 c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) prev.2 (chk1 ch (crd ch t)) (chk2 ch (crd ch t)) q0 q1 (dead_of_not_live ch (crd ch t) q1)).2.1) := by
  unfold step; simp only [dif_neg q0, dif_neg q1]

/-! ## The proof data -/

def prevT (c : Dev nD) (t : Fin ((cfgA ch).N + 1)) : (S512x1024.Idx → Elt Bits .f32) × Buf (Elt Bits) ((c : Thread nD τ).loc cc0_scratch0) :=
  if h : t.val = 0 then (default, default) else traj ch m ρ c (t.val - 1) (by omega)

theorem prevT_castSucc (c : Dev nD) (t : Fin (cfgA ch).N) : prevT ch m ρ c t.castSucc = prev ch m ρ c t := by
  unfold prevT prev; simp only [Fin.val_castSucc]
theorem prevT_succ (c : Dev nD) (t : Fin (cfgA ch).N) : prevT ch m ρ c t.succ = traj ch m ρ c t.val t.isLt := by
  unfold prevT; simp only [Fin.val_succ, Nat.add_one_ne_zero, ↓reduceDIte, Nat.add_one_sub_one]

/-- The invariant before a point: each scratch at what the points before it left, and the body's halves of the tables. -/
def Phi (c : Dev nD) (t : Fin ((cfgA ch).N + 1)) : sProp 𝕄 :=
  iprop((∃ a, ⌜t.val ≠ 0 → a = (prevT ch m ρ c t).2⌝ ∗ (scM0_0.view.loc (c : Thread nD τ) ↦{fullShare} a)) ∗ (tbM0_0.view.loc (c : Thread nD τ) ↦{fullShare.right} ch.experts) ∗ (tbM0_1.view.loc (c : Thread nD τ) ↦{fullShare.right} ch.used))

def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 3) t
    | ⟨1, _⟩ => iblk ch m ρ c (1 : Fin 3) t
    | ⟨2, _⟩ => (traj ch m ρ c t.val t.isLt).1
  Φ t := Phi ch m ρ c t
  q _ := fullShare
  owed _ := 0

theorem after_0 (c : Dev nD) (t : Fin (cfgA ch).N) : (dats ch m ρ 0 c).after (0 : Fin 3) t = iblk ch m ρ c (0 : Fin 3) t := rfl
theorem after_1 (c : Dev nD) (t : Fin (cfgA ch).N) : (dats ch m ρ 0 c).after (1 : Fin 3) t = iblk ch m ρ c (1 : Fin 3) t := rfl
theorem after_2 (c : Dev nD) (t : Fin (cfgA ch).N) : (dats ch m ρ 0 c).after (2 : Fin 3) t = (traj ch m ρ c t.val t.isLt).1 := rfl

/-- When the body runs, input window 0's buffer holds the block. -/
theorem before_0 (c : Dev nD) (t : Fin (cfgA ch).N) (d) : (dats ch m ρ 0 c).before (0 : Fin 3) t d = iblk ch m ρ c (0 : Fin 3) t :=
  ((dats ch m ρ 0 c).before_in_eq_fetched (0 : Fin 3) rfl (fun _ => rfl) (fun _ _ _ => rfl) (fun t => by rw [after_0]; unfold Dat.blockOf iblk; rfl) t d).trans
    (by unfold Dat.fetched Dat.blockOf iblk; rfl)
/-- When the body runs, input window 1's buffer holds the block. -/
theorem before_1 (c : Dev nD) (t : Fin (cfgA ch).N) (d) : (dats ch m ρ 0 c).before (1 : Fin 3) t d = iblk ch m ρ c (1 : Fin 3) t :=
  ((dats ch m ρ 0 c).before_in_eq_fetched (1 : Fin 3) rfl (fun _ => rfl) (fun _ _ _ => rfl) (fun t => by rw [after_1]; unfold Dat.blockOf iblk; rfl) t d).trans
    (by unfold Dat.fetched Dat.blockOf iblk; rfl)

/-! ## The body at a point -/

/-- The body on the staging buffers of point `t`. -/
abbrev bodyAt (t : Fin (cfgA ch).N) : Prog (TpuEff nD τ sig (Elt Bits) Λ₀ .tc) PUnit :=
  cc0_moe_down (crd ch t) (Memref.whole main_arg0) (Memref.isWhole_whole _) (Memref.whole main_arg1) (Memref.isWhole_whole _) (ms0 ch t) (hs0 ch t) (ms1 ch t) (hs1 ch t) (ms2 ch t) (hs2 ch t) (Memref.whole cc0_scratch0) (Memref.isWhole_whole _)

set_option maxHeartbeats 4000000 in
/-- From the invariant and the windows' buffers the body reaches the invariant of the next point, by path. -/
theorem sound_body (c : Dev nD) (t : Fin (cfgA ch).N) :
    iprop((dats ch m ρ 0 c).Φ t.castSucc ∗ (dats ch m ρ 0 c).owesAt () t.castSucc
        ∗ (∃ d, owns (c : Thread nD τ) (ms0 ch t) fullShare ((dats ch m ρ 0 c).before (0 : Fin 3) t d))
        ∗ (∃ d, owns (c : Thread nD τ) (ms1 ch t) fullShare ((dats ch m ρ 0 c).before (1 : Fin 3) t d))
        ∗ (∃ d, owns (c : Thread nD τ) (ms2 ch t) fullShare ((dats ch m ρ 0 c).before (2 : Fin 3) t d)))
      ⊢ wp frame (wpE (defs₀ (F := Bits)) Variants.none c none) Set.univ (bodyAt ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : Reload ch (crd ch t)
  · rewrite [idle_false ch t]
    simp only [before_0, before_1, after_0, after_1, after_2]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj_eq, step_A ch m ρ c t _ q0]
    unfold Phi; simp only [prevT_castSucc, prevT_succ, traj_eq, step_A ch m ρ c t _ q0, Fin.val_castSucc, Fin.val_succ]
    iintro ⟨⟨⟨%a0, -, HS0⟩, HT0, HT1⟩, Ho, ⟨%d0, H0⟩, ⟨%d1, H1⟩, ⟨%d2, H2⟩⟩
    iapply ((kernelRun0_A c (crd ch t) (ms0 ch t) (hs0 ch t) (ms1 ch t) (hs1 ch t) (ms2 ch t) (hs2 ch t) ch.experts ch.used (iblk ch m ρ c (0 : Fin 3) t) (iblk ch m ρ c (1 : Fin 3) t) (chk1 ch (crd ch t)) (chk2 ch (crd ch t)) q0 (live_of_reload ch (crd ch t) q0) (not_dead_of_live ch (crd ch t) (live_of_reload ch (crd ch t) q0))).2.2 a0 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e, H2⟩, HS0⟩
    isplitl [HS0 HT0 HT1]
    · isplitl [HS0]
      · iexists _; isplitr; swap
        · iexact HS0
        · ipureintro; intro _; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _ _ _ _)
  · have hne : t.val ≠ 0 := ne_zero ch t q0
    by_cases q1 : Live ch (crd ch t)
    · rewrite [idle_false ch t]
      simp only [before_0, before_1, after_0, after_1, after_2]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_B ch m ρ c t _ q0 q1]
      unfold Phi; simp only [prevT_castSucc, prevT_succ, traj_eq, step_B ch m ρ c t _ q0 q1, Fin.val_castSucc, Fin.val_succ]
      simp only [exists_held hne]
      iintro ⟨⟨HS0, HT0, HT1⟩, Ho, ⟨%d0, H0⟩, ⟨%d1, H1⟩, ⟨%d2, H2⟩⟩
      iapply ((kernelRun0_B c (crd ch t) (ms0 ch t) (hs0 ch t) (ms1 ch t) (hs1 ch t) (ms2 ch t) (hs2 ch t) ch.experts ch.used (iblk ch m ρ c (0 : Fin 3) t) (iblk ch m ρ c (1 : Fin 3) t) _ (chk1 ch (crd ch t)) (chk2 ch (crd ch t)) q0 q1 (not_dead_of_live ch (crd ch t) q1)).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e, H2⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_B_2 c _ _ _ _ _ _ _ _ _ _ _ _ _ _ _ _ _)
    · rewrite [idle_false ch t]
      simp only [before_0, before_1, after_0, after_1, after_2]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_C ch m ρ c t _ q0 q1]
      unfold Phi; simp only [prevT_castSucc, prevT_succ, traj_eq, step_C ch m ρ c t _ q0 q1, Fin.val_castSucc, Fin.val_succ]
      simp only [exists_held hne]
      iintro ⟨⟨HS0, HT0, HT1⟩, Ho, ⟨%d0, H0⟩, ⟨%d1, H1⟩, ⟨%d2, H2⟩⟩
      iapply ((kernelRun0_C c (crd ch t) (ms0 ch t) (hs0 ch t) (ms1 ch t) (hs1 ch t) (ms2 ch t) (hs2 ch t) ch.experts ch.used (iblk ch m ρ c (0 : Fin 3) t) (iblk ch m ρ c (1 : Fin 3) t) _ (chk1 ch (crd ch t)) (chk2 ch (crd ch t)) q0 q1 (dead_of_not_live ch (crd ch t) q1)).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e, H2⟩, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_C_2 c _ _ _ _ _ _ _ _ _ _ _ _ _ _ _ _ _)

theorem body_obligation (c : Dev nD) : BodyObligation (dats ch m ρ 0 c) (defs₀ (F := Bits)) Variants.none () Set.univ := fun t => by
  rw [bigSep_W0]
  exact sound_body ch m ρ c t

/-! ## The launch -/

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The two tables as the launch hands them over. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

theorem phi_last (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The launch memory holds these tables, on every device. -/
def Holds (m : (ℓ : Loc nD τ sig) → Buf (Elt Bits) ℓ) : Prop :=
  (∀ c : Dev nD, m ((c : Thread nD τ).loc main_arg0) = ch.experts) ∧ (∀ c : Dev nD, m ((c : Thread nD τ).loc main_arg1) = ch.used)

/-- What holds at the end: each array at what the pipeline computes, the tables as they were. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem tables_eq (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run from a memory with these tables ends, with the arrays as computed and every counter at zero. -/
theorem run_quiescent (hp : Holds ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre emb₁ defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := tables_eq ch m hp)
    (X := fun _ => iprop(emp)) (Y := fun _ => iprop(emp)) (Z := fun _ => iprop(emp))
    (hX := fun c => by rw [unscopedRestP0_eq]; iintro -; isplitr <;> iempintro)
    (hin := phi_first ch m ρ)
    (hout := phi_last ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds ch m) : θ_run (defs (F := Bits)) (onTc (τ := τ) (main (F := Bits))) (s₀ m ρ) (QC ch m ρ) :=
  (θ_run defs _ _).mono (fun _ h => h.1) (run_quiescent ch m ρ hp)

/-- The arguments end unchanged. -/
theorem unchanged (hp : Holds ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm, ((h c).1 (0 : Fin 3)).trans ((dats ch m ρ 0 c).arrAt_in (0 : Fin 3) rfl _), ((h c).1 (1 : Fin 3)).trans ((dats ch m ρ 0 c).arrAt_in (1 : Fin 3) rfl _)⟩) (run ch m ρ hp)

/-- The tables of a memory that satisfies the precondition. -/
theorem route_of_pre [hP : Cert.Pre_experts_down.Facts] (h : Pre_Kernel4 m) : ∃ ch : Route, Holds ch m := by
  have hd : ∀ c d : Dev nD, c = d := by decide
  obtain ⟨h0, h1⟩ := h (0 : Dev nD)
  refine ⟨⟨m (((0 : Dev nD) : Thread nD τ).loc main_arg0), m (((0 : Dev nD) : Thread nD τ).loc main_arg1),
    fun x => expert_lt _ (congrFun h0 x), fun x => (used_range _ (congrFun h1 x)).1, fun x => (used_range _ (congrFun h1 x)).2⟩,
    fun c => by rw [hd c 0], fun c => by rw [hd c 0]⟩

/-- The frame claim. -/
theorem frame_of_pre [hP : Cert.Pre_experts_down.Facts] (m : (ℓ : Loc nD τ sig) → Buf (Elt Bits) ℓ) (ρ : Dev nD → PrngReg) (h : Pre_Kernel4 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (route_of_pre m h).elim fun ch hp =>
    θ_run_and (unchanged ch m ρ hp) ((θ_run defs _ _).mono (fun _ h => h.2) (run_quiescent ch m ρ hp))

end Cert.DownBits

end
-- ==== Proof.RouteRef.lean ====
/- The reference's tests on the routing tables: whose row it is, and whether its tile is in use. -/
module

public import proofs.«01_k».proof.Proof.Route
public import Idealize.ShloMosaic.Lib.Affine

@[expose] public section

noncomputable section

namespace Cert.Moe

open Idealize.ShloMosaic

/-- A chosen one of several values is the only one a sum over the choices keeps. -/
theorem sum_chosen (w : BitVec 32) (hw : w.toNat < 8) (f : Fin 8 → EReal) :
    ∑ e : Fin 8, (if IntOp.cmpi .eq w (BitVec.ofNat 32 e.val) = 1#1 then f e else 0) = f ⟨w.toNat, hw⟩ := by
  have h : ∀ e : Fin 8, IntOp.cmpi .eq w (BitVec.ofNat 32 e.val) = 1#1 ↔ (⟨w.toNat, hw⟩ : Fin 8) = e := fun e => by
    have he : (BitVec.ofNat 32 e.val).toNat = e.val := ofNat_small _ (by omega)
    have hb : ∀ b : Bool, BitVec.ofBool b = 1#1 ↔ b = true := by decide
    refine (hb _).trans (beq_iff_eq.trans ⟨fun h => Fin.ext ((congrArg BitVec.toNat h).trans he), fun h => ?_⟩)
    exact BitVec.eq_of_toNat_eq (he.trans (congrArg Fin.val h).symm).symm
  simp only [h, Finset.sum_ite_eq, Finset.mem_univ, if_true]

/-- A row lies before the end of the tiles in use when its tile is one of them. -/
theorem in_use_iff (w : BitVec 32) (h2 : w.toNat ≤ 76) (r : ℕ) (hr : r < 38912) :
    IntOp.cmpi .slt (BitVec.ofNat 32 r) (IntOp.muli w 512#32) = 1#1 ↔ r / 512 < w.toNat := by
  have hb : ∀ b : Bool, BitVec.ofBool b = 1#1 ↔ b = true := by decide
  refine (hb _).trans ?_
  rw [BitVec.slt_iff_toInt_lt]
  have e1 : (BitVec.ofNat 32 r).toNat = r := ofNat_small _ (by omega)
  have e2 : (IntOp.muli w 512#32).toNat = w.toNat * 512 := by
    show (w * 512#32).toNat = _
    rw [BitVec.toNat_mul]
    exact Nat.mod_eq_of_lt (by show w.toNat * 512 < 4294967296; omega)
  rw [BitVec.toInt_eq_toNat_cond, BitVec.toInt_eq_toNat_cond, e1, e2]
  rw [if_pos (by omega), if_pos (by omega)]
  omega

end Cert.Moe

end
-- ==== Proof.DownRef.lean ====
/- The experts' down projection: its value at one row and column, and the reference there. -/
module

public import proofs.«01_k».proof.Proof.RouteRef
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Down

open Cert.Moe Cert.Reference4Ideal Cert.Reference4Ideal.Gen Cert.Reference4Ideal.Read Idealize.ShloMosaic Idealize.ShloMosaic.TcCoe

/-- The shapes of the arguments. -/
abbrev Hidden := (⟨S38912x3584, .bf16⟩ : BufTy).Contents (Elt Ideal)
abbrev Weights := (⟨S2x8x3584x1024, .f32⟩ : BufTy).Contents (Elt Ideal)

variable (ch : Route) (H : Hidden) (W : Weights)

/-- The expert of tile `n`. -/
def expert (n : Fin 76) : Fin 8 := ⟨(ch.experts (ix1 n)).toNat, ch.experts_lt _⟩

/-- The tile of a row. -/
def tileOf (r : Fin 38912) : Fin 76 := ⟨r.val / 512, by omega⟩

/-- A row of the hidden units times a column of one expert's weights. -/
def dot (e : Fin 8) (r : Fin 38912) (o : Fin 1024) : EReal := ∑ k : Fin 3584, H (ix2 r k) * W (ix4 0 e k o)

/-- The result at a row and column: the row's own expert's, or zero past the tiles in use. -/
def value (r : Fin 38912) (o : Fin 1024) : EReal :=
  if r.val / 512 < (ch.used (ix1 0)).toNat then dot H W (expert ch (tileOf r)) r o else 0

theorem r3 (r : Fin 38912) (e : Fin 8) (o : Fin 1024) : val_main_v3 (F := Ideal) H W (ix3 r e o) = dot H W e r o := by
  refine (val_main_v3_apply H W (ix3 r e o)).trans (Finset.sum_congr rfl fun k _ => ?_)
  have hv : val_main_v2 (F := Ideal) W (ix3 e k o) = W (ix4 0 e k o) := by
    unfold val_main_v2 val_main_v1
    pointwise
  refine congrArg₂ (· * ·) (congrArg H ?_) ((congrArg _ ?_).trans hv)
  · exact funext fun a => match a with | ⟨0, _⟩ => rfl | ⟨1, _⟩ => rfl
  · exact funext fun a => match a with | ⟨0, _⟩ => rfl | ⟨1, _⟩ => rfl | ⟨2, _⟩ => rfl

theorem r14 (r : Fin 38912) (e : Fin 8) (o : Fin 1024) : val_main_v14 (F := Ideal) ch.experts H W (ix3 r e o)
    = if IntOp.cmpi .eq (ch.experts (ix1 (tileOf r))) (BitVec.ofNat 32 e.val) = 1#1 then dot H W e r o else 0 := by
  rw [← r3]
  unfold val_main_v14 val_main_call0_v2 val_main_call0_v1 val_main_call0_v0 val_main_cst val_main_v13 val_main_v12
    val_main_v11 val_main_v10 val_main_v9 val_main_v8 val_main_v7 val_main_v6 val_main_v5 val_main_v4
  generalize val_main_v3 (F := Ideal) H W = y
  pointwise
  have hz : constant (F := Ideal) S_ .f32 0#32 ix0 = (0 : EReal) := by pointwise
  exact congrArg (fun z => Scalar.select _ _ z) hz

theorem r15 (r : Fin 38912) (o : Fin 1024) :
    val_main_v15 (F := Ideal) ch.experts H W (ix2 r o) = dot H W (expert ch (tileOf r)) r o := by
  refine (val_main_v15_apply ch.experts H W (ix2 r o)).trans ?_
  rw [show (val_main_cst_0 (F := Ideal)) (Shape.Idx.first h_S_) = (0 : EReal) from by unfold val_main_cst_0; pointwise, zero_add]
  refine Eq.trans (Finset.sum_congr rfl fun e _ => (congrArg _ ?_).trans (r14 ch H W r e o)) (sum_chosen _ (ch.experts_lt _) fun e => dot H W e r o)
  exact funext fun a => match a with | ⟨0, _⟩ => rfl | ⟨1, _⟩ => rfl | ⟨2, _⟩ => rfl

/-- The reference's result. -/
theorem result_at (r : Fin 38912) (o : Fin 1024) :
    val_main_v22 (F := Ideal) ch.experts ch.used H W (ix2 r o) = value ch H W r o := by
  unfold value
  rw [← r15]
  simp only [← in_use_iff (ch.used (ix1 0)) (ch.used_le _) r.val r.isLt]
  unfold val_main_v22 val_main_call1_v2 val_main_call1_v1 val_main_call1_v0 val_main_cst_1 val_main_v21 val_main_v20
    val_main_v19 val_main_v18 val_main_c val_main_v17 val_main_v16
  generalize val_main_v15 (F := Ideal) ch.experts H W = y
  pointwise
  have hz : constant (F := Ideal) S_ .f32 0#32 ix0 = (0 : EReal) := by pointwise
  exact congrArg (fun z => Scalar.select _ _ z) hz

end Cert.Down

end
-- ==== Proof.DownArray.lean ====
/- The experts' down projection: the call's result array, and its claims. -/
module

public import proofs.«01_k».proof.Defs
public import proofs.«01_k».proof.Proof.Down
public import proofs.«01_k».proof.Proof.DownRef
public import proofs.«01_k».proof.Proof.Gen.Reference4Ideal
public import Idealize.ShloMosaic.Lib.Pipeline.ValueKit
public import Idealize.ShloMosaic.Lib.Pointwise
public import Idealize.ShloMosaic.Lib.VecWindow

@[expose] public section

set_option maxRecDepth 16384

noncomputable section

namespace Cert.Down

open Cert.Moe Cert.Kernel4Ideal Cert.Kernel4Ideal.Gen Idealize.ShloMosaic Idealize.ShloMosaic.TcCoe Idealize.SL.Sem

/-! ## What the stores write -/

theorem weights_at (v : Vec Ideal S1x1x3584x1024 .f32) (k : Fin 3584) (o : Fin 1024) : k0_pay1 v (ix2 k o) = v (ix4 0 0 k o) := by
  unfold k0_pay1
  pointwise
theorem product_at (x : Vec Ideal S512x3584 .bf16) (w : Vec Ideal S3584x1024 .bf16) (a : Fin 512) (o : Fin 1024) :
    k0_pay2 x w (ix2 a o) = ∑ k : Fin 3584, x (ix2 a k) * w (ix2 k o) := by
  unfold k0_pay2
  pointwise
theorem zero_at (a : Fin 512) (o : Fin 1024) : k0_pay3 (F := Ideal) (ix2 a o) = (0 : EReal) := by
  unfold k0_pay3
  pointwise

variable (ch : Route) (m : (ℓ : Loc nD τ sig) → Buf (Elt Ideal) ℓ) (ρ : Dev nD → PrngReg)

/-! ## What a point leaves -/

section Steps

variable (c : Dev nD) (t : Fin (cfgA ch).N) (prev : (S512x1024.Idx → Elt Ideal .f32) × Buf (Elt Ideal) ((c : Thread nD τ).loc cc0_scratch0))

/-- The weights the point's product reads, as left in the scratch. -/
abbrev held (s : (S512x1024.Idx → Elt Ideal .f32) × Buf (Elt Ideal) ((c : Thread nD τ).loc cc0_scratch0)) : Vec Ideal S3584x1024 .bf16 :=
  scM0_0.view.read (Elt Ideal) s.2

theorem held_reload (q0 : Reload ch (crd ch t)) : held c (step ch m ρ c t prev) = k0_pay1 (iblk ch m ρ c (1 : Fin 3) t) := by
  rw [step_A ch m ρ c t _ q0]
  unfold held kernelRun0_A
  dsimp only
  unfold kernelRun0_A.sl.HS0_1
  exact (View.read_writes_full _ _ _ _ _).trans (congrArg k0_pay1 (View.readAt_rep_full _ _ _))
theorem held_keep (q0 : ¬Reload ch (crd ch t)) (q1 : Live ch (crd ch t)) : (step ch m ρ c t prev).2 = prev.2 := by
  rw [step_B ch m ρ c t _ q0 q1]
  rfl
theorem out_live (q1 : Live ch (crd ch t)) :
    (step ch m ρ c t prev).1 = k0_pay2 (iblk ch m ρ c (0 : Fin 3) t) (held c (step ch m ρ c t prev)) := by
  by_cases q0 : Reload ch (crd ch t)
  · rw [held_reload ch m ρ c t prev q0, step_A ch m ρ c t _ q0]
    unfold out0_A_2 kernelRun0_A
    dsimp only
    refine (View.read_writes_full _ _ _ _ _).trans (congrArg₂ k0_pay2 (View.readAt_rep_full _ _ _) ?_)
    unfold kernelRun0_A.sl.v27
    refine (View.readAt_writes_full _ _ _ _ _ _).trans (congrArg k0_pay1 (View.readAt_rep_full _ _ _))
  · unfold held
    rw [held_keep ch m ρ c t prev q0 q1, step_B ch m ρ c t _ q0 q1]
    unfold out0_B_2 kernelRun0_B
    dsimp only
    exact (View.read_writes_full _ _ _ _ _).trans (congrArg₂ k0_pay2 (View.readAt_rep_full _ _ _) (View.readAt_full _ _ _))
theorem out_dead (q1 : ¬Live ch (crd ch t)) : (step ch m ρ c t prev).1 = k0_pay3 (F := Ideal) := by
  rw [step_C ch m ρ c t _ (fun q0 => q1 (live_of_reload ch _ q0)) q1]
  unfold out0_C_2 kernelRun0_C
  dsimp only
  exact View.read_writes_full _ _ _ _ _

end Steps

/-! ## Where the blocks lie -/

theorem coords_eq : ∀ t : Fin grid0.N, ((grid0.coords t) 0).val = t.val / 76 ∧ ((grid0.coords t) 1).val = t.val % 76 := by decide +kernel

section Reads

variable (c : Dev nD) (t : Fin (cfgA ch).N)

/-- The tile of a point, -/
def tileAt : Fin 76 := ⟨t.val % 76, by omega⟩
/-- the row of the arrays at row `a` of its blocks, -/
def row (a : Fin 512) : Fin 38912 := ⟨t.val % 76 * 512 + a.val, by omega⟩
/-- and the column at column `o`. -/
def col (o : Fin 1024) : Fin 1024 := ⟨t.val / 76 * 1024 + o.val, by have : t.val < 76 := t.isLt; omega⟩

theorem used_eq : (word ch).toNat = (ch.used (ix1 0)).toNat := congrArg BitVec.toNat (word_eq ch (ix1 0))
theorem live_at : Live ch (crd ch t) ↔ t.val % 76 < (ch.used (ix1 0)).toNat := by
  rw [live_iff, used_eq]
  exact iff_of_eq (congrArg (· < _) (coords_eq t).2)

/-- The hidden units of a tile in use. -/
theorem read_hidden (h : t.val % 76 < (ch.used (ix1 0)).toNat) (a : Fin 512) (k : Fin 3584) :
    iblk ch m ρ c (0 : Fin 3) t (ix2 a k) = m ((c : Thread nD τ).loc main_arg2) (ix2 (row ch t a) k) := by
  have e : cc0_transform_0 inb_S1_S1_0 numel1_S1 (pf ch) (crd ch t) = ![min ((word ch).toNat - 1) ((crd ch t) 1).val, 0] :=
    congrArg (fun n : ℕ => (![n, 0] : Fin 2 → ℕ)) (clip_in (word ch) (word_pos ch) (word_le ch) ((crd ch t) 1).val ((crd ch t) 1).isLt)
  have hi : ((crd ch t) 1).val = t.val % 76 := (coords_eq t).2
  rw [hi, used_eq, show min ((ch.used (ix1 0)).toNat - 1) (t.val % 76) = t.val % 76 by omega] at e
  refine congrArg (m ((c : Thread nD τ).loc main_arg2)) (funext fun d => Fin.ext ?_)
  match d with
  | ⟨0, _⟩ =>
    refine (show _ = cc0_transform_0 inb_S1_S1_0 numel1_S1 (pf ch) (crd ch t) 0 * 512 + 1 * a.val from rfl).trans ?_
    rw [e]; exact congrArg (_ + ·) (Nat.one_mul _)
  | ⟨1, _⟩ =>
    refine (show _ = cc0_transform_0 inb_S1_S1_0 numel1_S1 (pf ch) (crd ch t) 1 * 3584 + 1 * k.val from rfl).trans ?_
    rw [e]; show 0 * 3584 + 1 * k.val = k.val; omega

/-- The weights of the tile's expert. -/
theorem read_weights (k : Fin 3584) (o : Fin 1024) :
    iblk ch m ρ c (1 : Fin 3) t (ix4 0 0 k o) = m ((c : Thread nD τ).loc main_arg3) (ix4 0 (expert ch (tileAt ch t)) k (col ch t o)) := by
  have hi : ((crd ch t) 1).val = t.val % 76 := (coords_eq t).2
  have hj : ((crd ch t) 0).val = t.val / 76 := (coords_eq t).1
  have e1 : cc0_transform_1 k0_off1_inb numel1_S1 (pf ch) (crd ch t) 1 = (ch.experts (ix1 (tileAt ch t))).toNat := by
    refine (show _ = (ch.experts _).toNat from rfl).trans (congrArg (fun x => (ch.experts x).toNat) (Route.idx_ext ?_))
    refine (show _ = (BitVec.ofNat 32 ((crd ch t) 1).val).toNat + 1 * 0 from rfl).trans ?_
    rw [hi, ofNat_small _ (by omega)]; rfl
  have e3 : cc0_transform_1 k0_off1_inb numel1_S1 (pf ch) (crd ch t) 3 = t.val / 76 := by
    refine (show _ = (BitVec.ofNat 32 ((crd ch t) 0).val).toNat from rfl).trans ?_
    have : t.val < 76 := t.isLt
    rw [hj, ofNat_small _ (by omega)]
  refine congrArg (m ((c : Thread nD τ).loc main_arg3)) (funext fun d => Fin.ext ?_)
  match d with
  | ⟨0, _⟩ => rfl
  | ⟨1, _⟩ =>
    refine (show _ = cc0_transform_1 k0_off1_inb numel1_S1 (pf ch) (crd ch t) 1 * 1 + 1 * 0 from rfl).trans ?_
    rw [e1]; exact Nat.mul_one _
  | ⟨2, _⟩ => show 0 * 3584 + 1 * k.val = k.val; omega
  | ⟨3, _⟩ =>
    refine (show _ = cc0_transform_1 k0_off1_inb numel1_S1 (pf ch) (crd ch t) 3 * 1024 + 1 * o.val from rfl).trans ?_
    rw [e3]; exact congrArg (_ + ·) (Nat.one_mul _)

/-- Where a block of the result lies. -/
theorem place (a : Fin 512) (o : Fin 1024) : (((cfgA ch).win (2 : Fin 3)).blk t).view.emb (ix2 a o) = ix2 (row ch t a) (col ch t o) := by
  have hi : ((crd ch t) 1).val = t.val % 76 := (coords_eq t).2
  have hj : ((crd ch t) 0).val = t.val / 76 := (coords_eq t).1
  have ht : t.val < 76 := t.isLt
  refine funext fun d => Fin.ext ?_
  match d with
  | ⟨0, _⟩ =>
    refine (show _ = (BitVec.ofNat 32 ((crd ch t) 1).val).toNat * 512 + 1 * a.val from rfl).trans ?_
    rw [hi, ofNat_small _ (by omega)]; exact congrArg (_ + ·) (Nat.one_mul _)
  | ⟨1, _⟩ =>
    refine (show _ = (BitVec.ofNat 32 ((crd ch t) 0).val).toNat * 1024 + 1 * o.val from rfl).trans ?_
    rw [hj, ofNat_small _ (by omega)]; exact congrArg (_ + ·) (Nat.one_mul _)

end Reads

/-! ## The scratch holds the tile's expert's weights -/

/-- A tile in use that does not reload is not the first, and its expert is the tile's before it. -/
theorem same_expert (t : Fin (cfgA ch).N) (h : t.val % 76 < (ch.used (ix1 0)).toNat) (q0 : ¬Reload ch (crd ch t)) :
    t.val % 76 ≠ 0 ∧ expert ch (tileAt ch t) = expert ch ⟨t.val % 76 - 1, by omega⟩ := by
  have hi : ((crd ch t) 1).val = t.val % 76 := (coords_eq t).2
  have hr := (not_congr (reload_iff ch (crd ch t))).1 q0
  rw [not_or, not_not, hi] at hr
  have hu := used_eq ch
  have e : ch.experts (ix1 (tileAt ch t)) = ch.experts (ix1 ⟨t.val % 76 - 1, by omega⟩) := by
    rw [← here_eq ch (crd ch t) (ix1 (tileAt ch t)) (by rw [hi]; show t.val % 76 = _; omega), hr.2]
    exact before_eq ch (crd ch t) _ (by rw [hi]; show t.val % 76 - 1 = _; omega)
  exact ⟨hr.1, Fin.ext (by show (ch.experts _).toNat = (ch.experts _).toNat; rw [e])⟩

theorem held_at (c : Dev nD) : ∀ (n : ℕ) (hn : n < (cfgA ch).N), n % 76 < (ch.used (ix1 0)).toNat → ∀ (k : Fin 3584) (o : Fin 1024),
    held c (traj ch m ρ c n hn) (ix2 k o)
      = m ((c : Thread nD τ).loc main_arg3) (ix4 0 (expert ch (tileAt ch ⟨n, hn⟩)) k (col ch ⟨n, hn⟩ o)) := by
  intro n
  induction n with
  | zero =>
    intro hn h k o
    rw [traj_eq ch m ρ c ⟨0, hn⟩]
    by_cases q0 : Reload ch (crd ch ⟨0, hn⟩)
    · rw [held_reload ch m ρ c _ _ q0, weights_at, read_weights]
    · exact absurd rfl (same_expert ch ⟨0, hn⟩ h q0).1
  | succ n ih =>
    intro hn h k o
    rw [traj_eq ch m ρ c ⟨n + 1, hn⟩]
    by_cases q0 : Reload ch (crd ch ⟨n + 1, hn⟩)
    · rw [held_reload ch m ρ c _ _ q0, weights_at, read_weights]
    · obtain ⟨h0, he⟩ := same_expert ch ⟨n + 1, hn⟩ h q0
      have h0' : (n + 1) % 76 ≠ 0 := h0
      have hq : Live ch (crd ch ⟨n + 1, hn⟩) := (live_at ch ⟨n + 1, hn⟩).2 h
      unfold held
      rw [held_keep ch m ρ c _ _ q0 hq]
      have e1 : (⟨(n + 1) % 76 - 1, by omega⟩ : Fin 76) = tileAt ch ⟨n, Nat.lt_of_succ_lt hn⟩ := Fin.ext (by show (n + 1) % 76 - 1 = n % 76; omega)
      have e2 : col ch ⟨n + 1, hn⟩ o = col ch ⟨n, Nat.lt_of_succ_lt hn⟩ o := Fin.ext (by show (n + 1) / 76 * 1024 + o.val = n / 76 * 1024 + o.val; omega)
      rw [he, e2]
      exact (ih (Nat.lt_of_succ_lt hn) (by omega) k o).trans (congrArg (fun e => m ((c : Thread nD τ).loc main_arg3) (ix4 0 (expert ch e) k _)) e1.symm)

/-- What point `t` leaves in its block of the result. -/
theorem block_at (c : Dev nD) (t : Fin (cfgA ch).N) (a : Fin 512) (o : Fin 1024) :
    (traj ch m ρ c t.val t.isLt).1 (ix2 a o)
      = value ch (m ((c : Thread nD τ).loc main_arg2)) (m ((c : Thread nD τ).loc main_arg3)) (row ch t a) (col ch t o) := by
  have er : (row ch t a).val / 512 = t.val % 76 := by show (t.val % 76 * 512 + a.val) / 512 = _; omega
  have et : tileOf (row ch t a) = tileAt ch t := Fin.ext er
  unfold value
  rw [er, et]
  by_cases h : t.val % 76 < (ch.used (ix1 0)).toNat
  · rw [if_pos h, traj_eq, out_live ch m ρ c t _ ((live_at ch t).2 h), product_at, ← traj_eq]
    unfold dot
    refine Finset.sum_congr rfl fun k _ => congrArg₂ (· * ·) (read_hidden ch m ρ c t h a k) (held_at ch m ρ c t.val t.isLt h k o)
  · rw [if_neg h, traj_eq, out_dead ch m ρ c t _ (fun q => h ((live_at ch t).1 q)), zero_at]

/-- The precondition's own side conditions. -/
theorem pre_facts : Cert.Pre_experts_down.Facts where
  bcast_S_S76 := by decide +kernel
  bcast_S_S1 := by decide +kernel

/-! ## The result array -/

/-- One choice of tables. -/
def someRoute : Route := ⟨fun _ => 0#32, fun _ => 1#32, fun _ => by decide, fun _ => by decide, fun _ => by decide⟩

theorem covers_some : ((cfgA someRoute).win (2 : Fin 3)).Covers := by decide +kernel
/-- The blocks of the result cover it; where they lie does not depend on the tables. -/
theorem covers : ((cfgA ch).win (2 : Fin 3)).Covers := covers_some

theorem array_eq (c : Dev nD) :
    (dats ch m ρ 0 c).arrAt (2 : Fin 3) (cfgA ch).N = Cert.Reference4Ideal.Read.val_main_v22 (F := Ideal) ch.experts ch.used
      (m ((c : Thread nD τ).loc main_arg2)) (m ((c : Thread nD τ).loc main_arg3)) := by
  refine (dats ch m ρ 0 c).arrAt_eq_of_covers (2 : Fin 3) _ (covers ch) fun t hf y => ?_
  have key : ∀ y : S512x1024.Idx, (traj ch m ρ c t.val t.isLt).1 y = Cert.Reference4Ideal.Read.val_main_v22 (F := Ideal) ch.experts ch.used
      (m ((c : Thread nD τ).loc main_arg2)) (m ((c : Thread nD τ).loc main_arg3)) ((((cfgA ch).win (2 : Fin 3)).blk t).view.emb y) := fun y => by
    obtain ⟨a, o, rfl⟩ : ∃ a o, y = ix2 a o := ⟨y 0, y 1, funext fun d => match d with | ⟨0, _⟩ => rfl | ⟨1, _⟩ => rfl⟩
    rw [place]
    exact (block_at ch m ρ c t a o).trans (result_at ch _ _ (row ch t a) (col ch t o)).symm
  exact key y

theorem frame_ref [hP : Cert.Pre_experts_down.Facts] : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with equal results. -/
theorem algebraic [hP : Cert.Pre_experts_down.Facts] : Cert.algebraic_Kernel4Ideal_Reference4Ideal := by
  intro m g m' g' hpre hagree
  obtain ⟨ch, hp⟩ := route_of_pre m hpre
  have hr : θ_run (defs (F := Ideal)) (onTc (τ := τ) (main (F := Ideal))) ⟨m, fun _ => 0, g⟩ (fun r => ∀ c : Dev nD,
      r.2.mem ((c.tc : Thread nD τ).loc main_v0) = (dats ch m g 0 c).arrAt (2 : Fin 3) (cfgA ch).N) :=
    (θ_run defs _ _).mono (fun _ h c => (h c).1 (2 : Fin 3)) (run ch m g hp)
  refine ⟨_, (θ_run defs _ _).mono (fun r h c => ⟨(h.1 c).trans (array_eq ch m g c), h.2 c⟩) (θ_run_and hr (unchanged ch m g hp)),
    (θ_run Cert.Reference4Ideal.defs _ _).mono (fun r h c => ⟨(h c).1.trans ?_, (h c).2⟩)
      (Cert.Reference4Ideal.Value.run (F := Ideal) m' g')⟩
  refine (Cert.Reference4Ideal.Read.val_main_v22_eq _ _ _ _).trans ?_
  obtain ⟨h0, h1, h2, h3⟩ := hagree c
  rw [h0, h1, h2, h3, hp.1 c, hp.2 c]

end Cert.Down

end
-- ==== Proof.Up.lean ====
module

public import proofs.«01_k».proof.Proof.Route
public import proofs.«01_k».proof.Proof.Gen.Kernel3Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! # The experts' gated product

The frame of the call for EVERY pair of tables in range, not for one instance of them: `ch` is any assignment of
experts to row tiles together with any number of tiles in use (`Route`). Three paths occur. On path A the tile's
expert changes and the weight columns are reloaded into the scratch; on path B the tile is in use and the scratch is
kept; on path C the tile is past the last one in use and a block of zeros is stored. -/

@[expose] public section

set_option maxRecDepth 16384
set_option Elab.async false

noncomputable section

namespace Cert.Up

open Cert Cert.Moe Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (ch : Route)

/-! ## The words the body reads -/

/-- The number of tiles in use, as the body reads it. -/
abbrev word : BitVec 32 :=
  View.readAt (Elt Ideal) (tbM0_1).view (Rect.unit (s := S1) ![0] S1.size inb_S1_S1_0).toLoadRect ch.used (Shape.Idx.first (numel1_S1.symm ▸ Nat.one_pos))

theorem word_eq (x : S1.Idx) : word ch = ch.used x :=
  (show word ch = ch.used _ from rfl).trans (congrArg ch.used (Route.one x _).symm)

theorem word_pos : 1 ≤ (word ch).toNat := ch.used_pos _
theorem word_le : (word ch).toNat ≤ 76 := ch.used_le _

/-- Where the body reads the tile's own expert: at the tile, or at the last tile in use. -/
theorem off2_eq (i : grid0.Coords) (w : BitVec 32) (h1 : 1 ≤ w.toNat) (h2 : w.toNat ≤ 76) :
    k0_off2 i w = ![min (w.toNat - 1) (i 1).val] := by
  unfold k0_off2
  exact congrArg (fun n : ℕ => (![n] : Fin 1 → ℕ)) (clip_here w h1 h2 (i 1).val (i 1).isLt)

/-- Where it reads the expert of the tile before. -/
theorem off3_eq (i : grid0.Coords) (w : BitVec 32) (h1 : 1 ≤ w.toNat) (h2 : w.toNat ≤ 76) :
    k0_off3 i w = ![min (w.toNat - 1) ((i 1).val - 1)] := by
  unfold k0_off3
  exact congrArg (fun n : ℕ => (![n] : Fin 1 → ℕ)) (clip_before w h1 h2 (i 1).val (i 1).isLt)

/-- Both reads lie in the table, so the body's two checks hold at every point. -/
theorem chk1 (i : grid0.Coords) : k0_chk1 i (word ch) := by
  have h := word_le ch
  unfold k0_chk1
  rw [off2_eq i _ (word_pos ch) h]
  intro a; fin_cases a
  show min ((word ch).toNat - 1) (i 1).val + 1 ≤ 76
  omega

theorem chk2 (i : grid0.Coords) : k0_chk2 i (word ch) := by
  have h := word_le ch
  unfold k0_chk2
  rw [off3_eq i _ (word_pos ch) h]
  intro a; fin_cases a
  show min ((word ch).toNat - 1) ((i 1).val - 1) + 1 ≤ 76
  omega

/-- The expert the body reads for the tile, and for the tile before it. -/
abbrev here (i : grid0.Coords) : BitVec 32 :=
  View.readAt (Elt Ideal) (tbM0_0).view (Rect.unit (s := S76) (k0_off2 i (word ch)) S1.size (k0_off2_inb i (word ch) (chk1 ch i))).toLoadRect ch.experts (Shape.Idx.first (numel1_S1.symm ▸ Nat.one_pos))
abbrev before (i : grid0.Coords) : BitVec 32 :=
  View.readAt (Elt Ideal) (tbM0_0).view (Rect.unit (s := S76) (k0_off3 i (word ch)) S1.size (k0_off3_inb i (word ch) (chk2 ch i))).toLoadRect ch.experts (Shape.Idx.first (numel1_S1.symm ▸ Nat.one_pos))

/-- The body reloads the weights: on the first tile, and where the expert changes. -/
abbrev Reload (i : grid0.Coords) : Prop :=
  (Scalar.cmpi .ne (Scalar.extui (Scalar.ori (Scalar.cmpi .eq (BitVec.ofNat 32 (i 1).val) 0#32) (Scalar.cmpi .ne (here ch i) (before ch i)))) 0#32) = 1#1
/-- The tile is in use; -/
abbrev Live (i : grid0.Coords) : Prop := k0_cond2 i (word ch) = 1#1
/-- the tile is past the last one in use. -/
abbrev Dead (i : grid0.Coords) : Prop := k0_cond3 i (word ch) = 1#1

theorem live_iff (i : grid0.Coords) : Live ch i ↔ (i 1).val < (word ch).toNat :=
  slt_iff (word ch) (word_pos ch) (word_le ch) (i 1).val (i 1).isLt
theorem dead_iff (i : grid0.Coords) : Dead ch i ↔ (word ch).toNat ≤ (i 1).val :=
  sge_iff (word ch) (word_pos ch) (word_le ch) (i 1).val (i 1).isLt
theorem not_dead_of_live (i : grid0.Coords) (h : Live ch i) : ¬Dead ch i := by
  rw [dead_iff]; rw [live_iff] at h; omega
theorem dead_of_not_live (i : grid0.Coords) (h : ¬Live ch i) : Dead ch i := by
  rw [dead_iff]; rw [live_iff] at h; omega

/-- The two reads as entries of the table. -/
theorem here_eq (i : grid0.Coords) (x : S76.Idx) (hx : (x 0).val = min ((word ch).toNat - 1) (i 1).val) : here ch i = ch.experts x := by
  refine (show here ch i = ch.experts _ from rfl).trans (congrArg ch.experts (Route.idx_ext ?_))
  rw [hx]
  exact (Nat.add_zero _).trans (congrFun (off2_eq i _ (word_pos ch) (word_le ch)) 0)
theorem before_eq (i : grid0.Coords) (x : S76.Idx) (hx : (x 0).val = min ((word ch).toNat - 1) ((i 1).val - 1)) : before ch i = ch.experts x := by
  refine (show before ch i = ch.experts _ from rfl).trans (congrArg ch.experts (Route.idx_ext ?_))
  rw [hx]
  exact (Nat.add_zero _).trans (congrFun (off3_eq i _ (word_pos ch) (word_le ch)) 0)

/-- What the reload test says: it fails exactly where the point is not the first of its sweep and both reads agree. -/
theorem reload_iff (i : grid0.Coords) : Reload ch i ↔ ((i 1).val = 0 ∨ here ch i ≠ before ch i) :=
  change_iff (i 1).val (i 1).isLt _ _

/-- Past the last tile in use both reads are of that last tile, so nothing is reloaded there. -/
theorem live_of_reload (i : grid0.Coords) (h : Reload ch i) : Live ch i := by
  by_contra hn
  have hp := word_pos ch; have hl := word_le ch; have hi : (i 1).val < 76 := (i 1).isLt
  rw [live_iff] at hn
  rcases (reload_iff ch i).1 h with h0 | h0
  · omega
  · refine h0 ?_
    have hlt : (word ch).toNat - 1 < 76 := by omega
    rw [here_eq ch i (Route.tile _ hlt) (by show (word ch).toNat - 1 = _; omega),
      before_eq ch i (Route.tile _ hlt) (by show (word ch).toNat - 1 = _; omega)]

/-! ## The pipeline at these tables -/

/-- The tables' contents. -/
def pf : pre0.Contents (Elt Ideal) := fun | ⟨0, _⟩ => ch.experts | ⟨1, _⟩ => ch.used | ⟨_ + 2, h⟩ => absurd h (by simp)

/-- Window 0 stays inside its array. -/
theorem inb_0 : ∀ i : grid0.Coords, ∀ a, (cc0_transform_0 inb_S1_S1_0 numel1_S1 (pf ch) i a + 1) * S512x1024.size a ≤ S38912x1024.size a := by
  have hp := word_pos ch; have hl := word_le ch
  intro i a
  have e : cc0_transform_0 inb_S1_S1_0 numel1_S1 (pf ch) i = ![min ((word ch).toNat - 1) (i 1).val, 0] :=
    congrArg (fun n : ℕ => (![n, 0] : Fin 2 → ℕ)) (clip_in (word ch) hp hl (i 1).val (i 1).isLt)
  rw [e]
  have hi : (i 1).val < 76 := (i 1).isLt
  fin_cases a
  · show (min ((word ch).toNat - 1) (i 1).val + 1) * 512 ≤ 38912
    omega
  · show (0 + 1) * 1024 ≤ 1024
    decide
/-- Window 1 stays inside its array. -/
theorem inb_1 : ∀ i : grid0.Coords, ∀ a, (cc0_transform_1 k0_off1_inb numel1_S1 (pf ch) i a + 1) * S1x1x1024x1792.size a ≤ S2x8x1024x3584.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 2 := (i 0).isLt
  fin_cases a
  · show (0 + 1) * 1 ≤ 2
    decide
  · exact (Nat.mul_one _).trans_le he
  · show (0 + 1) * 1024 ≤ 1024
    decide
  · show ((BitVec.ofNat 32 (i 0).val).toNat + 1) * 1792 ≤ 3584
    rw [hj]; omega
/-- Window 2 stays inside its array. -/
theorem inb_2 : ∀ i : grid0.Coords, ∀ a, (cc0_transform_2 k0_off1_inb numel1_S1 (pf ch) i a + 1) * S1x1x1024x1792.size a ≤ S2x8x1024x3584.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 2 := (i 0).isLt
  fin_cases a
  · show (0 + 1) * 1 ≤ 2
    decide
  · exact (Nat.mul_one _).trans_le he
  · show (0 + 1) * 1024 ≤ 1024
    decide
  · show ((BitVec.ofNat 32 (i 0).val).toNat + 1) * 1792 ≤ 3584
    rw [hj]; omega
theorem ok_0 : (∀ i : grid0.Coords, ∃ h : (∀ a, (cc0_transform_0 inb_S1_S1_0 numel1_S1 (pf ch) i a + 1) * S512x1024.size a ≤ S38912x1024.size a), EltTy.bits .f32 = 32 ∨ (Rect.block (s := S38912x1024) S512x1024.size (cc0_transform_0 inb_S1_S1_0 numel1_S1 (pf ch) i) h).WholeWords (EltTy.packing .f32)) := fun i => ⟨inb_0 ch i, .inl rfl⟩
theorem ok_1 : (∀ i : grid0.Coords, ∃ h : (∀ a, (cc0_transform_1 k0_off1_inb numel1_S1 (pf ch) i a + 1) * S1x1x1024x1792.size a ≤ S2x8x1024x3584.size a), EltTy.bits .f32 = 32 ∨ (Rect.block (s := S2x8x1024x3584) S1x1x1024x1792.size (cc0_transform_1 k0_off1_inb numel1_S1 (pf ch) i) h).WholeWords (EltTy.packing .f32)) := fun i => ⟨inb_1 ch i, .inl rfl⟩
theorem ok_2 : (∀ i : grid0.Coords, ∃ h : (∀ a, (cc0_transform_2 k0_off1_inb numel1_S1 (pf ch) i a + 1) * S1x1x1024x1792.size a ≤ S2x8x1024x3584.size a), EltTy.bits .f32 = 32 ∨ (Rect.block (s := S2x8x1024x3584) S1x1x1024x1792.size (cc0_transform_2 k0_off1_inb numel1_S1 (pf ch) i) h).WholeWords (EltTy.packing .f32)) := fun i => ⟨inb_2 ch i, .inl rfl⟩
/-- The side condition of the launch at these tables. -/
theorem ok : ok0 (F := Ideal) (pf ch) := ⟨ok_0 ch, ok_1 ch, ok_2 ch⟩

/-- The pipeline at the tables. -/
def adm : (pcfg0 (F := Ideal)).Adm := ⟨pf ch, ok ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- A point's coordinates. -/
abbrev crd (t : Fin (cfgA ch).N) : (cfgA ch).grid.Coords := (cfgA ch).grid.coords t

/-- The staging buffers at a point. -/
abbrev ms0 (t : Fin (cfgA ch).N) : Memref sig .tc .vmem S512x1024 .f32 := spec0_0.stage ((cfgA ch).slots t (0 : Fin 4))
abbrev hs0 (t : Fin (cfgA ch).N) : (ms0 ch t).IsWhole := hstage0_0 (((cfgA ch).slots t (0 : Fin 4)).cast nbuf0_0)
abbrev ms1 (t : Fin (cfgA ch).N) : Memref sig .tc .vmem S1x1x1024x1792 .f32 := spec0_1.stage ((cfgA ch).slots t (1 : Fin 4))
abbrev hs1 (t : Fin (cfgA ch).N) : (ms1 ch t).IsWhole := hstage0_1 (((cfgA ch).slots t (1 : Fin 4)).cast nbuf0_1)
abbrev ms2 (t : Fin (cfgA ch).N) : Memref sig .tc .vmem S1x1x1024x1792 .f32 := spec0_2.stage ((cfgA ch).slots t (2 : Fin 4))
abbrev hs2 (t : Fin (cfgA ch).N) : (ms2 ch t).IsWhole := hstage0_2 (((cfgA ch).slots t (2 : Fin 4)).cast nbuf0_2)
abbrev ms3 (t : Fin (cfgA ch).N) : Memref sig .tc .vmem S512x1792 .bf16 := spec0_3.stage ((cfgA ch).slots t (3 : Fin 4))
abbrev hs3 (t : Fin (cfgA ch).N) : (ms3 ch t).IsWhole := hstage0_3 (((cfgA ch).slots t (3 : Fin 4)).cast nbuf0_3)
/-- Window `w`'s block at point `t`, read off the array the launch finds. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- Some store reaches the output's buffer at every point: the tile is in use or past the last one in use. -/
theorem idle_false (t : Fin (cfgA ch).N) : (cfgA ch).idle (3 : Fin 4) ((cfgA ch).grid.coords t) = false := by
  show (!(k0_cond2 (crd ch t) (word ch) == 1#1) && !(k0_cond3 (crd ch t) (word ch) == 1#1)) = false
  by_cases h : Live ch (crd ch t)
  · rw [show k0_cond2 (crd ch t) (word ch) = 1#1 from h]; rfl
  · rw [show k0_cond3 (crd ch t) (word ch) = 1#1 from dead_of_not_live ch (crd ch t) h, Bool.and_comm]; rfl

/-- A point that does not reload is not the first of the run. -/
theorem ne_zero (t : Fin (cfgA ch).N) (h : ¬Reload ch (crd ch t)) : t.val ≠ 0 := by
  intro h0
  refine h ((reload_iff ch _).2 (.inl ?_))
  exact (by decide +kernel : ∀ t : Fin grid0.N, t.val = 0 → ((grid0.coords t) 1).val = 0) t h0

/-! ## What the output's buffer and the scratches hold after each point -/

/-- One point's step, from what they held before. -/
def step (c : Dev nD) (t : Fin (cfgA ch).N) (prev : (S512x1792.Idx → Elt Ideal .bf16) × Buf (Elt Ideal) ((c : Thread nD τ).loc cc0_scratch0) × Buf (Elt Ideal) ((c : Thread nD τ).loc cc0_scratch1)) : (S512x1792.Idx → Elt Ideal .bf16) × Buf (Elt Ideal) ((c : Thread nD τ).loc cc0_scratch0) × Buf (Elt Ideal) ((c : Thread nD τ).loc cc0_scratch1) :=
  if q0 : Reload ch (crd ch t) then
    (out0_A_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.1, (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.1)
  else
    if q1 : Live ch (crd ch t) then
      (out0_B_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.1, (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.2.1)
    else
      (out0_C_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.1, (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.2.1)

/-- What they hold after point `n`. -/
def traj (c : Dev nD) : (n : ℕ) → n < (cfgA ch).N → (S512x1792.Idx → Elt Ideal .bf16) × Buf (Elt Ideal) ((c : Thread nD τ).loc cc0_scratch0) × Buf (Elt Ideal) ((c : Thread nD τ).loc cc0_scratch1)
  | 0, h => step ch m ρ c ⟨0, h⟩ (default, default, default)
  | n + 1, h => step ch m ρ c ⟨n + 1, h⟩ (traj c n (Nat.lt_of_succ_lt h))

/-- What they held before point `t`. -/
def prev (c : Dev nD) (t : Fin (cfgA ch).N) : (S512x1792.Idx → Elt Ideal .bf16) × Buf (Elt Ideal) ((c : Thread nD τ).loc cc0_scratch0) × Buf (Elt Ideal) ((c : Thread nD τ).loc cc0_scratch1) :=
  if h : t.val = 0 then (default, default, default) else traj ch m ρ c (t.val - 1) (by omega)

theorem traj_eq (c : Dev nD) (t : Fin (cfgA ch).N) : traj ch m ρ c t.val t.isLt = step ch m ρ c t (prev ch m ρ c t) := by
  obtain ⟨n, hn⟩ := t
  cases n with
  | zero => rfl
  | succ n => unfold prev; simp only [Nat.add_one_ne_zero, dif_neg, not_false_eq_true]; rfl

/-- The step on path A. -/
theorem step_A (c : Dev nD) (t : Fin (cfgA ch).N) (prev : (S512x1792.Idx → Elt Ideal .bf16) × Buf (Elt Ideal) ((c : Thread nD τ).loc cc0_scratch0) × Buf (Elt Ideal) ((c : Thread nD τ).loc cc0_scratch1)) (q0 : Reload ch (crd ch t)) :
    step ch m ρ c t prev = (out0_A_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.1, (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.1) := by
  unfold step; simp only [dif_pos q0]

/-- The step on path B. -/
theorem step_B (c : Dev nD) (t : Fin (cfgA ch).N) (prev : (S512x1792.Idx → Elt Ideal .bf16) × Buf (Elt Ideal) ((c : Thread nD τ).loc cc0_scratch0) × Buf (Elt Ideal) ((c : Thread nD τ).loc cc0_scratch1)) (q0 : ¬Reload ch (crd ch t)) (q1 : Live ch (crd ch t)) :
    step ch m ρ c t prev = (out0_B_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.1, (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.2.1) := by
  unfold step; simp only [dif_neg q0, dif_pos q1]

/-- The step on path C. -/
theorem step_C (c : Dev nD) (t : Fin (cfgA ch).N) (prev : (S512x1792.Idx → Elt Ideal .bf16) × Buf (Elt Ideal) ((c : Thread nD τ).loc cc0_scratch0) × Buf (Elt Ideal) ((c : Thread nD τ).loc cc0_scratch1)) (q0 : ¬Reload ch (crd ch t)) (q1 : ¬Live ch (crd ch t)) :
    step ch m ρ c t prev = (out0_C_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.1, (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.2.1) := by
  unfold step; simp only [dif_neg q0, dif_neg q1]

/-! ## The proof data -/

def prevT (c : Dev nD) (t : Fin ((cfgA ch).N + 1)) : (S512x1792.Idx → Elt Ideal .bf16) × Buf (Elt Ideal) ((c : Thread nD τ).loc cc0_scratch0) × Buf (Elt Ideal) ((c : Thread nD τ).loc cc0_scratch1) :=
  if h : t.val = 0 then (default, default, default) else traj ch m ρ c (t.val - 1) (by omega)

theorem prevT_castSucc (c : Dev nD) (t : Fin (cfgA ch).N) : prevT ch m ρ c t.castSucc = prev ch m ρ c t := by
  unfold prevT prev; simp only [Fin.val_castSucc]
theorem prevT_succ (c : Dev nD) (t : Fin (cfgA ch).N) : prevT ch m ρ c t.succ = traj ch m ρ c t.val t.isLt := by
  unfold prevT; simp only [Fin.val_succ, Nat.add_one_ne_zero, ↓reduceDIte, Nat.add_one_sub_one]

/-- The invariant before a point: each scratch at what the points before it left, and the body's halves of the tables. -/
def Phi (c : Dev nD) (t : Fin ((cfgA ch).N + 1)) : sProp 𝕄 :=
  iprop((∃ a, ⌜t.val ≠ 0 → a = (prevT ch m ρ c t).2.1⌝ ∗ (scM0_0.view.loc (c : Thread nD τ) ↦{fullShare} a)) ∗ (∃ a, ⌜t.val ≠ 0 → a = (prevT ch m ρ c t).2.2⌝ ∗ (scM0_1.view.loc (c : Thread nD τ) ↦{fullShare} a)) ∗ (tbM0_0.view.loc (c : Thread nD τ) ↦{fullShare.right} ch.experts) ∗ (tbM0_1.view.loc (c : Thread nD τ) ↦{fullShare.right} ch.used))

def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj ch m ρ c t.val t.isLt).1
  Φ t := Phi ch m ρ c t
  q _ := fullShare
  owed _ := 0

theorem after_0 (c : Dev nD) (t : Fin (cfgA ch).N) : (dats ch m ρ 0 c).after (0 : Fin 4) t = iblk ch m ρ c (0 : Fin 4) t := rfl
theorem after_1 (c : Dev nD) (t : Fin (cfgA ch).N) : (dats ch m ρ 0 c).after (1 : Fin 4) t = iblk ch m ρ c (1 : Fin 4) t := rfl
theorem after_2 (c : Dev nD) (t : Fin (cfgA ch).N) : (dats ch m ρ 0 c).after (2 : Fin 4) t = iblk ch m ρ c (2 : Fin 4) t := rfl
theorem after_3 (c : Dev nD) (t : Fin (cfgA ch).N) : (dats ch m ρ 0 c).after (3 : Fin 4) t = (traj ch m ρ c t.val t.isLt).1 := rfl

/-- When the body runs, input window 0's buffer holds the block. -/
theorem before_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
/-- When the body runs, input window 1's buffer holds the block. -/
theorem before_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
/-- When the body runs, input window 2's buffer holds the block. -/
theorem before_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The body at a point -/

/-- The body on the staging buffers of point `t`. -/
abbrev bodyAt (t : Fin (cfgA ch).N) : Prog (TpuEff nD τ sig (Elt Ideal) Λ₀ .tc) PUnit :=
  cc0_moe_up (crd ch t) (Memref.whole main_arg0) (Memref.isWhole_whole _) (Memref.whole main_arg1) (Memref.isWhole_whole _) (ms0 ch t) (hs0 ch t) (ms1 ch t) (hs1 ch t) (ms2 ch t) (hs2 ch t) (ms3 ch t) (hs3 ch t) (Memref.whole cc0_scratch0) (Memref.isWhole_whole _) (Memref.whole cc0_scratch1) (Memref.isWhole_whole _)

set_option maxHeartbeats 4000000 in
/-- From the invariant and the windows' buffers the body reaches the invariant of the next point, by path. -/
theorem sound_body (c : Dev nD) (t : Fin (cfgA ch).N) :
    iprop((dats ch m ρ 0 c).Φ t.castSucc ∗ (dats ch m ρ 0 c).owesAt () t.castSucc
        ∗ (∃ d, owns (c : Thread nD τ) (ms0 ch t) fullShare ((dats ch m ρ 0 c).before (0 : Fin 4) t d))
        ∗ (∃ d, owns (c : Thread nD τ) (ms1 ch t) fullShare ((dats ch m ρ 0 c).before (1 : Fin 4) t d))
        ∗ (∃ d, owns (c : Thread nD τ) (ms2 ch t) fullShare ((dats ch m ρ 0 c).before (2 : Fin 4) t d))
        ∗ (∃ d, owns (c : Thread nD τ) (ms3 ch t) fullShare ((dats ch m ρ 0 c).before (3 : Fin 4) t d)))
      ⊢ wp frame (wpE (defs₀ (F := Ideal)) Variants.none c none) Set.univ (bodyAt ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : Reload ch (crd ch t)
  · rewrite [idle_false ch t]
    simp only [before_0, before_1, before_2, after_0, after_1, after_2, after_3]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj_eq, step_A ch m ρ c t _ q0]
    unfold Phi; simp only [prevT_castSucc, prevT_succ, traj_eq, step_A ch m ρ c t _ q0, Fin.val_castSucc, Fin.val_succ]
    iintro ⟨⟨⟨%a0, -, HS0⟩, ⟨%a1, -, HS1⟩, HT0, HT1⟩, Ho, ⟨%d0, H0⟩, ⟨%d1, H1⟩, ⟨%d2, H2⟩, ⟨%d3, H3⟩⟩
    iapply ((kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.2 a0 a1 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS0]; · iexact HS0
    isplitl [HS1]; · iexact HS1
    iintro ⟨H0, H1, H2, HT0, HT1, ⟨%e, H3⟩, HS0, HS1⟩
    isplitl [HS0 HS1 HT0 HT1]
    · isplitl [HS0]
      · iexists _; isplitr; swap
        · iexact HS0
        · ipureintro; intro _; rfl
      isplitl [HS1]
      · iexists _; isplitr; swap
        · iexact HS1
        · ipureintro; intro _; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _ _ _ _)
  · have hne : t.val ≠ 0 := ne_zero ch t q0
    by_cases q1 : Live ch (crd ch t)
    · rewrite [idle_false ch t]
      simp only [before_0, before_1, before_2, after_0, after_1, after_2, after_3]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_B ch m ρ c t _ q0 q1]
      unfold Phi; simp only [prevT_castSucc, prevT_succ, traj_eq, step_B ch m ρ c t _ q0 q1, Fin.val_castSucc, Fin.val_succ]
      simp only [exists_held hne]
      iintro ⟨⟨HS0, HS1, HT0, HT1⟩, Ho, ⟨%d0, H0⟩, ⟨%d1, H1⟩, ⟨%d2, H2⟩, ⟨%d3, H3⟩⟩
      iapply ((kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) _ _ (chk1 ch (crd ch t)) (chk2 ch (crd ch t)) q0 q1 (not_dead_of_live ch (crd ch t) q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _ _ _)
    · rewrite [idle_false ch t]
      simp only [before_0, before_1, before_2, after_0, after_1, after_2, after_3]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_C ch m ρ c t _ q0 q1]
      unfold Phi; simp only [prevT_castSucc, prevT_succ, traj_eq, step_C ch m ρ c t _ q0 q1, Fin.val_castSucc, Fin.val_succ]
      simp only [exists_held hne]
      iintro ⟨⟨HS0, HS1, HT0, HT1⟩, Ho, ⟨%d0, H0⟩, ⟨%d1, H1⟩, ⟨%d2, H2⟩, ⟨%d3, H3⟩⟩
      iapply ((kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) _ _ (chk1 ch (crd ch t)) (chk2 ch (crd ch t)) q0 q1 (dead_of_not_live ch (crd ch t) q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _)

theorem body_obligation (c : Dev nD) : BodyObligation (dats ch m ρ 0 c) (defs₀ (F := Ideal)) Variants.none () Set.univ := fun t => by
  rw [bigSep_W0]
  exact sound_body ch m ρ c t

/-! ## The launch -/

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The two tables as the launch hands them over. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨⟨%a0, HS0⟩, ⟨%a1, HS1⟩⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

theorem phi_last (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The launch memory holds these tables, on every device. -/
def Holds (m : (ℓ : Loc nD τ sig) → Buf (Elt Ideal) ℓ) : Prop :=
  (∀ c : Dev nD, m ((c : Thread nD τ).loc main_arg0) = ch.experts) ∧ (∀ c : Dev nD, m ((c : Thread nD τ).loc main_arg1) = ch.used)

/-- What holds at the end: each array at what the pipeline computes, the tables as they were. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem tables_eq (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run from a memory with these tables ends, with the arrays as computed and every counter at zero. -/
theorem run_quiescent (hp : Holds ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre emb₁ defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := tables_eq ch m hp)
    (X := fun _ => iprop(emp)) (Y := fun _ => iprop(emp)) (Z := fun _ => iprop(emp))
    (hX := fun c => by rw [unscopedRestP0_eq]; iintro -; isplitr <;> iempintro)
    (hin := phi_first ch m ρ)
    (hout := phi_last ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds ch m) : θ_run (defs (F := Ideal)) (onTc (τ := τ) (main (F := Ideal))) (s₀ m ρ) (QC ch m ρ) :=
  (θ_run defs _ _).mono (fun _ h => h.1) (run_quiescent ch m ρ hp)

/-- The arguments end unchanged. -/
theorem unchanged (hp : Holds ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _)⟩) (run ch m ρ hp)

/-- The tables of a memory that satisfies the precondition. -/
theorem route_of_pre [hP : Cert.Pre_experts_up.Facts] (h : Pre_Kernel3Ideal m) : ∃ ch : Route, Holds ch m := by
  have hd : ∀ c d : Dev nD, c = d := by decide
  obtain ⟨h0, h1⟩ := h (0 : Dev nD)
  refine ⟨⟨m (((0 : Dev nD) : Thread nD τ).loc main_arg0), m (((0 : Dev nD) : Thread nD τ).loc main_arg1),
    fun x => expert_lt _ (congrFun h0 x), fun x => (used_range _ (congrFun h1 x)).1, fun x => (used_range _ (congrFun h1 x)).2⟩,
    fun c => by rw [hd c 0], fun c => by rw [hd c 0]⟩

/-- The frame claim. -/
theorem frame_of_pre [hP : Cert.Pre_experts_up.Facts] (m : (ℓ : Loc nD τ sig) → Buf (Elt Ideal) ℓ) (ρ : Dev nD → PrngReg) (h : Pre_Kernel3Ideal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (route_of_pre m h).elim fun ch hp =>
    θ_run_and (unchanged ch m ρ hp) ((θ_run defs _ _).mono (fun _ h => h.2) (run_quiescent ch m ρ hp))

end Cert.Up

end
-- ==== Proof.UpRef.lean ====
/- The experts' up projections: its value at one row and column, and the reference there. -/
module

public import proofs.«01_k».proof.Proof.RouteRef
public import proofs.«01_k».proof.Proof.Ffn
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Up

open Cert.Moe Cert.Reference3Ideal Cert.Reference3Ideal.Gen Cert.Reference3Ideal.Read Idealize.ShloMosaic Idealize.ShloMosaic.TcCoe

/-- The shapes of the arguments. -/
abbrev Rows := (⟨S38912x1024, .f32⟩ : BufTy).Contents (Elt Ideal)
abbrev Weights := (⟨S2x8x1024x3584, .f32⟩ : BufTy).Contents (Elt Ideal)

variable (ch : Route) (X : Rows) (W V : Weights)

/-- The expert of tile `n`. -/
def expert (n : Fin 76) : Fin 8 := ⟨(ch.experts (ix1 n)).toNat, ch.experts_lt _⟩

/-- The tile of a row. -/
def tileOf (r : Fin 38912) : Fin 76 := ⟨r.val / 512, by omega⟩

/-- A row times a column of one expert's weights. -/
def dot (e : Fin 8) (r : Fin 38912) (o : Fin 3584) : EReal := ∑ k : Fin 1024, X (ix2 r k) * W (ix4 0 e k o)

/-- A hidden unit of a row, as one expert has it. -/
def unit (e : Fin 8) (r : Fin 38912) (o : Fin 3584) : EReal := Cert.Ffn.silu (dot X W e r o) * dot X V e r o

/-- The result at a row and column: the row's own expert's, or zero past the tiles in use. -/
def value (r : Fin 38912) (o : Fin 3584) : EReal :=
  if r.val / 512 < (ch.used (ix1 0)).toNat then unit X W V (expert ch (tileOf r)) r o else 0

theorem r4 (r : Fin 38912) (e : Fin 8) (o : Fin 3584) : val_main_v4 (F := Ideal) X W (ix3 r e o) = dot X W e r o := by
  refine (val_main_v4_apply X W (ix3 r e o)).trans (Finset.sum_congr rfl fun k _ => ?_)
  have hv : val_main_v1 (F := Ideal) W (ix3 e k o) = W (ix4 0 e k o) := by
    unfold val_main_v1 val_main_v0
    pointwise
  refine congrArg₂ (· * ·) (congrArg X ?_) ((congrArg _ ?_).trans hv)
  · exact funext fun a => match a with | ⟨0, _⟩ => rfl | ⟨1, _⟩ => rfl
  · exact funext fun a => match a with | ⟨0, _⟩ => rfl | ⟨1, _⟩ => rfl | ⟨2, _⟩ => rfl

theorem r6 (r : Fin 38912) (e : Fin 8) (o : Fin 3584) : val_main_v6 (F := Ideal) X V (ix3 r e o) = dot X V e r o := by
  refine (val_main_v6_apply X V (ix3 r e o)).trans (Finset.sum_congr rfl fun k _ => ?_)
  have hv : val_main_v3 (F := Ideal) V (ix3 e k o) = V (ix4 0 e k o) := by
    unfold val_main_v3 val_main_v2
    pointwise
  refine congrArg₂ (· * ·) (congrArg X ?_) ((congrArg _ ?_).trans hv)
  · exact funext fun a => match a with | ⟨0, _⟩ => rfl | ⟨1, _⟩ => rfl
  · exact funext fun a => match a with | ⟨0, _⟩ => rfl | ⟨1, _⟩ => rfl | ⟨2, _⟩ => rfl

theorem r7 (r : Fin 38912) (e : Fin 8) (o : Fin 3584) : val_main_v7 (F := Ideal) X W V (ix3 r e o) = unit X W V e r o := by
  unfold unit Cert.Ffn.silu
  rw [← r4, ← r6]
  unfold val_main_v7 val_main_v5 val_main_call0_v5 val_main_call0_v4 val_main_call0_v3 val_main_call0_v2
    val_main_call0_v1 val_main_call0_v0 val_main_call0_cst val_main_call0_cst_0
  generalize val_main_v4 (F := Ideal) X W = y
  generalize val_main_v6 (F := Ideal) X V = z
  pointwise

theorem r18 (r : Fin 38912) (e : Fin 8) (o : Fin 3584) : val_main_v18 (F := Ideal) ch.experts X W V (ix3 r e o)
    = if IntOp.cmpi .eq (ch.experts (ix1 (tileOf r))) (BitVec.ofNat 32 e.val) = 1#1 then unit X W V e r o else 0 := by
  rw [← r7]
  unfold val_main_v18 val_main_call1_v2 val_main_call1_v1 val_main_call1_v0 val_main_cst val_main_v17 val_main_v16
    val_main_v15 val_main_v14 val_main_v13 val_main_v12 val_main_v11 val_main_v10 val_main_v9 val_main_v8
  generalize val_main_v7 (F := Ideal) X W V = y
  pointwise
  have hz : constant (F := Ideal) S_ .f32 0#32 ix0 = (0 : EReal) := by pointwise
  exact congrArg (fun z => Scalar.select _ _ z) hz

theorem r19 (r : Fin 38912) (o : Fin 3584) :
    val_main_v19 (F := Ideal) ch.experts X W V (ix2 r o) = unit X W V (expert ch (tileOf r)) r o := by
  refine (val_main_v19_apply ch.experts X W V (ix2 r o)).trans ?_
  rw [show (val_main_cst_0 (F := Ideal)) (Shape.Idx.first h_S_) = (0 : EReal) from by unfold val_main_cst_0; pointwise, zero_add]
  refine Eq.trans (Finset.sum_congr rfl fun e _ => (congrArg _ ?_).trans (r18 ch X W V r e o)) (sum_chosen _ (ch.experts_lt _) fun e => unit X W V e r o)
  exact funext fun a => match a with | ⟨0, _⟩ => rfl | ⟨1, _⟩ => rfl | ⟨2, _⟩ => rfl

/-- The reference's result. -/
theorem result_at (r : Fin 38912) (o : Fin 3584) :
    val_main_v27 (F := Ideal) ch.experts ch.used X W V (ix2 r o) = value ch X W V r o := by
  unfold value
  rw [← r19]
  simp only [← in_use_iff (ch.used (ix1 0)) (ch.used_le _) r.val r.isLt]
  unfold val_main_v27 val_main_v26 val_main_call2_v2 val_main_call2_v1 val_main_call2_v0 val_main_cst_1 val_main_v25 val_main_v24
    val_main_v23 val_main_v22 val_main_c val_main_v21 val_main_v20
  generalize val_main_v19 (F := Ideal) ch.experts X W V = y
  pointwise
  have hz : constant (F := Ideal) S_ .f32 0#32 ix0 = (0 : EReal) := by pointwise
  exact congrArg (fun z => Scalar.select _ _ z) hz

end Cert.Up

end
-- ==== Proof.UpArray.lean ====
/- The experts' up projections: the call's result array, and its claims. -/
module

public import proofs.«01_k».proof.Defs
public import proofs.«01_k».proof.Proof.Up
public import proofs.«01_k».proof.Proof.UpRef
public import proofs.«01_k».proof.Proof.Gen.Reference3Ideal
public import Idealize.ShloMosaic.Lib.Pipeline.ValueKit
public import Idealize.ShloMosaic.Lib.Pointwise
public import Idealize.ShloMosaic.Lib.VecWindow

@[expose] public section

set_option maxRecDepth 16384

noncomputable section

namespace Cert.Up

open Cert.Moe Cert.Kernel3Ideal Cert.Kernel3Ideal.Gen Idealize.ShloMosaic Idealize.ShloMosaic.TcCoe Idealize.SL.Sem

/-! ## What the stores write -/

theorem weights_at (v : Vec Ideal S1x1x1024x1792 .f32) (k : Fin 1024) (o : Fin 1792) : k0_pay1 v (ix2 k o) = v (ix4 0 0 k o) := by
  unfold k0_pay1
  pointwise
theorem weights2_at (v : Vec Ideal S1x1x1024x1792 .f32) (k : Fin 1024) (o : Fin 1792) : k0_pay2 v (ix2 k o) = v (ix4 0 0 k o) := by
  unfold k0_pay2
  pointwise
theorem product_at (x : Vec Ideal S512x1024 .f32) (w v : Vec Ideal S1024x1792 .bf16) (a : Fin 512) (o : Fin 1792) :
    k0_pay3 x w v (ix2 a o)
      = Cert.Ffn.silu (∑ k : Fin 1024, x (ix2 a k) * w (ix2 k o)) * ∑ k : Fin 1024, x (ix2 a k) * v (ix2 k o) := by
  unfold k0_pay3 Cert.Ffn.silu
  pointwise
  simp only [zero_sub]
theorem zero_at (a : Fin 512) (o : Fin 1792) : k0_pay4 (F := Ideal) (ix2 a o) = (0 : EReal) := by
  unfold k0_pay4
  pointwise

theorem pay3_congr {x x' : Vec Ideal S512x1024 .f32} {w w' v v' : Vec Ideal S1024x1792 .bf16} (hx : x = x') (hw : w = w') (hv : v = v') :
    k0_pay3 x w v = k0_pay3 x' w' v' := by
  rw [hx, hw, hv]

variable (ch : Route) (m : (ℓ : Loc nD τ sig) → Buf (Elt Ideal) ℓ) (ρ : Dev nD → PrngReg)

/-! ## What a point leaves -/

section Steps

variable (c : Dev nD) (t : Fin (cfgA ch).N) (prev : (S512x1792.Idx → Elt Ideal .bf16) × Buf (Elt Ideal) ((c : Thread nD τ).loc cc0_scratch0) × Buf (Elt Ideal) ((c : Thread nD τ).loc cc0_scratch1))

/-- The gate's weights the point's product reads, as left in the first scratch, -/
abbrev held (s : (S512x1792.Idx → Elt Ideal .bf16) × Buf (Elt Ideal) ((c : Thread nD τ).loc cc0_scratch0) × Buf (Elt Ideal) ((c : Thread nD τ).loc cc0_scratch1)) : Vec Ideal S1024x1792 .bf16 :=
  scM0_0.view.read (Elt Ideal) s.2.1
/-- and the other weights, in the second. -/
abbrev held2 (s : (S512x1792.Idx → Elt Ideal .bf16) × Buf (Elt Ideal) ((c : Thread nD τ).loc cc0_scratch0) × Buf (Elt Ideal) ((c : Thread nD τ).loc cc0_scratch1)) : Vec Ideal S1024x1792 .bf16 :=
  scM0_1.view.read (Elt Ideal) s.2.2

theorem held_reload (q0 : Reload ch (crd ch t)) : held c (step ch m ρ c t prev) = k0_pay1 (iblk ch m ρ c (1 : Fin 4) t) := by
  rw [step_A ch m ρ c t _ q0]
  unfold held kernelRun0_A
  dsimp only
  unfold kernelRun0_A.sl.HS0_1
  exact (View.read_writes_full _ _ _ _ _).trans (congrArg k0_pay1 (View.readAt_rep_full _ _ _))
theorem held2_reload (q0 : Reload ch (crd ch t)) : held2 c (step ch m ρ c t prev) = k0_pay2 (iblk ch m ρ c (2 : Fin 4) t) := by
  rw [step_A ch m ρ c t _ q0]
  unfold held2 kernelRun0_A
  dsimp only
  unfold kernelRun0_A.sl.HS1_1
  exact (View.read_writes_full _ _ _ _ _).trans (congrArg k0_pay2 (View.readAt_rep_full _ _ _))
theorem held_keep (q0 : ¬Reload ch (crd ch t)) (q1 : Live ch (crd ch t)) : (step ch m ρ c t prev).2 = prev.2 := by
  rw [step_B ch m ρ c t _ q0 q1]
  rfl
theorem out_live (q1 : Live ch (crd ch t)) :
    (step ch m ρ c t prev).1 = k0_pay3 (iblk ch m ρ c (0 : Fin 4) t) (held c (step ch m ρ c t prev)) (held2 c (step ch m ρ c t prev)) := by
  by_cases q0 : Reload ch (crd ch t)
  · rw [held_reload ch m ρ c t prev q0, held2_reload ch m ρ c t prev q0, step_A ch m ρ c t _ q0]
    unfold out0_A_3 kernelRun0_A
    dsimp only
    refine (View.read_writes_full _ _ _ _ _).trans (pay3_congr (View.readAt_rep_full _ _ _) ?_ ?_)
    · unfold kernelRun0_A.sl.v28
      exact (View.readAt_writes_full _ _ _ _ _ _).trans (congrArg k0_pay1 (View.readAt_rep_full _ _ _))
    · unfold kernelRun0_A.sl.v38
      exact (View.readAt_writes_full _ _ _ _ _ _).trans (congrArg k0_pay2 (View.readAt_rep_full _ _ _))
  · unfold held held2
    rw [held_keep ch m ρ c t prev q0 q1, step_B ch m ρ c t _ q0 q1]
    unfold out0_B_3 kernelRun0_B
    dsimp only
    exact (View.read_writes_full _ _ _ _ _).trans (pay3_congr (View.readAt_rep_full _ _ _) (View.readAt_full _ _ _) (View.readAt_full _ _ _))
theorem out_dead (q1 : ¬Live ch (crd ch t)) : (step ch m ρ c t prev).1 = k0_pay4 (F := Ideal) := by
  rw [step_C ch m ρ c t _ (fun q0 => q1 (live_of_reload ch _ q0)) q1]
  unfold out0_C_3 kernelRun0_C
  dsimp only
  exact View.read_writes_full _ _ _ _ _

end Steps

/-! ## Where the blocks lie -/

theorem coords_eq : ∀ t : Fin grid0.N, ((grid0.coords t) 0).val = t.val / 76 ∧ ((grid0.coords t) 1).val = t.val % 76 := by decide +kernel

section Reads

variable (c : Dev nD) (t : Fin (cfgA ch).N)

/-- The tile of a point, -/
def tileAt : Fin 76 := ⟨t.val % 76, by omega⟩
/-- the row of the arrays at row `a` of its blocks, -/
def row (a : Fin 512) : Fin 38912 := ⟨t.val % 76 * 512 + a.val, by omega⟩
/-- and the column at column `o`. -/
def col (o : Fin 1792) : Fin 3584 := ⟨t.val / 76 * 1792 + o.val, by have : t.val < 152 := t.isLt; omega⟩

theorem used_eq : (word ch).toNat = (ch.used (ix1 0)).toNat := congrArg BitVec.toNat (word_eq ch (ix1 0))
theorem live_at : Live ch (crd ch t) ↔ t.val % 76 < (ch.used (ix1 0)).toNat := by
  rw [live_iff, used_eq]
  exact iff_of_eq (congrArg (· < _) (coords_eq t).2)

/-- The rows of a tile in use. -/
theorem read_rows (h : t.val % 76 < (ch.used (ix1 0)).toNat) (a : Fin 512) (k : Fin 1024) :
    iblk ch m ρ c (0 : Fin 4) t (ix2 a k) = m ((c : Thread nD τ).loc main_arg2) (ix2 (row ch t a) k) := by
  have e : cc0_transform_0 inb_S1_S1_0 numel1_S1 (pf ch) (crd ch t) = ![min ((word ch).toNat - 1) ((crd ch t) 1).val, 0] :=
    congrArg (fun n : ℕ => (![n, 0] : Fin 2 → ℕ)) (clip_in (word ch) (word_pos ch) (word_le ch) ((crd ch t) 1).val ((crd ch t) 1).isLt)
  have hi : ((crd ch t) 1).val = t.val % 76 := (coords_eq t).2
  rw [hi, used_eq, show min ((ch.used (ix1 0)).toNat - 1) (t.val % 76) = t.val % 76 by omega] at e
  refine congrArg (m ((c : Thread nD τ).loc main_arg2)) (funext fun d => Fin.ext ?_)
  match d with
  | ⟨0, _⟩ =>
    refine (show _ = cc0_transform_0 inb_S1_S1_0 numel1_S1 (pf ch) (crd ch t) 0 * 512 + 1 * a.val from rfl).trans ?_
    rw [e]; exact congrArg (_ + ·) (Nat.one_mul _)
  | ⟨1, _⟩ =>
    refine (show _ = cc0_transform_0 inb_S1_S1_0 numel1_S1 (pf ch) (crd ch t) 1 * 1024 + 1 * k.val from rfl).trans ?_
    rw [e]; show 0 * 1024 + 1 * k.val = k.val; omega

/-- The weights of the tile's expert. -/
theorem read_weights (k : Fin 1024) (o : Fin 1792) :
    iblk ch m ρ c (1 : Fin 4) t (ix4 0 0 k o) = m ((c : Thread nD τ).loc main_arg3) (ix4 0 (expert ch (tileAt ch t)) k (col ch t o)) := by
  have hi : ((crd ch t) 1).val = t.val % 76 := (coords_eq t).2
  have hj : ((crd ch t) 0).val = t.val / 76 := (coords_eq t).1
  have e1 : cc0_transform_1 k0_off1_inb numel1_S1 (pf ch) (crd ch t) 1 = (ch.experts (ix1 (tileAt ch t))).toNat := by
    refine (show _ = (ch.experts _).toNat from rfl).trans (congrArg (fun x => (ch.experts x).toNat) (Route.idx_ext ?_))
    refine (show _ = (BitVec.ofNat 32 ((crd ch t) 1).val).toNat + 1 * 0 from rfl).trans ?_
    rw [hi, ofNat_small _ (by omega)]; rfl
  have e3 : cc0_transform_1 k0_off1_inb numel1_S1 (pf ch) (crd ch t) 3 = t.val / 76 := by
    refine (show _ = (BitVec.ofNat 32 ((crd ch t) 0).val).toNat from rfl).trans ?_
    have : t.val < 152 := t.isLt
    rw [hj, ofNat_small _ (by omega)]
  refine congrArg (m ((c : Thread nD τ).loc main_arg3)) (funext fun d => Fin.ext ?_)
  match d with
  | ⟨0, _⟩ => rfl
  | ⟨1, _⟩ =>
    refine (show _ = cc0_transform_1 k0_off1_inb numel1_S1 (pf ch) (crd ch t) 1 * 1 + 1 * 0 from rfl).trans ?_
    rw [e1]; exact Nat.mul_one _
  | ⟨2, _⟩ => show 0 * 1024 + 1 * k.val = k.val; omega
  | ⟨3, _⟩ =>
    refine (show _ = cc0_transform_1 k0_off1_inb numel1_S1 (pf ch) (crd ch t) 3 * 1792 + 1 * o.val from rfl).trans ?_
    rw [e3]; exact congrArg (_ + ·) (Nat.one_mul _)

/-- The other weights of the tile's expert. -/
theorem read_weights2 (k : Fin 1024) (o : Fin 1792) :
    iblk ch m ρ c (2 : Fin 4) t (ix4 0 0 k o) = m ((c : Thread nD τ).loc main_arg4) (ix4 0 (expert ch (tileAt ch t)) k (col ch t o)) := by
  have hi : ((crd ch t) 1).val = t.val % 76 := (coords_eq t).2
  have hj : ((crd ch t) 0).val = t.val / 76 := (coords_eq t).1
  have e1 : cc0_transform_2 k0_off1_inb numel1_S1 (pf ch) (crd ch t) 1 = (ch.experts (ix1 (tileAt ch t))).toNat := by
    refine (show _ = (ch.experts _).toNat from rfl).trans (congrArg (fun x => (ch.experts x).toNat) (Route.idx_ext ?_))
    refine (show _ = (BitVec.ofNat 32 ((crd ch t) 1).val).toNat + 1 * 0 from rfl).trans ?_
    rw [hi, ofNat_small _ (by omega)]; rfl
  have e3 : cc0_transform_2 k0_off1_inb numel1_S1 (pf ch) (crd ch t) 3 = t.val / 76 := by
    refine (show _ = (BitVec.ofNat 32 ((crd ch t) 0).val).toNat from rfl).trans ?_
    have : t.val < 152 := t.isLt
    rw [hj, ofNat_small _ (by omega)]
  refine congrArg (m ((c : Thread nD τ).loc main_arg4)) (funext fun d => Fin.ext ?_)
  match d with
  | ⟨0, _⟩ => rfl
  | ⟨1, _⟩ =>
    refine (show _ = cc0_transform_2 k0_off1_inb numel1_S1 (pf ch) (crd ch t) 1 * 1 + 1 * 0 from rfl).trans ?_
    rw [e1]; exact Nat.mul_one _
  | ⟨2, _⟩ => show 0 * 1024 + 1 * k.val = k.val; omega
  | ⟨3, _⟩ =>
    refine (show _ = cc0_transform_2 k0_off1_inb numel1_S1 (pf ch) (crd ch t) 3 * 1792 + 1 * o.val from rfl).trans ?_
    rw [e3]; exact congrArg (_ + ·) (Nat.one_mul _)

/-- Where a block of the result lies. -/
theorem place (a : Fin 512) (o : Fin 1792) : (((cfgA ch).win (3 : Fin 4)).blk t).view.emb (ix2 a o) = ix2 (row ch t a) (col ch t o) := by
  have hi : ((crd ch t) 1).val = t.val % 76 := (coords_eq t).2
  have hj : ((crd ch t) 0).val = t.val / 76 := (coords_eq t).1
  have ht : t.val < 152 := t.isLt
  refine funext fun d => Fin.ext ?_
  match d with
  | ⟨0, _⟩ =>
    refine (show _ = (BitVec.ofNat 32 ((crd ch t) 1).val).toNat * 512 + 1 * a.val from rfl).trans ?_
    rw [hi, ofNat_small _ (by omega)]; exact congrArg (_ + ·) (Nat.one_mul _)
  | ⟨1, _⟩ =>
    refine (show _ = (BitVec.ofNat 32 ((crd ch t) 0).val).toNat * 1792 + 1 * o.val from rfl).trans ?_
    rw [hj, ofNat_small _ (by omega)]; exact congrArg (_ + ·) (Nat.one_mul _)

end Reads

/-! ## The scratch holds the tile's expert's weights -/

/-- A tile in use that does not reload is not the first, and its expert is the tile's before it. -/
theorem same_expert (t : Fin (cfgA ch).N) (h : t.val % 76 < (ch.used (ix1 0)).toNat) (q0 : ¬Reload ch (crd ch t)) :
    t.val % 76 ≠ 0 ∧ expert ch (tileAt ch t) = expert ch ⟨t.val % 76 - 1, by omega⟩ := by
  have hi : ((crd ch t) 1).val = t.val % 76 := (coords_eq t).2
  have hr := (not_congr (reload_iff ch (crd ch t))).1 q0
  rw [not_or, not_not, hi] at hr
  have hu := used_eq ch
  have e : ch.experts (ix1 (tileAt ch t)) = ch.experts (ix1 ⟨t.val % 76 - 1, by omega⟩) := by
    rw [← here_eq ch (crd ch t) (ix1 (tileAt ch t)) (by rw [hi]; show t.val % 76 = _; omega), hr.2]
    exact before_eq ch (crd ch t) _ (by rw [hi]; show t.val % 76 - 1 = _; omega)
  exact ⟨hr.1, Fin.ext (by show (ch.experts _).toNat = (ch.experts _).toNat; rw [e])⟩

theorem held_at (c : Dev nD) : ∀ (n : ℕ) (hn : n < (cfgA ch).N), n % 76 < (ch.used (ix1 0)).toNat → ∀ (k : Fin 1024) (o : Fin 1792),
    held c (traj ch m ρ c n hn) (ix2 k o)
      = m ((c : Thread nD τ).loc main_arg3) (ix4 0 (expert ch (tileAt ch ⟨n, hn⟩)) k (col ch ⟨n, hn⟩ o)) := by
  intro n
  induction n with
  | zero =>
    intro hn h k o
    rw [traj_eq ch m ρ c ⟨0, hn⟩]
    by_cases q0 : Reload ch (crd ch ⟨0, hn⟩)
    · rw [held_reload ch m ρ c _ _ q0, weights_at, read_weights]
    · exact absurd rfl (same_expert ch ⟨0, hn⟩ h q0).1
  | succ n ih =>
    intro hn h k o
    rw [traj_eq ch m ρ c ⟨n + 1, hn⟩]
    by_cases q0 : Reload ch (crd ch ⟨n + 1, hn⟩)
    · rw [held_reload ch m ρ c _ _ q0, weights_at, read_weights]
    · obtain ⟨h0, he⟩ := same_expert ch ⟨n + 1, hn⟩ h q0
      have h0' : (n + 1) % 76 ≠ 0 := h0
      have hq : Live ch (crd ch ⟨n + 1, hn⟩) := (live_at ch ⟨n + 1, hn⟩).2 h
      unfold held
      rw [held_keep ch m ρ c _ _ q0 hq]
      have e1 : (⟨(n + 1) % 76 - 1, by omega⟩ : Fin 76) = tileAt ch ⟨n, Nat.lt_of_succ_lt hn⟩ := Fin.ext (by show (n + 1) % 76 - 1 = n % 76; omega)
      have e2 : col ch ⟨n + 1, hn⟩ o = col ch ⟨n, Nat.lt_of_succ_lt hn⟩ o := Fin.ext (by show (n + 1) / 76 * 1792 + o.val = n / 76 * 1792 + o.val; omega)
      rw [he, e2]
      exact (ih (Nat.lt_of_succ_lt hn) (by omega) k o).trans (congrArg (fun e => m ((c : Thread nD τ).loc main_arg3) (ix4 0 (expert ch e) k _)) e1.symm)

theorem held2_at (c : Dev nD) : ∀ (n : ℕ) (hn : n < (cfgA ch).N), n % 76 < (ch.used (ix1 0)).toNat → ∀ (k : Fin 1024) (o : Fin 1792),
    held2 c (traj ch m ρ c n hn) (ix2 k o)
      = m ((c : Thread nD τ).loc main_arg4) (ix4 0 (expert ch (tileAt ch ⟨n, hn⟩)) k (col ch ⟨n, hn⟩ o)) := by
  intro n
  induction n with
  | zero =>
    intro hn h k o
    rw [traj_eq ch m ρ c ⟨0, hn⟩]
    by_cases q0 : Reload ch (crd ch ⟨0, hn⟩)
    · rw [held2_reload ch m ρ c _ _ q0, weights2_at, read_weights2]
    · exact absurd rfl (same_expert ch ⟨0, hn⟩ h q0).1
  | succ n ih =>
    intro hn h k o
    rw [traj_eq ch m ρ c ⟨n + 1, hn⟩]
    by_cases q0 : Reload ch (crd ch ⟨n + 1, hn⟩)
    · rw [held2_reload ch m ρ c _ _ q0, weights2_at, read_weights2]
    · obtain ⟨h0, he⟩ := same_expert ch ⟨n + 1, hn⟩ h q0
      have h0' : (n + 1) % 76 ≠ 0 := h0
      have hq : Live ch (crd ch ⟨n + 1, hn⟩) := (live_at ch ⟨n + 1, hn⟩).2 h
      unfold held2
      rw [held_keep ch m ρ c _ _ q0 hq]
      have e1 : (⟨(n + 1) % 76 - 1, by omega⟩ : Fin 76) = tileAt ch ⟨n, Nat.lt_of_succ_lt hn⟩ := Fin.ext (by show (n + 1) % 76 - 1 = n % 76; omega)
      have e2 : col ch ⟨n + 1, hn⟩ o = col ch ⟨n, Nat.lt_of_succ_lt hn⟩ o := Fin.ext (by show (n + 1) / 76 * 1792 + o.val = n / 76 * 1792 + o.val; omega)
      rw [he, e2]
      exact (ih (Nat.lt_of_succ_lt hn) (by omega) k o).trans (congrArg (fun e => m ((c : Thread nD τ).loc main_arg4) (ix4 0 (expert ch e) k _)) e1.symm)

/-- What point `t` leaves in its block of the result. -/
theorem block_at (c : Dev nD) (t : Fin (cfgA ch).N) (a : Fin 512) (o : Fin 1792) :
    (traj ch m ρ c t.val t.isLt).1 (ix2 a o)
      = value ch (m ((c : Thread nD τ).loc main_arg2)) (m ((c : Thread nD τ).loc main_arg3)) (m ((c : Thread nD τ).loc main_arg4))
        (row ch t a) (col ch t o) := by
  have er : (row ch t a).val / 512 = t.val % 76 := by show (t.val % 76 * 512 + a.val) / 512 = _; omega
  have et : tileOf (row ch t a) = tileAt ch t := Fin.ext er
  unfold value
  rw [er, et]
  by_cases h : t.val % 76 < (ch.used (ix1 0)).toNat
  · rw [if_pos h, traj_eq, out_live ch m ρ c t _ ((live_at ch t).2 h), product_at, ← traj_eq]
    unfold unit dot
    refine congrArg₂ (· * ·) (congrArg Cert.Ffn.silu ?_) ?_
    · exact Finset.sum_congr rfl fun k _ => congrArg₂ (· * ·) (read_rows ch m ρ c t h a k) (held_at ch m ρ c t.val t.isLt h k o)
    · exact Finset.sum_congr rfl fun k _ => congrArg₂ (· * ·) (read_rows ch m ρ c t h a k) (held2_at ch m ρ c t.val t.isLt h k o)
  · rw [if_neg h, traj_eq, out_dead ch m ρ c t _ (fun q => h ((live_at ch t).1 q)), zero_at]

/-- The precondition's own side conditions. -/
theorem pre_facts : Cert.Pre_experts_up.Facts where
  bcast_S_S76 := by decide +kernel
  bcast_S_S1 := by decide +kernel

/-! ## The result array -/

/-- One choice of tables. -/
def someRoute : Route := ⟨fun _ => 0#32, fun _ => 1#32, fun _ => by decide, fun _ => by decide, fun _ => by decide⟩

theorem covers_some : ((cfgA someRoute).win (3 : Fin 4)).Covers := by decide +kernel
/-- The blocks of the result cover it; where they lie does not depend on the tables. -/
theorem covers : ((cfgA ch).win (3 : Fin 4)).Covers := covers_some

theorem array_eq (c : Dev nD) :
    (dats ch m ρ 0 c).arrAt (3 : Fin 4) (cfgA ch).N = Cert.Reference3Ideal.Read.val_main_v27 (F := Ideal) ch.experts ch.used
      (m ((c : Thread nD τ).loc main_arg2)) (m ((c : Thread nD τ).loc main_arg3)) (m ((c : Thread nD τ).loc main_arg4)) := by
  refine (dats ch m ρ 0 c).arrAt_eq_of_covers (3 : Fin 4) _ (covers ch) fun t hf y => ?_
  have key : ∀ y : S512x1792.Idx, (traj ch m ρ c t.val t.isLt).1 y = Cert.Reference3Ideal.Read.val_main_v27 (F := Ideal) ch.experts ch.used
      (m ((c : Thread nD τ).loc main_arg2)) (m ((c : Thread nD τ).loc main_arg3)) (m ((c : Thread nD τ).loc main_arg4)) ((((cfgA ch).win (3 : Fin 4)).blk t).view.emb y) := fun y => by
    obtain ⟨a, o, rfl⟩ : ∃ a o, y = ix2 a o := ⟨y 0, y 1, funext fun d => match d with | ⟨0, _⟩ => rfl | ⟨1, _⟩ => rfl⟩
    rw [place]
    exact (block_at ch m ρ c t a o).trans (result_at ch _ _ _ (row ch t a) (col ch t o)).symm
  exact key y

theorem frame_ref [hP : Cert.Pre_experts_up.Facts] : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with equal results. -/
theorem algebraic [hP : Cert.Pre_experts_up.Facts] : Cert.algebraic_Kernel3Ideal_Reference3Ideal := by
  intro m g m' g' hpre hagree
  obtain ⟨ch, hp⟩ := route_of_pre m hpre
  have hr : θ_run (defs (F := Ideal)) (onTc (τ := τ) (main (F := Ideal))) ⟨m, fun _ => 0, g⟩ (fun r => ∀ c : Dev nD,
      r.2.mem ((c.tc : Thread nD τ).loc main_v0) = (dats ch m g 0 c).arrAt (3 : Fin 4) (cfgA ch).N) :=
    (θ_run defs _ _).mono (fun _ h c => (h c).1 (3 : Fin 4)) (run ch m g hp)
  refine ⟨_, (θ_run defs _ _).mono (fun r h c => ⟨(h.1 c).trans (array_eq ch m g c), h.2 c⟩) (θ_run_and hr (unchanged ch m g hp)),
    (θ_run Cert.Reference3Ideal.defs _ _).mono (fun r h c => ⟨(h c).1.trans ?_, (h c).2⟩)
      (Cert.Reference3Ideal.Value.run (F := Ideal) m' g')⟩
  refine (Cert.Reference3Ideal.Read.val_main_v27_eq _ _ _ _ _).trans ?_
  obtain ⟨h0, h1, h2, h3, h4⟩ := hagree c
  rw [h0, h1, h2, h3, h4, hp.1 c, hp.2 c]

end Cert.Up

end
-- ==== Proof.Proj.lean ====
/- The input projection: its value at one row and column, and what a point of the kernel stores. -/
module

public import proofs.«01_k».proof.Proof.Ffn
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Proj

open Cert.Kernel5Ideal Cert.Kernel5Ideal.Gen Idealize.ShloMosaic Idealize.ShloMosaic.TcCoe

/-- A row divided by its root mean square, times the gain, then scaled by `1 + s` and shifted by `b`. -/
def modded (x g s b : Fin 1024 → EReal) (d : Fin 1024) : EReal :=
  x d * Ideal.rsqrt (Ideal.div (∑ e, x e * x e) (Ideal.ofBits .f32 0x44800000#32) + Ideal.ofBits .f32 0x358637BD#32) * g d
    * (1 + s d) + b d

/-! ## What the stores write -/

theorem modded_at (v0 : Vec Ideal S512x1024 .f32) (v1 : Vec Ideal S1x1024 .f32) (v3 v5 : Vec Ideal S1x1x1024 .f32)
    (a : Fin 512) (d : Fin 1024) : k0_pay6 v0 v1 v3 v5 (ix2 a d)
      = modded (fun e => v0 (ix2 a e)) (fun e => v1 (ix2 0 e)) (fun e => v5 (ix3 0 0 e)) (fun e => v3 (ix3 0 0 e)) d := by
  unfold k0_pay6 modded
  pointwise

theorem product_at (h : Vec Ideal S512x1024 .bf16) (w : Vec Ideal S1024x256 .bf16) (a : Fin 512) (o : Fin 256) :
    k0_pay9 h w (ix2 a o) = ∑ k : Fin 1024, h (ix2 a k) * w (ix2 k o) := by
  unfold k0_pay9
  pointwise

theorem last_at (h : Vec Ideal S512x1024 .bf16) (w : Vec Ideal S1024x128 .bf16) (a : Fin 512) (o : Fin 128) :
    k0_pay5 h w (ix2 a o) = ∑ k : Fin 1024, h (ix2 a k) * w (ix2 k o) := by
  unfold k0_pay5
  pointwise

/-- A block of rows times a weight matrix. -/
def times {n : ℕ} (h : Vec Ideal S512x1024 .bf16) (W : Vec Ideal ⟨2, ![1024, n]⟩ .bf16) (y : (⟨2, ![512, n]⟩ : Shape).Idx) : EReal :=
  ∑ k : Fin 1024, h (ix2 (y 0) k) * W (ix2 k (y 1))

/-- The product with 256 columns of the weights is the same columns of the product. -/
theorem piece_at {n : ℕ} (h : Vec Ideal S512x1024 .bf16) (W : Vec Ideal ⟨2, ![1024, n]⟩ .bf16) (off : ℕ)
    (inb : ∀ a, (![0, off] : Fin 2 → ℕ) a + S1024x256.size a ≤ (⟨2, ![1024, n]⟩ : Shape).size a)
    (inb' : ∀ a, (![0, off] : Fin 2 → ℕ) a + S512x256.size a ≤ (⟨2, ![512, n]⟩ : Shape).size a) (x : S512x256.Idx) :
    k0_pay9 h (View.ld W (Rect.unit (s := ⟨2, ![1024, n]⟩) ![0, off] S1024x256.size inb)) x
      = times h W ((Rect.unit (s := ⟨2, ![512, n]⟩) ![0, off] S512x256.size inb').emb x) := by
  obtain ⟨a, o, rfl⟩ : ∃ a o, x = ix2 a o := ⟨x 0, x 1, funext fun d => match d with | ⟨0, _⟩ => rfl | ⟨1, _⟩ => rfl⟩
  rw [product_at]
  unfold times
  refine Finset.sum_congr rfl fun k _ => congrArg₂ (· * ·) (congrArg h ?_) ?_
  · refine funext fun d => Fin.ext ?_
    match d with
    | ⟨0, _⟩ => show a.val = 0 + 1 * a.val; omega
    | ⟨1, _⟩ => rfl
  · refine View.ld_unit_apply_of _ _ _ _ _ _ fun d => ?_
    match d with
    | ⟨0, _⟩ => show k.val = 0 + k.val; omega
    | ⟨1, _⟩ => show off + 1 * o.val = off + o.val; omega

/-! ## The four output blocks -/

section

variable (x0 : Vec Ideal S512x1024 .f32) (x1 : Vec Ideal S1x6x1024 .f32) (x2 : Vec Ideal S1x1024 .f32)
  (x3 x4 : Vec Ideal S1024x1024 .bf16) (x5 : Vec Ideal S1024x768 .bf16) (x6 : Vec Ideal S1024x128 .bf16)

/-- The block's normalized rows. -/
abbrev rows : Vec Ideal S512x1024 .bf16 := k0_pay14 x0 x1 x2 x3 x4 x5 x6

theorem rows_at (a : Fin 512) (d : Fin 1024) : rows x0 x1 x2 x3 x4 x5 x6 (ix2 a d)
    = modded (fun e => x0 (ix2 a e)) (fun e => x2 (ix2 0 e)) (fun e => x1 (ix3 0 1 e)) (fun e => x1 (ix3 0 0 e)) d := by
  unfold rows k0_pay14
  rw [modded_at]
  have e0 : (fun e : Fin 1024 => View.ld x0 r0_0 (ix2 a e)) = fun e => x0 (ix2 a e) := funext fun e =>
    View.ld_unit_apply_of _ _ _ _ _ _ fun i => match i with
      | ⟨0, _⟩ => (Nat.zero_add _).symm
      | ⟨1, _⟩ => (Nat.zero_add _).symm
  have e2 : (fun e : Fin 1024 => View.ld x2 r0_1 (ix2 0 e)) = fun e => x2 (ix2 0 e) := funext fun e =>
    View.ld_unit_apply_of _ _ _ _ _ _ fun i => match i with
      | ⟨0, _⟩ => (Nat.zero_add _).symm
      | ⟨1, _⟩ => (Nat.zero_add _).symm
  have e3 : (fun e : Fin 1024 => View.ld x1 r0_2 (ix3 0 0 e)) = fun e => x1 (ix3 0 0 e) := funext fun e =>
    View.ld_unit_apply_of _ _ _ _ _ _ fun i => match i with
      | ⟨0, _⟩ => (Nat.zero_add _).symm
      | ⟨1, _⟩ => (Nat.zero_add _).symm
      | ⟨2, _⟩ => (Nat.zero_add _).symm
  have e5 : (fun e : Fin 1024 => View.ld x1 r0_3 (ix3 0 0 e)) = fun e => x1 (ix3 0 1 e) := funext fun e =>
    View.ld_unit_apply_of _ _ _ _ _ _ fun i => match i with
      | ⟨0, _⟩ => (Nat.zero_add _).symm
      | ⟨1, _⟩ => rfl
      | ⟨2, _⟩ => (Nat.zero_add _).symm
  rw [e0, e2, e3, e5]

theorem ret_block (y : S512x1024.Idx) : out0_7 x0 x1 x2 x3 x4 x5 x6 y = times (rows x0 x1 x2 x3 x4 x5 x6) x3 y := by
  unfold out0_7
  refine View.canon_apply_of_pieces (Val := Elt Ideal) (e := .bf16) (times (rows x0 x1 x2 x3 x4 x5 x6) x3) _ ?_ y (cover0_7 _ _ _ _ y)
  intro p hp
  simp only [List.mem_cons, List.not_mem_nil, or_false] at hp
  rcases hp with rfl | rfl | rfl | rfl <;> exact fun x => piece_at _ x3 _ _ (by decide) x

theorem gdn_block (y : S512x1024.Idx) : out0_8 x0 x1 x2 x3 x4 x5 x6 y = times (rows x0 x1 x2 x3 x4 x5 x6) x4 y := by
  unfold out0_8
  refine View.canon_apply_of_pieces (Val := Elt Ideal) (e := .bf16) (times (rows x0 x1 x2 x3 x4 x5 x6) x4) _ ?_ y (cover0_8 _ _ _ _ y)
  intro p hp
  simp only [List.mem_cons, List.not_mem_nil, or_false] at hp
  rcases hp with rfl | rfl | rfl | rfl <;> exact fun x => piece_at _ x4 _ _ (by decide) x

theorem swa_block (y : S512x768.Idx) : out0_9 x0 x1 x2 x3 x4 x5 x6 y = times (rows x0 x1 x2 x3 x4 x5 x6) x5 y := by
  unfold out0_9
  refine View.canon_apply_of_pieces (Val := Elt Ideal) (e := .bf16) (times (rows x0 x1 x2 x3 x4 x5 x6) x5) _ ?_ y (cover0_9 _ _ _ y)
  intro p hp
  simp only [List.mem_cons, List.not_mem_nil, or_false] at hp
  rcases hp with rfl | rfl | rfl <;> exact fun x => piece_at _ x5 _ _ (by decide) x

theorem ab_block (y : S512x128.Idx) : out0_10 x0 x1 x2 x3 x4 x5 x6 y = times (rows x0 x1 x2 x3 x4 x5 x6) x6 y := by
  unfold out0_10
  refine View.canon_apply_of_pieces (Val := Elt Ideal) (e := .f32) (times (rows x0 x1 x2 x3 x4 x5 x6) x6) _ ?_ y (cover0_10 _ y)
  intro p hp
  simp only [List.mem_cons, List.not_mem_nil, or_false] at hp
  subst hp
  intro x
  obtain ⟨a, o, rfl⟩ : ∃ a o, x = ix2 a o := ⟨x 0, x 1, funext fun d => match d with | ⟨0, _⟩ => rfl | ⟨1, _⟩ => rfl⟩
  refine (last_at _ _ a o).trans (Finset.sum_congr rfl fun k _ => congrArg₂ (· * ·) (congrArg _ ?_) ?_)
  · refine funext fun d => Fin.ext ?_
    match d with
    | ⟨0, _⟩ => show a.val = 0 + 1 * a.val; omega
    | ⟨1, _⟩ => rfl
  · refine View.ld_unit_apply_of _ _ _ _ _ _ fun d => ?_
    match d with
    | ⟨0, _⟩ => show k.val = 0 + k.val; omega
    | ⟨1, _⟩ => show 0 + 1 * o.val = 0 + o.val; omega

end

/-! ## The value of the whole call -/

/-- Row `r` of the stream, normalized and modulated by its sequence's (latents) or the context's row of the modulations. -/
def hid (X : Cert.Ffn.Stream) (M : Cert.Ffn.Mods)
    (G : FVec Ideal ⟨1, ![1024]⟩ .f32) (r : Fin 17408) : Fin 1024 → EReal :=
  modded (fun e => X (ix2 r e)) (fun e => G (ix1 e)) (fun e => M (ix3 (Cert.Ffn.seg r) 1 e)) (fun e => M (ix3 (Cert.Ffn.seg r) 0 e))

/-- Row `r` and column `c` of the projection. -/
def value (X : Cert.Ffn.Stream) (M : Cert.Ffn.Mods)
    (G : FVec Ideal ⟨1, ![1024]⟩ .f32) (W : FVec Ideal ⟨2, ![1024, 2832]⟩ .f32) (r : Fin 17408) (c : Fin 2832) : EReal :=
  ∑ k : Fin 1024, hid X M G r k * W (ix2 k c)

end Cert.Proj

end
-- ==== Proof.ProjRef.lean ====
/- The input projection's reference at an index. -/
module

public import proofs.«01_k».proof.Proof.Proj
public import proofs.«01_k».proof.Proof.Gen.Reference5Ideal.Read
public import Idealize.ShloMosaic.Lib.Pointwise

@[expose] public section

set_option maxRecDepth 16384

noncomputable section

namespace Cert.Proj

open Cert.Reference5Ideal Cert.Reference5Ideal.Gen Cert.Reference5Ideal.Read Idealize.ShloMosaic Idealize.ShloMosaic.TcCoe

variable (X : Cert.Ffn.Stream) (M : Cert.Ffn.Mods) (G : FVec Ideal ⟨1, ![1024]⟩ .f32) (W : FVec Ideal ⟨2, ![1024, 2832]⟩ .f32)

/-- A sequence's latent row in the stream. -/
def lat (b : Fin 4) (n : Fin 4096) : Fin 17408 := ⟨b.val * 4096 + n.val, by omega⟩

/-- A sequence's context row in the stream. -/
def ctx (b : Fin 4) (n : Fin 256) : Fin 17408 := ⟨16384 + (b.val * 256 + n.val), by omega⟩

theorem lat_square (b : Fin 4) (n : Fin 4096) (d : Fin 1024) :
    val_main_v4 (F := Ideal) X (ix3 b n d) = X (ix2 (lat b n) d) * X (ix2 (lat b n) d) := by
  unfold val_main_v4 val_main_v1 val_main_v0 lat
  pointwise

theorem lat_sum (b : Fin 4) (n : Fin 4096) :
    val_main_v5 (F := Ideal) X (ix2 b n) = ∑ e, X (ix2 (lat b n) e) * X (ix2 (lat b n) e) := by
  rw [val_main_v5_apply]
  unfold val_main_cst
  pointwise
  refine Finset.sum_congr rfl fun k _ => (congrArg _ ?_).trans (lat_square X b n k)
  exact funext fun a => match a with | ⟨0, _⟩ => rfl | ⟨1, _⟩ => rfl | ⟨2, _⟩ => rfl

theorem lat_at (b : Fin 4) (n : Fin 4096) (d : Fin 1024) :
    val_main_v28 (F := Ideal) X M G (ix3 b n d) = hid X M G (lat b n) d := by
  unfold val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7 val_main_v6 val_main_v1 val_main_v0 hid modded
  rw [← lat_sum]
  generalize val_main_v5 (F := Ideal) X = y
  have e : Cert.Ffn.seg (lat b n) = ⟨b.val, by omega⟩ := Fin.ext (by
    dsimp only [Cert.Ffn.seg, lat]
    split <;> omega)
  rw [e]
  unfold val_main_cst_0 val_main_cst_1 val_main_cst_2 lat
  pointwise

theorem ctx_square (b : Fin 4) (n : Fin 256) (d : Fin 1024) :
    val_main_v29 (F := Ideal) X (ix3 b n d) = X (ix2 (ctx b n) d) * X (ix2 (ctx b n) d) := by
  unfold val_main_v29 val_main_v3 val_main_v2 ctx
  pointwise

theorem ctx_sum (b : Fin 4) (n : Fin 256) :
    val_main_v30 (F := Ideal) X (ix2 b n) = ∑ e, X (ix2 (ctx b n) e) * X (ix2 (ctx b n) e) := by
  rw [val_main_v30_apply]
  unfold val_main_cst_3
  pointwise
  refine Finset.sum_congr rfl fun k _ => (congrArg _ ?_).trans (ctx_square X b n k)
  exact funext fun a => match a with | ⟨0, _⟩ => rfl | ⟨1, _⟩ => rfl | ⟨2, _⟩ => rfl

theorem ctx_at (b : Fin 4) (n : Fin 256) (d : Fin 1024) :
    val_main_v53 (F := Ideal) X M G (ix3 b n d) = hid X M G (ctx b n) d := by
  unfold val_main_v53 val_main_v52 val_main_v51 val_main_v50 val_main_v49 val_main_v48 val_main_v47 val_main_v46
    val_main_v45 val_main_v44 val_main_v43 val_main_v42 val_main_v41 val_main_v40 val_main_v39 val_main_v38 val_main_v37
    val_main_v36 val_main_v35 val_main_v34 val_main_v33 val_main_v32 val_main_v31 val_main_v3 val_main_v2 hid modded
  rw [← ctx_sum]
  generalize val_main_v30 (F := Ideal) X = y
  have e : Cert.Ffn.seg (ctx b n) = 4 := Fin.ext (by
    show (if 16384 + (b.val * 256 + n.val) < 16384 then (16384 + (b.val * 256 + n.val)) / 4096 else 4) = 4
    split <;> omega)
  rw [e]
  unfold val_main_cst_4 val_main_cst_5 val_main_cst_6 ctx
  pointwise

theorem hid_at (r : Fin 17408) (d : Fin 1024) : val_main_v56 (F := Ideal) X M G (ix2 r d) = hid X M G r d := by
  unfold val_main_v56 val_main_v55 val_main_v54
  generalize hy : val_main_v28 (F := Ideal) X M G = y
  generalize hz : val_main_v53 (F := Ideal) X M G = z
  pointwise
  subst hy hz
  have hr := r.isLt
  by_cases h : r.val < 16384
  · have e : lat ⟨r.val / 4096, by omega⟩ ⟨r.val % 4096, by omega⟩ = r := Fin.ext (by dsimp only [lat]; omega)
    rw [dif_pos h, lat_at, e]
  · have e : ctx ⟨(r.val - 16384) / 256, by omega⟩ ⟨(r.val - 16384) % 256, by omega⟩ = r :=
      Fin.ext (by dsimp only [ctx]; omega)
    rw [dif_neg h, ctx_at, e]

theorem value_at (r : Fin 17408) (c : Fin 2832) : val_main_v57 (F := Ideal) X M G W (ix2 r c) = value X M G W r c := by
  refine (val_main_v57_apply X M G W (ix2 r c)).trans (Finset.sum_congr rfl fun k _ => ?_)
  refine congrArg₂ (· * ·) ((congrArg _ ?_).trans (hid_at X M G r k)) (congrArg _ ?_) <;>
    exact funext fun a => match a with | ⟨0, _⟩ => rfl | ⟨1, _⟩ => rfl

theorem ret_at (r : Fin 17408) (o : Fin 1024) :
    val_main_v64 (F := Ideal) X M G W (ix2 r o) = value X M G W r ⟨o.val, by omega⟩ := by
  unfold val_main_v64 val_main_v58
  rw [← value_at]
  generalize val_main_v57 (F := Ideal) X M G W = y
  pointwise

theorem gdn_at (r : Fin 17408) (o : Fin 1024) :
    val_main_v65 (F := Ideal) X M G W (ix2 r o) = value X M G W r ⟨1024 + o.val, by omega⟩ := by
  unfold val_main_v65 val_main_v59
  rw [← value_at]
  generalize val_main_v57 (F := Ideal) X M G W = y
  pointwise

theorem swa_at (r : Fin 17408) (o : Fin 768) :
    val_main_v66 (F := Ideal) X M G W (ix2 r o) = value X M G W r ⟨2064 + o.val, by omega⟩ := by
  unfold val_main_v66 val_main_v61
  rw [← value_at]
  generalize val_main_v57 (F := Ideal) X M G W = y
  pointwise

theorem ab_at (r : Fin 17408) (o : Fin 128) : val_main_v63 (F := Ideal) X M G W (ix2 r o)
    = if h : o.val < 16 then value X M G W r ⟨2048 + o.val, by omega⟩ else 0 := by
  simp only [← value_at]
  unfold val_main_v63 val_main_v62 val_main_v60 val_main_cst_7
  generalize val_main_v57 (F := Ideal) X M G W = y
  pointwise

end Cert.Proj

end
-- ==== Proof.ProjArray.lean ====
/- The input projection's four result arrays, and its claims. -/
module

public import proofs.«01_k».proof.Defs
public import proofs.«01_k».proof.Proof.ProjRef
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Lib.KernelVsHost

@[expose] public section

set_option maxRecDepth 16384

noncomputable section

namespace Cert.Proj

open Cert.Kernel5Ideal Cert.Kernel5Ideal.Gen Idealize.ShloMosaic Idealize.ShloMosaic.TcCoe Idealize.SL.Sem

variable (m : (ℓ : Loc nD τ sig) → Buf (Elt Ideal) ℓ)

/-- Where each window's block lies at a point of the grid. -/
theorem block_index : ∀ t : Fin grid0.N, win0_0.index t = ![t.val, 0]
    ∧ win0_1.index t = ![if t.val < 32 then t.val / 8 else 4, 0, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] := by decide +kernel

/-- Sixteen columns of the weights, padded with zeros to 128. -/
theorem padded (W : Vec Ideal S1024x2832 .f32) (k : Fin 1024) (o : Fin 128) :
    pad S1024x128 ![0, 0] ![0, 112] ![0, 0]
        (extractStridedSlice S1024x16 ![0, 2048] (truncf (F := Ideal) .bf16 W bitsLt_bf16_f32) slices_S1024x2832_S1024x16_0_2048)
        (sitofp (F := Ideal) .bf16 (constantI S_ 32 0#32)) pads_S1024x16_S1024x128_000_01120 h_S_ (ix2 k o)
      = if h : o.val < 16 then W (ix2 k ⟨2048 + o.val, by omega⟩) else (0 : EReal) := by
  by_cases h : o.val < 16
  · rw [dif_pos h]
    refine (pad_apply_of_inside _ _ _ _ _ _ _ (ix2 k o) (ix2 k ⟨o.val, h⟩) fun a => ?_).trans ?_
    · match a with
      | ⟨0, _⟩ => show k.val = 0 + k.val * (0 + 1); omega
      | ⟨1, _⟩ => show o.val = 0 + o.val * (0 + 1); omega
    · pointwise
  · rw [dif_neg h]
    refine (pad_apply_of_not_inside _ _ _ _ _ _ _ (ix2 k o) 1 fun a => h ?_).trans ?_
    · have e : (o.val - 0) / (0 + 1) < 16 := a.2.2
      omega
    · pointwise
      show (((0#32 : BitVec 32).toInt : ℝ) : EReal) = 0
      simp

section Reads

variable (c : Dev nD) (t : Fin cfg0.N)

/-- The row of the stream at row `a` of point `t`'s block. -/
def row (a : Fin 512) : Fin 17408 := ⟨t.val * 512 + a.val, by have : t.val < 34 := t.isLt; omega⟩

theorem read_stream (a : Fin 512) (d : Fin 1024) :
    iblk m c 0 t (ix2 a d) = m ((c : Thread nD τ).loc main_arg0) (ix2 (row t a) d) := by
  rw [← V_main_arg0 m c]
  blk_ext [iblk, block_index t, row]
theorem read_mod (a : Fin 512) (k : Fin 6) (d : Fin 1024) :
    iblk m c 1 t (ix3 0 k d) = m ((c : Thread nD τ).loc main_arg1) (ix3 (Cert.Ffn.seg (row t a)) k d) := by
  rw [← V_main_arg1 m c]
  have ht : t.val < 34 := t.isLt
  have e : (Cert.Ffn.seg (row t a)).val = if t.val < 32 then t.val / 8 else 4 := by
    dsimp only [Cert.Ffn.seg, row]
    split <;> split <;> omega
  blk_ext [iblk, block_index t, e]
theorem read_gain (d : Fin 1024) : iblk m c 2 t (ix2 0 d) = m ((c : Thread nD τ).loc main_arg2) (ix1 d) := by
  have e : V m c main_v6 (ix2 0 d) = m ((c : Thread nD τ).loc main_arg2) (ix1 d) := by
    unfold_abbrev_sides
    simp only [hostOps0, hostOps0_1, hostOps0_2, List.flatten_cons, List.flatten_nil, List.append_nil, List.cons_append,
      List.nil_append]
    after_results
    pointwise
  rw [← e]
  blk_ext [iblk, block_index t]
theorem read_ret (k o : Fin 1024) :
    iblk m c 3 t (ix2 k o) = m ((c : Thread nD τ).loc main_arg3) (ix2 k ⟨o.val, by omega⟩) := by
  have e : V m c main_v1 (ix2 k o) = m ((c : Thread nD τ).loc main_arg3) (ix2 k ⟨o.val, by omega⟩) := by
    unfold_abbrev_sides
    simp only [hostOps0, hostOps0_1, hostOps0_2, List.flatten_cons, List.flatten_nil, List.append_nil, List.cons_append,
      List.nil_append]
    after_results
    pointwise
  rw [← e]
  blk_ext [iblk, block_index t]
theorem read_gdn (k o : Fin 1024) :
    iblk m c 4 t (ix2 k o) = m ((c : Thread nD τ).loc main_arg3) (ix2 k ⟨1024 + o.val, by omega⟩) := by
  have e : V m c main_v2 (ix2 k o) = m ((c : Thread nD τ).loc main_arg3) (ix2 k ⟨1024 + o.val, by omega⟩) := by
    unfold_abbrev_sides
    simp only [hostOps0, hostOps0_1, hostOps0_2, List.flatten_cons, List.flatten_nil, List.append_nil, List.cons_append,
      List.nil_append]
    after_results
    pointwise
  rw [← e]
  blk_ext [iblk, block_index t]
theorem read_swa (k : Fin 1024) (o : Fin 768) :
    iblk m c 5 t (ix2 k o) = m ((c : Thread nD τ).loc main_arg3) (ix2 k ⟨2064 + o.val, by omega⟩) := by
  have e : V m c main_v5 (ix2 k o) = m ((c : Thread nD τ).loc main_arg3) (ix2 k ⟨2064 + o.val, by omega⟩) := by
    unfold_abbrev_sides
    simp only [hostOps0, hostOps0_1, hostOps0_2, List.flatten_cons, List.flatten_nil, List.append_nil, List.cons_append,
      List.nil_append]
    after_results
    pointwise
  rw [← e]
  blk_ext [iblk, block_index t]
theorem read_ab (k : Fin 1024) (o : Fin 128) : iblk m c 6 t (ix2 k o)
    = if h : o.val < 16 then m ((c : Thread nD τ).loc main_arg3) (ix2 k ⟨2048 + o.val, by omega⟩) else (0 : EReal) := by
  have e : V m c main_v4 (ix2 k o)
      = if h : o.val < 16 then m ((c : Thread nD τ).loc main_arg3) (ix2 k ⟨2048 + o.val, by omega⟩) else (0 : EReal) := by
    unfold_abbrev_sides
    simp only [hostOps0, hostOps0_1, hostOps0_2, List.flatten_cons, List.flatten_nil, List.append_nil, List.cons_append,
      List.nil_append]
    after_results
    exact padded (m ((c : Thread nD τ).loc main_arg3)) k o
  rw [← e]
  blk_ext [iblk, block_index t]

/-- The normalized rows of the block are those of the stream. -/
theorem rows_eq (a : Fin 512) (d : Fin 1024) :
    rows (iblk m c 0 t) (iblk m c 1 t) (iblk m c 2 t) (iblk m c 3 t) (iblk m c 4 t) (iblk m c 5 t) (iblk m c 6 t) (ix2 a d)
      = hid (m ((c : Thread nD τ).loc main_arg0)) (m ((c : Thread nD τ).loc main_arg1)) (m ((c : Thread nD τ).loc main_arg2))
          (row t a) d := by
  refine (rows_at _ _ _ _ _ _ _ a d).trans ?_
  unfold hid
  simp only [read_stream, read_mod m c t a, read_gain]

/-- A product with the block's rows, where a column of the weights is a column of `w_in`. -/
theorem times_eq {n : ℕ} (W : Vec Ideal ⟨2, ![1024, n]⟩ .bf16) (a : Fin 512) (o : Fin n) (o' : Fin 2832)
    (h : ∀ k, W (ix2 k o) = m ((c : Thread nD τ).loc main_arg3) (ix2 k o')) :
    times (rows (iblk m c 0 t) (iblk m c 1 t) (iblk m c 2 t) (iblk m c 3 t) (iblk m c 4 t) (iblk m c 5 t) (iblk m c 6 t)) W
        (ix2 a o)
      = value (m ((c : Thread nD τ).loc main_arg0)) (m ((c : Thread nD τ).loc main_arg1)) (m ((c : Thread nD τ).loc main_arg2))
          (m ((c : Thread nD τ).loc main_arg3)) (row t a) o' :=
  Finset.sum_congr rfl fun k _ => congrArg₂ (· * ·) (rows_eq m c t a k) (h k)

end Reads

section Arrays

variable (c : Dev nD)

/-- The retention branch's columns. -/
theorem ret_array : (dats m 0 c).arrAt 7 cfg0.N = Cert.Reference5Ideal.Read.val_main_v64 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 7 _ (by decide +kernel) fun t hf y => ?_
  blk_simp
  rw [after0_7]
  have he : (win0_7.blk t).view.emb y = ix2 (row t (y 0)) (y 1) := by
    blk_ext [block_index t, row]
  rw [he]
  refine Eq.trans ?_ (ret_at _ _ _ _ (row t (y 0)) (y 1)).symm
  refine (congrArg _ (funext fun a => match a with | ⟨0, _⟩ => rfl | ⟨1, _⟩ => rfl)).trans
    ((ret_block _ _ _ _ _ _ _ (ix2 (y 0) (y 1))).trans ?_)
  exact times_eq m c t _ (y 0) (y 1) _ fun k => read_ret m c t k (y 1)

/-- The delta-rule branch's columns. -/
theorem gdn_array : (dats m 0 c).arrAt 8 cfg0.N = Cert.Reference5Ideal.Read.val_main_v65 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 8 _ (by decide +kernel) fun t hf y => ?_
  blk_simp
  rw [after0_8]
  have he : (win0_8.blk t).view.emb y = ix2 (row t (y 0)) (y 1) := by
    blk_ext [block_index t, row]
  rw [he]
  refine Eq.trans ?_ (gdn_at _ _ _ _ (row t (y 0)) (y 1)).symm
  refine (congrArg _ (funext fun a => match a with | ⟨0, _⟩ => rfl | ⟨1, _⟩ => rfl)).trans
    ((gdn_block _ _ _ _ _ _ _ (ix2 (y 0) (y 1))).trans ?_)
  exact times_eq m c t _ (y 0) (y 1) _ fun k => read_gdn m c t k (y 1)

/-- The sliding-window branch's columns. -/
theorem swa_array : (dats m 0 c).arrAt 9 cfg0.N = Cert.Reference5Ideal.Read.val_main_v66 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 9 _ (by decide +kernel) fun t hf y => ?_
  blk_simp
  rw [after0_9]
  have he : (win0_9.blk t).view.emb y = ix2 (row t (y 0)) (y 1) := by
    blk_ext [block_index t, row]
  rw [he]
  refine Eq.trans ?_ (swa_at _ _ _ _ (row t (y 0)) (y 1)).symm
  refine (congrArg _ (funext fun a => match a with | ⟨0, _⟩ => rfl | ⟨1, _⟩ => rfl)).trans
    ((swa_block _ _ _ _ _ _ _ (ix2 (y 0) (y 1))).trans ?_)
  exact times_eq m c t _ (y 0) (y 1) _ fun k => read_swa m c t k (y 1)

/-- The sixteen columns, then lanes of zeros: there the padded weights are zero. -/
theorem ab_array : (dats m 0 c).arrAt 10 cfg0.N = Cert.Reference5Ideal.Read.val_main_v63 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 10 _ (by decide +kernel) fun t hf y => ?_
  blk_simp
  rw [after0_10]
  have he : (win0_10.blk t).view.emb y = ix2 (row t (y 0)) (y 1) := by
    blk_ext [block_index t, row]
  rw [he]
  refine Eq.trans ?_ (ab_at _ _ _ _ (row t (y 0)) (y 1)).symm
  refine (congrArg _ (funext fun a => match a with | ⟨0, _⟩ => rfl | ⟨1, _⟩ => rfl)).trans
    ((ab_block _ _ _ _ _ _ _ (ix2 (y 0) (y 1))).trans ?_)
  by_cases h : (y 1).val < 16
  · rw [dif_pos h]
    exact times_eq m c t _ (y 0) (y 1) _ fun k => (read_ab m c t k (y 1)).trans (dif_pos h)
  · rw [dif_neg h]
    refine Finset.sum_eq_zero fun k _ => ?_
    exact (congrArg _ ((read_ab m c t k (y 1)).trans (dif_neg h))).trans (mul_zero _)

end Arrays

theorem frame_ref : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

/-- Kernel and reference end with equal results. -/
theorem algebraic : Cert.algebraic_Kernel5Ideal_Reference5Ideal := by
  intro m g m' g' _ hagree
  refine ⟨_, _, _, _,
    (θ_run Cert.Kernel5Ideal.defs _ _).mono
      (fun r h c => ⟨(h c).1.trans (ret_array m c), (h c).2.1.trans (gdn_array m c), (h c).2.2.1.trans (swa_array m c),
        (h c).2.2.2.1.trans (ab_array m c), (h c).2.2.2.2⟩)
      (Cert.Kernel5Ideal.Value.run_blocks (F := Ideal) m g),
    (θ_run Cert.Reference5Ideal.defs _ _).mono
      (fun r h c => ⟨(h c).1.trans ?_, (h c).2.1.trans ?_, (h c).2.2.1.trans ?_, (h c).2.2.2.1.trans ?_, (h c).2.2.2.2⟩)
      (Cert.Reference5Ideal.Value.run (F := Ideal) m' g')⟩
  all_goals obtain ⟨h0, h1, h2, h3⟩ := hagree c
  · exact (Cert.Reference5Ideal.Read.val_main_v64_eq m' c).trans (by rw [← h0, ← h1, ← h2, ← h3])
  · exact (Cert.Reference5Ideal.Read.val_main_v65_eq m' c).trans (by rw [← h0, ← h1, ← h2, ← h3])
  · exact (Cert.Reference5Ideal.Read.val_main_v66_eq m' c).trans (by rw [← h0, ← h1, ← h2, ← h3])
  · exact (Cert.Reference5Ideal.Read.val_main_v63_eq m' c).trans (by rw [← h0, ← h1, ← h2, ← h3])

end Cert.Proj
-- ==== Proof.Mix.lean ====
/- The output projection: its values at a row and column, and what a point of the kernel stores. -/
module

public import proofs.«01_k».proof.Proof.Proj
public import proofs.«01_k».proof.Proof.Gen.Kernel6Ideal.Value
public import Idealize.ShloMosaic.Lib.Pipeline.ValueKit
public import Idealize.ShloMosaic.Lib.Pointwise

@[expose] public section

set_option maxRecDepth 16384

noncomputable section

namespace Cert.Mix

open Cert.Kernel6Ideal Cert.Kernel6Ideal.Gen Idealize.ShloMosaic Idealize.ShloMosaic.TcCoe

/-! ## The values of the call -/

/-- A row of two arrays laid one after the other: the latents', then the context's. -/
def pick {n : ℕ} (A : Vec Ideal ⟨2, ![16384, n]⟩ .bf16) (B : Vec Ideal ⟨2, ![1024, n]⟩ .bf16) (r : Fin 17408) (k : Fin n) : EReal :=
  if h : r.val < 16384 then A (ix2 ⟨r.val, h⟩ k) else B (ix2 ⟨r.val - 16384, by omega⟩ k)

/-- Three rows of mixed tokens times the three groups of rows of the weights, at a column. -/
def mixed (a b : Fin 256 → EReal) (s : Fin 512 → EReal) (w : Fin 1024 → EReal) : EReal :=
  (∑ k, a k * w ⟨k.val, by omega⟩) + (∑ k, b k * w ⟨256 + k.val, by omega⟩) + ∑ k, s k * w ⟨512 + k.val, by omega⟩

/-- The three rows as one. -/
def joined (a b : Fin 256 → EReal) (s : Fin 512 → EReal) (k : Fin 1024) : EReal :=
  if h : k.val < 256 then a ⟨k.val, h⟩
  else if h' : k.val - 256 < 256 then b ⟨k.val - 256, h'⟩ else s ⟨k.val - 256 - 256, by omega⟩

/-- The product of the joined rows is the sum of the three products. -/
theorem joined_sum (a b : Fin 256 → EReal) (s : Fin 512 → EReal) (w : Fin 1024 → EReal) :
    ∑ k, joined a b s k * w k = mixed a b s w := by
  unfold mixed
  refine (Fin.sum_univ_add (a := 512) (b := 512) fun k : Fin 1024 => joined a b s k * w k).trans ?_
  refine congrArg₂ (· + ·) ?_ (Finset.sum_congr rfl fun k _ => congrArg (· * _) ?_)
  · refine (Fin.sum_univ_add (a := 256) (b := 256) fun k : Fin 512 => joined a b s (Fin.castAdd 512 k) * w (Fin.castAdd 512 k)).trans ?_
    refine congrArg₂ (· + ·) (Finset.sum_congr rfl fun k _ => congrArg (· * _) ?_)
      (Finset.sum_congr rfl fun k _ => congrArg (· * _) ?_)
    · exact dif_pos k.isLt
    · refine (dif_neg (show ¬256 + k.val < 256 by omega)).trans ((dif_pos (show 256 + k.val - 256 < 256 by omega)).trans ?_)
      exact congrArg b (Fin.ext (show 256 + k.val - 256 = k.val by omega))
  · refine (dif_neg (show ¬512 + k.val < 256 by omega)).trans ((dif_neg (show ¬512 + k.val - 256 < 256 by omega)).trans ?_)
    exact congrArg s (Fin.ext (show 512 + k.val - 256 - 256 = k.val by omega))

section

variable (R : Vec Ideal S16384x256 .bf16) (R' : Vec Ideal S1024x256 .bf16) (D : Vec Ideal S16384x256 .bf16)
  (D' : Vec Ideal S1024x256 .bf16) (S : Vec Ideal S16384x512 .bf16) (S' : Vec Ideal S1024x512 .bf16) (X : Cert.Ffn.Stream)
  (M : Cert.Ffn.Mods) (W : Vec Ideal S1024x1024 .f32) (G : Vec Ideal S1024 .f32)

/-- The new stream: the old one plus the gated projection of the mixed tokens. -/
def stream (r : Fin 17408) (o : Fin 1024) : EReal :=
  X (ix2 r o) + M (ix3 (Cert.Ffn.seg r) 2 o) * mixed (pick R R' r) (pick D D' r) (pick S S' r) fun k => W (ix2 k o)

/-- The tokens of the feed-forward part: the new stream's row, normalized and modulated. -/
def token (r : Fin 17408) (d : Fin 1024) : EReal :=
  Cert.Proj.modded (stream R R' D D' S S' X M W r) (fun e => G (ix1 e)) (fun e => M (ix3 (Cert.Ffn.seg r) 4 e))
    (fun e => M (ix3 (Cert.Ffn.seg r) 3 e)) d

end

/-! ## What the stores write -/

/-- The kernel's test of the grid coordinate chooses the latents' block at the first 32 points. -/
theorem select_eq {α : Type} (i : grid0.Coords) (x y : α) :
    Scalar.select (Scalar.cmpi .slt (BitVec.ofNat 32 (i 0).val) 32#32) x y = if (i 0).val < 32 then x else y := by
  have h : ∀ n : Fin 34, Scalar.cmpi .slt (BitVec.ofNat 32 n.val) 32#32 = if n.val < 32 then 1#1 else 0#1 := by decide
  rw [h (i 0)]
  split <;> rfl

theorem stream_stored (i : grid0.Coords) (v0 : Vec Ideal S512x1024 .f32) (v2 v3 v5 v6 : Vec Ideal S512x256 .bf16)
    (v8 v9 : Vec Ideal S512x512 .bf16) (v11 v14 : Vec Ideal S256x1024 .bf16) (v18 : Vec Ideal S512x1024 .bf16)
    (v22 : Vec Ideal S1x1x1024 .f32) (a : Fin 512) (o : Fin 1024) :
    k0_pay2 i v0 v2 v3 v5 v6 v8 v9 v11 v14 v18 v22 (ix2 a o)
      = v0 (ix2 a o) + v22 (ix3 0 0 o) * ((∑ k : Fin 256, (if (i 0).val < 32 then v2 else v3) (ix2 a k) * v11 (ix2 k o))
          + (∑ k : Fin 256, (if (i 0).val < 32 then v5 else v6) (ix2 a k) * v14 (ix2 k o))
          + ∑ k : Fin 512, (if (i 0).val < 32 then v8 else v9) (ix2 a k) * v18 (ix2 k o)) := by
  unfold k0_pay2
  dsimp only
  rw [select_eq, select_eq, select_eq]
  generalize (if (i 0).val < 32 then v2 else v3) = x
  generalize (if (i 0).val < 32 then v5 else v6) = y
  generalize (if (i 0).val < 32 then v8 else v9) = z
  pointwise

theorem token_stored (x : Vec Ideal S512x1024 .f32) (v28 : Vec Ideal S1x1024 .f32) (v30 v32 : Vec Ideal S1x1x1024 .f32)
    (a : Fin 512) (d : Fin 1024) : k0_pay1 x v28 v30 v32 (ix2 a d)
      = Cert.Proj.modded (fun e => x (ix2 a e)) (fun e => v28 (ix2 0 e)) (fun e => v32 (ix3 0 0 e)) (fun e => v30 (ix3 0 0 e)) d := by
  unfold k0_pay1 Cert.Proj.modded
  pointwise

end Cert.Mix

end
-- ==== Proof.MixRef.lean ====
/- The output projection's reference at an index. -/
module

public import proofs.«01_k».proof.Proof.Mix
public import proofs.«01_k».proof.Proof.ProjRef
public import proofs.«01_k».proof.Proof.Gen.Reference6Ideal.Read
public import Idealize.ShloMosaic.Lib.Pointwise

@[expose] public section

set_option maxRecDepth 16384

noncomputable section

namespace Cert.Mix

open Cert.Reference6Ideal Cert.Reference6Ideal.Gen Cert.Reference6Ideal.Read Idealize.ShloMosaic Idealize.ShloMosaic.TcCoe
open Cert.Proj (lat ctx)

variable (R : Vec Ideal S16384x256 .bf16) (R' : Vec Ideal S1024x256 .bf16) (D : Vec Ideal S16384x256 .bf16)
  (D' : Vec Ideal S1024x256 .bf16) (S : Vec Ideal S16384x512 .bf16) (S' : Vec Ideal S1024x512 .bf16) (X : Cert.Ffn.Stream)
  (M : Cert.Ffn.Mods) (W : Vec Ideal S1024x1024 .f32) (G : Vec Ideal S1024 .f32)

/-! ## The latents -/

theorem lat_joined (n : Fin 16384) (k : Fin 1024) : val_main_v37 (F := Ideal) R D S (ix2 n k)
    = joined (fun k => R (ix2 n k)) (fun k => D (ix2 n k)) (fun k => S (ix2 n k)) k := by
  unfold val_main_v37 val_main_v36 val_main_v35 val_main_v34 joined
  pointwise

theorem lat_product (n : Fin 16384) (o : Fin 1024) : val_main_v42 (F := Ideal) R D S W (ix2 n o)
    = mixed (fun k => R (ix2 n k)) (fun k => D (ix2 n k)) (fun k => S (ix2 n k)) fun k => W (ix2 k o) := by
  rw [← joined_sum]
  refine (val_main_v42_apply R D S W (ix2 n o)).trans (Finset.sum_congr rfl fun k _ => ?_)
  refine congrArg₂ (· * ·) ((congrArg _ ?_).trans (lat_joined R D S n k)) (congrArg _ ?_) <;>
    exact funext fun a => match a with | ⟨0, _⟩ => rfl | ⟨1, _⟩ => rfl

theorem seg_lat (b : Fin 4) (n : Fin 4096) : Cert.Ffn.seg (lat b n) = ⟨b.val, by omega⟩ := Fin.ext (by
  dsimp only [Cert.Ffn.seg, lat]
  split <;> omega)

theorem pick_lat {w : ℕ} (A : Vec Ideal ⟨2, ![16384, w]⟩ .bf16) (B : Vec Ideal ⟨2, ![1024, w]⟩ .bf16) (b : Fin 4) (n : Fin 4096) :
    pick A B (lat b n) = fun k => A (ix2 ⟨b.val * 4096 + n.val, by omega⟩ k) :=
  funext fun k => dif_pos (show b.val * 4096 + n.val < 16384 by omega)

theorem lat_stream (b : Fin 4) (n : Fin 4096) (d : Fin 1024) :
    val_main_v46 (F := Ideal) R D S X M W (ix3 b n d) = stream R R' D D' S S' X M W (lat b n) d := by
  unfold stream
  rw [pick_lat, pick_lat, pick_lat, seg_lat, ← lat_product]
  unfold val_main_v46 val_main_v45 val_main_v44 val_main_v43 val_main_v12 val_main_v11 val_main_v10 val_main_v1 val_main_v0 lat
  generalize val_main_v42 (F := Ideal) R D S W = y
  pointwise

theorem lat_sum (b : Fin 4) (n : Fin 4096) : val_main_v54 (F := Ideal) R D S X M W (ix2 b n)
    = ∑ e, stream R R' D D' S S' X M W (lat b n) e * stream R R' D D' S S' X M W (lat b n) e := by
  rw [val_main_v54_apply]
  unfold val_main_cst
  pointwise
  refine Finset.sum_congr rfl fun k _ => ?_
  rw [← lat_stream]
  refine congrArg (val_main_v53 (F := Ideal) R D S X M W) ?_
  exact funext fun a => match a with | ⟨0, _⟩ => rfl | ⟨1, _⟩ => rfl | ⟨2, _⟩ => rfl

theorem lat_token (b : Fin 4) (n : Fin 4096) (d : Fin 1024) :
    val_main_v71 (F := Ideal) R D S X M W G (ix3 b n d) = token R R' D D' S S' X M W G (lat b n) d := by
  unfold token Cert.Proj.modded
  rw [← lat_sum, ← lat_stream, seg_lat]
  unfold val_main_v71 val_main_v70 val_main_v69 val_main_v68 val_main_v67 val_main_v66 val_main_v65 val_main_v64
    val_main_v63 val_main_v62 val_main_v61 val_main_v60 val_main_v59 val_main_v58 val_main_v57 val_main_v56 val_main_v55
    val_main_v18 val_main_v17 val_main_v16 val_main_v15 val_main_v14 val_main_v13 val_main_cst_0 val_main_cst_1 val_main_cst_2
  generalize val_main_v54 (F := Ideal) R D S X M W = y
  generalize val_main_v46 (F := Ideal) R D S X M W = z
  pointwise

/-! ## The context -/

theorem ctx_joined (n : Fin 1024) (k : Fin 1024) : val_main_v41 (F := Ideal) R' D' S' (ix2 n k)
    = joined (fun k => R' (ix2 n k)) (fun k => D' (ix2 n k)) (fun k => S' (ix2 n k)) k := by
  unfold val_main_v41 val_main_v40 val_main_v39 val_main_v38 joined
  pointwise

theorem ctx_product (n : Fin 1024) (o : Fin 1024) : val_main_v47 (F := Ideal) R' D' S' W (ix2 n o)
    = mixed (fun k => R' (ix2 n k)) (fun k => D' (ix2 n k)) (fun k => S' (ix2 n k)) fun k => W (ix2 k o) := by
  rw [← joined_sum]
  refine (val_main_v47_apply R' D' S' W (ix2 n o)).trans (Finset.sum_congr rfl fun k _ => ?_)
  refine congrArg₂ (· * ·) ((congrArg _ ?_).trans (ctx_joined R' D' S' n k)) (congrArg _ ?_) <;>
    exact funext fun a => match a with | ⟨0, _⟩ => rfl | ⟨1, _⟩ => rfl

theorem seg_ctx (b : Fin 4) (n : Fin 256) : Cert.Ffn.seg (ctx b n) = 4 := Fin.ext (by
  show (if 16384 + (b.val * 256 + n.val) < 16384 then (16384 + (b.val * 256 + n.val)) / 4096 else 4) = 4
  split <;> omega)

theorem pick_ctx {w : ℕ} (A : Vec Ideal ⟨2, ![16384, w]⟩ .bf16) (B : Vec Ideal ⟨2, ![1024, w]⟩ .bf16) (b : Fin 4) (n : Fin 256) :
    pick A B (ctx b n) = fun k => B (ix2 ⟨b.val * 256 + n.val, by omega⟩ k) :=
  funext fun k => (dif_neg (show ¬16384 + (b.val * 256 + n.val) < 16384 by omega)).trans
    (congrArg (fun r => B (ix2 r k)) (Fin.ext (show 16384 + (b.val * 256 + n.val) - 16384 = b.val * 256 + n.val by omega)))

theorem ctx_stream (b : Fin 4) (n : Fin 256) (d : Fin 1024) :
    val_main_v52 (F := Ideal) R' D' S' X M W (ix3 b n d) = stream R R' D D' S S' X M W (ctx b n) d := by
  unfold stream
  rw [pick_ctx, pick_ctx, pick_ctx, seg_ctx, ← ctx_product]
  unfold val_main_v52 val_main_v51 val_main_v50 val_main_v49 val_main_v48 val_main_v27 val_main_v26 val_main_v3 val_main_v2 ctx
  generalize val_main_v47 (F := Ideal) R' D' S' W = y
  pointwise

theorem ctx_sum (b : Fin 4) (n : Fin 256) : val_main_v73 (F := Ideal) R' D' S' X M W (ix2 b n)
    = ∑ e, stream R R' D D' S S' X M W (ctx b n) e * stream R R' D D' S S' X M W (ctx b n) e := by
  rw [val_main_v73_apply]
  unfold val_main_cst_3
  pointwise
  refine Finset.sum_congr rfl fun k _ => ?_
  rw [← ctx_stream]
  refine congrArg (val_main_v72 (F := Ideal) R' D' S' X M W) ?_
  exact funext fun a => match a with | ⟨0, _⟩ => rfl | ⟨1, _⟩ => rfl | ⟨2, _⟩ => rfl

theorem ctx_token (b : Fin 4) (n : Fin 256) (d : Fin 1024) :
    val_main_v92 (F := Ideal) R' D' S' X M W G (ix3 b n d) = token R R' D D' S S' X M W G (ctx b n) d := by
  unfold token Cert.Proj.modded
  rw [← ctx_sum, ← ctx_stream, seg_ctx]
  unfold val_main_v92 val_main_v91 val_main_v90 val_main_v89 val_main_v88 val_main_v87 val_main_v86 val_main_v85
    val_main_v84 val_main_v83 val_main_v82 val_main_v81 val_main_v80 val_main_v79 val_main_v78 val_main_v77 val_main_v76
    val_main_v75 val_main_v74 val_main_v31 val_main_v30 val_main_v29 val_main_v28 val_main_cst_4 val_main_cst_5 val_main_cst_6
  generalize val_main_v73 (F := Ideal) R' D' S' X M W = y
  generalize val_main_v52 (F := Ideal) R' D' S' X M W = z
  pointwise

/-! ## The two results -/

theorem stream_at (r : Fin 17408) (d : Fin 1024) :
    val_main_v95 (F := Ideal) R R' D D' S S' X M W (ix2 r d) = stream R R' D D' S S' X M W r d := by
  unfold val_main_v95 val_main_v94 val_main_v93
  generalize hy : val_main_v46 (F := Ideal) R D S X M W = y
  generalize hz : val_main_v52 (F := Ideal) R' D' S' X M W = z
  pointwise
  subst hy hz
  have hr := r.isLt
  by_cases h : r.val < 16384
  · have e : lat ⟨r.val / 4096, by omega⟩ ⟨r.val % 4096, by omega⟩ = r := Fin.ext (by dsimp only [lat]; omega)
    rw [dif_pos h, lat_stream R R' D D' S S', e]
  · have e : ctx ⟨(r.val - 16384) / 256, by omega⟩ ⟨(r.val - 16384) % 256, by omega⟩ = r :=
      Fin.ext (by dsimp only [ctx]; omega)
    rw [dif_neg h, ctx_stream R R' D D' S S', e]

theorem token_at (r : Fin 17408) (d : Fin 1024) :
    val_main_v99 (F := Ideal) R R' D D' S S' X M W G (ix2 r d) = token R R' D D' S S' X M W G r d := by
  unfold val_main_v99 val_main_v98 val_main_v97 val_main_v96
  generalize hy : val_main_v71 (F := Ideal) R D S X M W G = y
  generalize hz : val_main_v92 (F := Ideal) R' D' S' X M W G = z
  pointwise
  subst hy hz
  have hr := r.isLt
  by_cases h : r.val < 16384
  · have e : lat ⟨r.val / 4096, by omega⟩ ⟨r.val % 4096, by omega⟩ = r := Fin.ext (by dsimp only [lat]; omega)
    rw [dif_pos h, lat_token R R' D D' S S', e]
  · have e : ctx ⟨(r.val - 16384) / 256, by omega⟩ ⟨(r.val - 16384) % 256, by omega⟩ = r :=
      Fin.ext (by dsimp only [ctx]; omega)
    rw [dif_neg h, ctx_token R R' D D' S S', e]

end Cert.Mix

end
-- ==== Proof.MixArray.lean ====
/- The output projection's two result arrays, and its claims. -/
module

public import proofs.«01_k».proof.Defs
public import proofs.«01_k».proof.Proof.MixRef
public import proofs.«01_k».proof.Proof.Gen.Kernel6
public import proofs.«01_k».proof.Proof.Gen.Kernel6.Frame
public import proofs.«01_k».proof.Proof.Gen.Reference6Ideal
public import proofs.«01_k».proof.Proof.Gen.Reference6Ideal.Run
public import Idealize.ShloMosaic.Lib.KernelVsHost

@[expose] public section

set_option maxRecDepth 16384

noncomputable section

namespace Cert.Mix

open Cert.Kernel6Ideal Cert.Kernel6Ideal.Gen Idealize.ShloMosaic Idealize.ShloMosaic.TcCoe Idealize.SL.Sem

variable (m : (ℓ : Loc nD τ sig) → Buf (Elt Ideal) ℓ)

/-- Where each window's block lies at a point of the grid. -/
theorem block_index : ∀ t : Fin grid0.N, win0_6.index t = ![t.val, 0]
    ∧ win0_7.index t = ![if t.val < 32 then t.val / 8 else 4, 0, 0] ∧ win0_8.index t = ![0, 0] ∧ win0_9.index t = ![0, 0]
    ∧ win0_10.index t = ![t.val, 0] ∧ win0_11.index t = ![t.val, 0] := by decide +kernel

/-- The latents' windows at the points of the latents. -/
theorem index_lat : ∀ t : Fin grid0.N, t.val < 32 →
    win0_0.index t = ![t.val, 0] ∧ win0_2.index t = ![t.val, 0] ∧ win0_4.index t = ![t.val, 0] := by decide +kernel

/-- The context's windows at the points of the context. -/
theorem index_ctx : ∀ t : Fin grid0.N, ¬t.val < 32 →
    win0_1.index t = ![t.val - 32, 0] ∧ win0_3.index t = ![t.val - 32, 0] ∧ win0_5.index t = ![t.val - 32, 0] := by decide +kernel

theorem coord : ∀ t : Fin grid0.N, (grid0.coords t 0).val = t.val := by decide +kernel

section Reads

variable (c : Dev nD) (t : Fin cfg0.N)

/-- The row of the stream at row `a` of point `t`'s block. -/
def row (a : Fin 512) : Fin 17408 := ⟨t.val * 512 + a.val, by have : t.val < 34 := t.isLt; omega⟩

theorem read_stream (a : Fin 512) (d : Fin 1024) :
    iblk m c 6 t (ix2 a d) = m ((c : Thread nD τ).loc main_arg6) (ix2 (row t a) d) := by
  rw [← V_main_arg6 m c]
  blk_ext [iblk, block_index t, row]
theorem read_mod (a : Fin 512) (k : Fin 6) (d : Fin 1024) :
    iblk m c 7 t (ix3 0 k d) = m ((c : Thread nD τ).loc main_arg7) (ix3 (Cert.Ffn.seg (row t a)) k d) := by
  rw [← V_main_arg7 m c]
  have ht : t.val < 34 := t.isLt
  have e : (Cert.Ffn.seg (row t a)).val = if t.val < 32 then t.val / 8 else 4 := by
    dsimp only [Cert.Ffn.seg, row]
    split <;> split <;> omega
  blk_ext [iblk, block_index t, e]
theorem read_gain (d : Fin 1024) : iblk m c 9 t (ix2 0 d) = m ((c : Thread nD τ).loc main_arg9) (ix1 d) := by
  have e : V m c main_v1 (ix2 0 d) = m ((c : Thread nD τ).loc main_arg9) (ix1 d) := by
    unfold_abbrev_sides
    after_results
    pointwise
  rw [← e]
  blk_ext [iblk, block_index t]
theorem read_weight (k o : Fin 1024) : iblk m c 8 t (ix2 k o) = m ((c : Thread nD τ).loc main_arg8) (ix2 k o) := by
  have e : V m c main_v0 (ix2 k o) = m ((c : Thread nD τ).loc main_arg8) (ix2 k o) := by
    unfold_abbrev_sides
    after_results
    pointwise
  rw [← e]
  blk_ext [iblk, block_index t]

/-- The block of the retention branch that the point takes. -/
theorem read_ret (a : Fin 512) (k : Fin 256) :
    (if (grid0.coords t 0).val < 32 then iblk m c 0 t else iblk m c 1 t : Vec Ideal ⟨2, ![512, 256]⟩ .bf16) (ix2 a k)
      = pick (m ((c : Thread nD τ).loc main_arg0)) (m ((c : Thread nD τ).loc main_arg1)) (row t a) k := by
  rw [coord t]
  by_cases h : t.val < 32
  · have hr : (row t a).val < 16384 := by dsimp only [row]; omega
    rw [if_pos h]
    refine Eq.trans ?_ (dif_pos hr).symm
    rw [← V_main_arg0 m c]
    blk_ext [iblk, index_lat t h, row]
  · have hr : ¬(row t a).val < 16384 := by dsimp only [row]; omega
    have ht : t.val < 34 := t.isLt
    have e : (row t a).val - 16384 = (t.val - 32) * 512 + a.val := by dsimp only [row]; omega
    rw [if_neg h]
    refine Eq.trans ?_ (dif_neg hr).symm
    rw [← V_main_arg1 m c]
    blk_ext [iblk, index_ctx t h, e]
/-- The block of the delta-rule branch that the point takes. -/
theorem read_gdn (a : Fin 512) (k : Fin 256) :
    (if (grid0.coords t 0).val < 32 then iblk m c 2 t else iblk m c 3 t : Vec Ideal ⟨2, ![512, 256]⟩ .bf16) (ix2 a k)
      = pick (m ((c : Thread nD τ).loc main_arg2)) (m ((c : Thread nD τ).loc main_arg3)) (row t a) k := by
  rw [coord t]
  by_cases h : t.val < 32
  · have hr : (row t a).val < 16384 := by dsimp only [row]; omega
    rw [if_pos h]
    refine Eq.trans ?_ (dif_pos hr).symm
    rw [← V_main_arg2 m c]
    blk_ext [iblk, index_lat t h, row]
  · have hr : ¬(row t a).val < 16384 := by dsimp only [row]; omega
    have ht : t.val < 34 := t.isLt
    have e : (row t a).val - 16384 = (t.val - 32) * 512 + a.val := by dsimp only [row]; omega
    rw [if_neg h]
    refine Eq.trans ?_ (dif_neg hr).symm
    rw [← V_main_arg3 m c]
    blk_ext [iblk, index_ctx t h, e]
/-- The block of the sliding-window branch that the point takes. -/
theorem read_swa (a : Fin 512) (k : Fin 512) :
    (if (grid0.coords t 0).val < 32 then iblk m c 4 t else iblk m c 5 t : Vec Ideal ⟨2, ![512, 512]⟩ .bf16) (ix2 a k)
      = pick (m ((c : Thread nD τ).loc main_arg4)) (m ((c : Thread nD τ).loc main_arg5)) (row t a) k := by
  rw [coord t]
  by_cases h : t.val < 32
  · have hr : (row t a).val < 16384 := by dsimp only [row]; omega
    rw [if_pos h]
    refine Eq.trans ?_ (dif_pos hr).symm
    rw [← V_main_arg4 m c]
    blk_ext [iblk, index_lat t h, row]
  · have hr : ¬(row t a).val < 16384 := by dsimp only [row]; omega
    have ht : t.val < 34 := t.isLt
    have e : (row t a).val - 16384 = (t.val - 32) * 512 + a.val := by dsimp only [row]; omega
    rw [if_neg h]
    refine Eq.trans ?_ (dif_neg hr).symm
    rw [← V_main_arg5 m c]
    blk_ext [iblk, index_ctx t h, e]

end Reads

/-! ## The two arrays -/

section Arrays

variable (c : Dev nD)

/-- A load of a whole matrix is the matrix. -/
theorem whole {n k : ℕ} {e : EltTy} (X : Vec Ideal ⟨2, ![n, k]⟩ e) (inb) :
    View.ld X (Rect.unit (s := ⟨2, ![n, k]⟩) ![0, 0] ![n, k] inb) = X := funext fun i =>
  View.ld_unit_apply_of _ _ _ _ _ _ fun a => match a with | ⟨0, _⟩ => (Nat.zero_add _).symm | ⟨1, _⟩ => (Nat.zero_add _).symm

/-- The stored block of the stream. -/
theorem stream_block (t : Fin cfg0.N) (a : Fin 512) (o : Fin 1024) :
    k0_pay2 (grid0.coords t) (View.ld (iblk m c 6 t) r0_0) (View.ld (iblk m c 0 t) r0_1) (View.ld (iblk m c 1 t) r0_1)
        (View.ld (iblk m c 2 t) r0_1) (View.ld (iblk m c 3 t) r0_1) (View.ld (iblk m c 4 t) r0_2) (View.ld (iblk m c 5 t) r0_2)
        (View.ld (iblk m c 8 t) r0_3) (View.ld (iblk m c 8 t) r0_4) (View.ld (iblk m c 8 t) r0_5) (View.ld (iblk m c 7 t) r0_6)
        (ix2 a o)
      = stream (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (row t a) o := by
  refine (stream_stored (grid0.coords t) _ _ _ _ _ _ _ _ _ _ _ a o).trans ?_
  have w3 : ∀ k : Fin 256, View.ld (iblk m c 8 t) r0_3 (ix2 k o) = iblk m c 8 t (ix2 ⟨k.val, by omega⟩ o) := fun k =>
    View.ld_unit_apply_of _ _ _ _ _ _ fun a => match a with | ⟨0, _⟩ => (Nat.zero_add _).symm | ⟨1, _⟩ => (Nat.zero_add _).symm
  have w4 : ∀ k : Fin 256, View.ld (iblk m c 8 t) r0_4 (ix2 k o) = iblk m c 8 t (ix2 ⟨256 + k.val, by omega⟩ o) := fun k =>
    View.ld_unit_apply_of _ _ _ _ _ _ fun a => match a with | ⟨0, _⟩ => rfl | ⟨1, _⟩ => (Nat.zero_add _).symm
  have w5 : ∀ k : Fin 512, View.ld (iblk m c 8 t) r0_5 (ix2 k o) = iblk m c 8 t (ix2 ⟨512 + k.val, by omega⟩ o) := fun k =>
    View.ld_unit_apply_of _ _ _ _ _ _ fun a => match a with | ⟨0, _⟩ => rfl | ⟨1, _⟩ => (Nat.zero_add _).symm
  have hv : View.ld (iblk m c 7 t) r0_6 (ix3 0 0 o) = iblk m c 7 t (ix3 0 2 o) :=
    View.ld_unit_apply_of _ _ _ _ _ _ fun a => match a with | ⟨0, _⟩ => rfl | ⟨1, _⟩ => rfl | ⟨2, _⟩ => (Nat.zero_add _).symm
  have e0 : View.ld (iblk m c 0 t) r0_1 = iblk m c 0 t := whole _ _
  have e1 : View.ld (iblk m c 1 t) r0_1 = iblk m c 1 t := whole _ _
  have e2 : View.ld (iblk m c 2 t) r0_1 = iblk m c 2 t := whole _ _
  have e3 : View.ld (iblk m c 3 t) r0_1 = iblk m c 3 t := whole _ _
  have e4 : View.ld (iblk m c 4 t) r0_2 = iblk m c 4 t := whole _ _
  have e5 : View.ld (iblk m c 5 t) r0_2 = iblk m c 5 t := whole _ _
  have e6 : View.ld (iblk m c 6 t) r0_0 = iblk m c 6 t := whole _ _
  unfold stream mixed
  rw [hv, e0, e1, e2, e3, e4, e5, e6, read_stream, read_mod m c t a]
  simp only [w3, w4, w5, read_weight, read_ret, read_gdn, read_swa]

/-- The new stream. -/
theorem stream_array : (dats m 0 c).arrAt 10 cfg0.N = Cert.Reference6Ideal.Read.val_main_v95 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  have he : (win0_10.blk t).view.emb y = ix2 (row t (y 0)) (y 1) := by
    blk_ext [block_index t, row]
  rw [he]
  refine Eq.trans ?_ (stream_at _ _ _ _ _ _ _ _ _ (row t (y 0)) (y 1)).symm
  unfold out0_10
  rw [View.canon_cons_unit_lit _ _ _ (by decide)]
  exact (congrArg _ (funext fun a => match a with | ⟨0, _⟩ => rfl | ⟨1, _⟩ => rfl)).trans (stream_block m c t (y 0) (y 1))

/-- The tokens of the feed-forward part. -/
theorem token_array : (dats m 0 c).arrAt 11 cfg0.N = Cert.Reference6Ideal.Read.val_main_v99 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) := by
  refine (dats m 0 c).arrAt_eq_of_covers 11 _ (by decide +kernel) fun t hf y => ?_
  blk_simp
  rw [after0_11]
  have he : (win0_11.blk t).view.emb y = ix2 (row t (y 0)) (y 1) := by
    blk_ext [block_index t, row]
  rw [he]
  refine Eq.trans ?_ (token_at _ _ _ _ _ _ _ _ _ _ (row t (y 0)) (y 1)).symm
  refine (congrArg _ (funext fun a => match a with | ⟨0, _⟩ => rfl | ⟨1, _⟩ => rfl)).trans
    (?_ : out0_11 _ _ _ _ _ _ _ _ _ _ _ (ix2 (y 0) (y 1)) = _)
  unfold out0_11
  rw [View.canon_cons_unit_lit _ _ _ (by decide)]
  refine (token_stored _ _ _ _ (y 0) (y 1)).trans ?_
  have h7 : ∀ d, View.ld (iblk m c 9 t) r0_7 (ix2 0 d) = m ((c : Thread nD τ).loc main_arg9) (ix1 d) := fun d =>
    (congrFun (whole _ _) _).trans (read_gain m c t d)
  have h8 : ∀ d, View.ld (iblk m c 7 t) r0_8 (ix3 0 0 d) = iblk m c 7 t (ix3 0 3 d) := fun d =>
    View.ld_unit_apply_of _ _ _ _ _ _ fun a => match a with | ⟨0, _⟩ => rfl | ⟨1, _⟩ => rfl | ⟨2, _⟩ => (Nat.zero_add _).symm
  have h9 : ∀ d, View.ld (iblk m c 7 t) r0_9 (ix3 0 0 d) = iblk m c 7 t (ix3 0 4 d) := fun d =>
    View.ld_unit_apply_of _ _ _ _ _ _ fun a => match a with | ⟨0, _⟩ => rfl | ⟨1, _⟩ => rfl | ⟨2, _⟩ => (Nat.zero_add _).symm
  unfold token
  refine (congrArg (fun f => Cert.Proj.modded f _ _ _ _) (funext fun e => stream_block m c t (y 0) e)).trans ?_
  simp only [h7, h8, h9, read_mod m c t (y 0)]

end Arrays

theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Kernel and reference end with equal results. -/
theorem algebraic : Cert.algebraic_Kernel6Ideal_Reference6Ideal := by
  intro m g m' g' _ hagree
  refine ⟨_, _,
    (θ_run Cert.Kernel6Ideal.defs _ _).mono
      (fun r h c => ⟨(h c).1.trans (stream_array m c), (h c).2.1.trans (token_array m c), (h c).2.2⟩)
      (Cert.Kernel6Ideal.Value.run_blocks (F := Ideal) m g),
    (θ_run Cert.Reference6Ideal.defs _ _).mono (fun r h c => ⟨(h c).1.trans ?_, (h c).2.1.trans ?_, (h c).2.2⟩)
      (Cert.Reference6Ideal.Value.run (F := Ideal) m' g')⟩
  all_goals obtain ⟨h0, h1, h2, h3, h4, h5, h6, h7, h8, h9⟩ := hagree c
  · refine (Cert.Reference6Ideal.Read.val_main_v95_eq _ _ _ _ _ _ _ _ _).trans ?_
    rw [← h0, ← h1, ← h2, ← h3, ← h4, ← h5, ← h6, ← h7, ← h8]
  · exact (Cert.Reference6Ideal.Read.val_main_v99_eq m' c).trans
      (by rw [← h0, ← h1, ← h2, ← h3, ← h4, ← h5, ← h6, ← h7, ← h8, ← h9])

end Cert.Mix

end
-- ==== Proof.UpBits.lean ====
module

public import proofs.«01_k».proof.Proof.Route
public import proofs.«01_k».proof.Proof.Gen.Kernel3.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! # The experts' gated product, bit by bit

The frame of the call for EVERY pair of tables in range, not for one instance of them: `ch` is any assignment of
experts to row tiles together with any number of tiles in use (`Route`). Three paths occur. On path A the tile's
expert changes and the weight columns are reloaded into the scratch; on path B the tile is in use and the scratch is
kept; on path C the tile is past the last one in use and a block of zeros is stored. -/

@[expose] public section

set_option maxRecDepth 16384
set_option Elab.async false

noncomputable section

namespace Cert.UpBits

open Cert Cert.Moe Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (ch : Route)

/-! ## The words the body reads -/

/-- The number of tiles in use, as the body reads it. -/
abbrev word : BitVec 32 :=
  View.readAt (Elt Bits) (tbM0_1).view (Rect.unit (s := S1) ![0] S1.size inb_S1_S1_0).toLoadRect ch.used (Shape.Idx.first (numel1_S1.symm ▸ Nat.one_pos))

theorem word_eq (x : S1.Idx) : word ch = ch.used x :=
  (show word ch = ch.used _ from rfl).trans (congrArg ch.used (Route.one x _).symm)

theorem word_pos : 1 ≤ (word ch).toNat := ch.used_pos _
theorem word_le : (word ch).toNat ≤ 76 := ch.used_le _

/-- Where the body reads the tile's own expert: at the tile, or at the last tile in use. -/
theorem off2_eq (i : grid0.Coords) (w : BitVec 32) (h1 : 1 ≤ w.toNat) (h2 : w.toNat ≤ 76) :
    k0_off2 i w = ![min (w.toNat - 1) (i 1).val] := by
  unfold k0_off2
  exact congrArg (fun n : ℕ => (![n] : Fin 1 → ℕ)) (clip_here w h1 h2 (i 1).val (i 1).isLt)

/-- Where it reads the expert of the tile before. -/
theorem off3_eq (i : grid0.Coords) (w : BitVec 32) (h1 : 1 ≤ w.toNat) (h2 : w.toNat ≤ 76) :
    k0_off3 i w = ![min (w.toNat - 1) ((i 1).val - 1)] := by
  unfold k0_off3
  exact congrArg (fun n : ℕ => (![n] : Fin 1 → ℕ)) (clip_before w h1 h2 (i 1).val (i 1).isLt)

/-- Both reads lie in the table, so the body's two checks hold at every point. -/
theorem chk1 (i : grid0.Coords) : k0_chk1 i (word ch) := by
  have h := word_le ch
  unfold k0_chk1
  rw [off2_eq i _ (word_pos ch) h]
  intro a; fin_cases a
  show min ((word ch).toNat - 1) (i 1).val + 1 ≤ 76
  omega

theorem chk2 (i : grid0.Coords) : k0_chk2 i (word ch) := by
  have h := word_le ch
  unfold k0_chk2
  rw [off3_eq i _ (word_pos ch) h]
  intro a; fin_cases a
  show min ((word ch).toNat - 1) ((i 1).val - 1) + 1 ≤ 76
  omega

/-- The expert the body reads for the tile, and for the tile before it. -/
abbrev here (i : grid0.Coords) : BitVec 32 :=
  View.readAt (Elt Bits) (tbM0_0).view (Rect.unit (s := S76) (k0_off2 i (word ch)) S1.size (k0_off2_inb i (word ch) (chk1 ch i))).toLoadRect ch.experts (Shape.Idx.first (numel1_S1.symm ▸ Nat.one_pos))
abbrev before (i : grid0.Coords) : BitVec 32 :=
  View.readAt (Elt Bits) (tbM0_0).view (Rect.unit (s := S76) (k0_off3 i (word ch)) S1.size (k0_off3_inb i (word ch) (chk2 ch i))).toLoadRect ch.experts (Shape.Idx.first (numel1_S1.symm ▸ Nat.one_pos))

/-- The body reloads the weights: on the first tile, and where the expert changes. -/
abbrev Reload (i : grid0.Coords) : Prop :=
  (Scalar.cmpi .ne (Scalar.extui (Scalar.ori (Scalar.cmpi .eq (BitVec.ofNat 32 (i 1).val) 0#32) (Scalar.cmpi .ne (here ch i) (before ch i)))) 0#32) = 1#1
/-- The tile is in use; -/
abbrev Live (i : grid0.Coords) : Prop := k0_cond2 i (word ch) = 1#1
/-- the tile is past the last one in use. -/
abbrev Dead (i : grid0.Coords) : Prop := k0_cond3 i (word ch) = 1#1

theorem live_iff (i : grid0.Coords) : Live ch i ↔ (i 1).val < (word ch).toNat :=
  slt_iff (word ch) (word_pos ch) (word_le ch) (i 1).val (i 1).isLt
theorem dead_iff (i : grid0.Coords) : Dead ch i ↔ (word ch).toNat ≤ (i 1).val :=
  sge_iff (word ch) (word_pos ch) (word_le ch) (i 1).val (i 1).isLt
theorem not_dead_of_live (i : grid0.Coords) (h : Live ch i) : ¬Dead ch i := by
  rw [dead_iff]; rw [live_iff] at h; omega
theorem dead_of_not_live (i : grid0.Coords) (h : ¬Live ch i) : Dead ch i := by
  rw [dead_iff]; rw [live_iff] at h; omega

/-- The two reads as entries of the table. -/
theorem here_eq (i : grid0.Coords) (x : S76.Idx) (hx : (x 0).val = min ((word ch).toNat - 1) (i 1).val) : here ch i = ch.experts x := by
  refine (show here ch i = ch.experts _ from rfl).trans (congrArg ch.experts (Route.idx_ext ?_))
  rw [hx]
  exact (Nat.add_zero _).trans (congrFun (off2_eq i _ (word_pos ch) (word_le ch)) 0)
theorem before_eq (i : grid0.Coords) (x : S76.Idx) (hx : (x 0).val = min ((word ch).toNat - 1) ((i 1).val - 1)) : before ch i = ch.experts x := by
  refine (show before ch i = ch.experts _ from rfl).trans (congrArg ch.experts (Route.idx_ext ?_))
  rw [hx]
  exact (Nat.add_zero _).trans (congrFun (off3_eq i _ (word_pos ch) (word_le ch)) 0)

/-- What the reload test says: it fails exactly where the point is not the first of its sweep and both reads agree. -/
theorem reload_iff (i : grid0.Coords) : Reload ch i ↔ ((i 1).val = 0 ∨ here ch i ≠ before ch i) :=
  change_iff (i 1).val (i 1).isLt _ _

/-- Past the last tile in use both reads are of that last tile, so nothing is reloaded there. -/
theorem live_of_reload (i : grid0.Coords) (h : Reload ch i) : Live ch i := by
  by_contra hn
  have hp := word_pos ch; have hl := word_le ch; have hi : (i 1).val < 76 := (i 1).isLt
  rw [live_iff] at hn
  rcases (reload_iff ch i).1 h with h0 | h0
  · omega
  · refine h0 ?_
    have hlt : (word ch).toNat - 1 < 76 := by omega
    rw [here_eq ch i (Route.tile _ hlt) (by show (word ch).toNat - 1 = _; omega),
      before_eq ch i (Route.tile _ hlt) (by show (word ch).toNat - 1 = _; omega)]

/-! ## The pipeline at these tables -/

/-- The tables' contents. -/
def pf : pre0.Contents (Elt Bits) := fun | ⟨0, _⟩ => ch.experts | ⟨1, _⟩ => ch.used | ⟨_ + 2, h⟩ => absurd h (by simp)

/-- Window 0 stays inside its array. -/
theorem inb_0 : ∀ i : grid0.Coords, ∀ a, (cc0_transform_0 inb_S1_S1_0 numel1_S1 (pf ch) i a + 1) * S512x1024.size a ≤ S38912x1024.size a := by
  have hp := word_pos ch; have hl := word_le ch
  intro i a
  have e : cc0_transform_0 inb_S1_S1_0 numel1_S1 (pf ch) i = ![min ((word ch).toNat - 1) (i 1).val, 0] :=
    congrArg (fun n : ℕ => (![n, 0] : Fin 2 → ℕ)) (clip_in (word ch) hp hl (i 1).val (i 1).isLt)
  rw [e]
  have hi : (i 1).val < 76 := (i 1).isLt
  fin_cases a
  · show (min ((word ch).toNat - 1) (i 1).val + 1) * 512 ≤ 38912
    omega
  · show (0 + 1) * 1024 ≤ 1024
    decide
/-- Window 1 stays inside its array. -/
theorem inb_1 : ∀ i : grid0.Coords, ∀ a, (cc0_transform_1 k0_off1_inb numel1_S1 (pf ch) i a + 1) * S1x1x1024x1792.size a ≤ S2x8x1024x3584.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 2 := (i 0).isLt
  fin_cases a
  · show (0 + 1) * 1 ≤ 2
    decide
  · exact (Nat.mul_one _).trans_le he
  · show (0 + 1) * 1024 ≤ 1024
    decide
  · show ((BitVec.ofNat 32 (i 0).val).toNat + 1) * 1792 ≤ 3584
    rw [hj]; omega
/-- Window 2 stays inside its array. -/
theorem inb_2 : ∀ i : grid0.Coords, ∀ a, (cc0_transform_2 k0_off1_inb numel1_S1 (pf ch) i a + 1) * S1x1x1024x1792.size a ≤ S2x8x1024x3584.size a := by
  intro i a
  have he := ch.experts_lt ((Rect.unit (s := S76) (k0_off1 i) S1.size (k0_off1_inb i)).emb (Shape.Idx.first (numel1_S1.symm ▸ Nat.one_pos)))
  have hj : (BitVec.ofNat 32 (i 0).val).toNat = (i 0).val := ofNat_small _ (lt_of_lt_of_le (i 0).isLt (by decide))
  have h0 : (i 0).val < 2 := (i 0).isLt
  fin_cases a
  · show (0 + 1) * 1 ≤ 2
    decide
  · exact (Nat.mul_one _).trans_le he
  · show (0 + 1) * 1024 ≤ 1024
    decide
  · show ((BitVec.ofNat 32 (i 0).val).toNat + 1) * 1792 ≤ 3584
    rw [hj]; omega
theorem ok_0 : (∀ i : grid0.Coords, ∃ h : (∀ a, (cc0_transform_0 inb_S1_S1_0 numel1_S1 (pf ch) i a + 1) * S512x1024.size a ≤ S38912x1024.size a), EltTy.bits .f32 = 32 ∨ (Rect.block (s := S38912x1024) S512x1024.size (cc0_transform_0 inb_S1_S1_0 numel1_S1 (pf ch) i) h).WholeWords (EltTy.packing .f32)) := fun i => ⟨inb_0 ch i, .inl rfl⟩
theorem ok_1 : (∀ i : grid0.Coords, ∃ h : (∀ a, (cc0_transform_1 k0_off1_inb numel1_S1 (pf ch) i a + 1) * S1x1x1024x1792.size a ≤ S2x8x1024x3584.size a), EltTy.bits .f32 = 32 ∨ (Rect.block (s := S2x8x1024x3584) S1x1x1024x1792.size (cc0_transform_1 k0_off1_inb numel1_S1 (pf ch) i) h).WholeWords (EltTy.packing .f32)) := fun i => ⟨inb_1 ch i, .inl rfl⟩
theorem ok_2 : (∀ i : grid0.Coords, ∃ h : (∀ a, (cc0_transform_2 k0_off1_inb numel1_S1 (pf ch) i a + 1) * S1x1x1024x1792.size a ≤ S2x8x1024x3584.size a), EltTy.bits .f32 = 32 ∨ (Rect.block (s := S2x8x1024x3584) S1x1x1024x1792.size (cc0_transform_2 k0_off1_inb numel1_S1 (pf ch) i) h).WholeWords (EltTy.packing .f32)) := fun i => ⟨inb_2 ch i, .inl rfl⟩
/-- The side condition of the launch at these tables. -/
theorem ok : ok0 (F := Bits) (pf ch) := ⟨ok_0 ch, ok_1 ch, ok_2 ch⟩

/-- The pipeline at the tables. -/
def adm : (pcfg0 (F := Bits)).Adm := ⟨pf ch, ok ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-- A point's coordinates. -/
abbrev crd (t : Fin (cfgA ch).N) : (cfgA ch).grid.Coords := (cfgA ch).grid.coords t

/-- The staging buffers at a point. -/
abbrev ms0 (t : Fin (cfgA ch).N) : Memref sig .tc .vmem S512x1024 .f32 := spec0_0.stage ((cfgA ch).slots t (0 : Fin 4))
abbrev hs0 (t : Fin (cfgA ch).N) : (ms0 ch t).IsWhole := hstage0_0 (((cfgA ch).slots t (0 : Fin 4)).cast nbuf0_0)
abbrev ms1 (t : Fin (cfgA ch).N) : Memref sig .tc .vmem S1x1x1024x1792 .f32 := spec0_1.stage ((cfgA ch).slots t (1 : Fin 4))
abbrev hs1 (t : Fin (cfgA ch).N) : (ms1 ch t).IsWhole := hstage0_1 (((cfgA ch).slots t (1 : Fin 4)).cast nbuf0_1)
abbrev ms2 (t : Fin (cfgA ch).N) : Memref sig .tc .vmem S1x1x1024x1792 .f32 := spec0_2.stage ((cfgA ch).slots t (2 : Fin 4))
abbrev hs2 (t : Fin (cfgA ch).N) : (ms2 ch t).IsWhole := hstage0_2 (((cfgA ch).slots t (2 : Fin 4)).cast nbuf0_2)
abbrev ms3 (t : Fin (cfgA ch).N) : Memref sig .tc .vmem S512x1792 .bf16 := spec0_3.stage ((cfgA ch).slots t (3 : Fin 4))
abbrev hs3 (t : Fin (cfgA ch).N) : (ms3 ch t).IsWhole := hstage0_3 (((cfgA ch).slots t (3 : Fin 4)).cast nbuf0_3)
/-- Window `w`'s block at point `t`, read off the array the launch finds. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- Some store reaches the output's buffer at every point: the tile is in use or past the last one in use. -/
theorem idle_false (t : Fin (cfgA ch).N) : (cfgA ch).idle (3 : Fin 4) ((cfgA ch).grid.coords t) = false := by
  show (!(k0_cond2 (crd ch t) (word ch) == 1#1) && !(k0_cond3 (crd ch t) (word ch) == 1#1)) = false
  by_cases h : Live ch (crd ch t)
  · rw [show k0_cond2 (crd ch t) (word ch) = 1#1 from h]; rfl
  · rw [show k0_cond3 (crd ch t) (word ch) = 1#1 from dead_of_not_live ch (crd ch t) h, Bool.and_comm]; rfl

/-- A point that does not reload is not the first of the run. -/
theorem ne_zero (t : Fin (cfgA ch).N) (h : ¬Reload ch (crd ch t)) : t.val ≠ 0 := by
  intro h0
  refine h ((reload_iff ch _).2 (.inl ?_))
  exact (by decide +kernel : ∀ t : Fin grid0.N, t.val = 0 → ((grid0.coords t) 1).val = 0) t h0

/-! ## What the output's buffer and the scratches hold after each point -/

/-- One point's step, from what they held before. -/
def step (c : Dev nD) (t : Fin (cfgA ch).N) (prev : (S512x1792.Idx → Elt Bits .bf16) × Buf (Elt Bits) ((c : Thread nD τ).loc cc0_scratch0) × Buf (Elt Bits) ((c : Thread nD τ).loc cc0_scratch1)) : (S512x1792.Idx → Elt Bits .bf16) × Buf (Elt Bits) ((c : Thread nD τ).loc cc0_scratch0) × Buf (Elt Bits) ((c : Thread nD τ).loc cc0_scratch1) :=
  if q0 : Reload ch (crd ch t) then
    (out0_A_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.1, (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.1)
  else
    if q1 : Live ch (crd ch t) then
      (out0_B_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.1, (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.2.1)
    else
      (out0_C_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.1, (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.2.1)

/-- What they hold after point `n`. -/
def traj (c : Dev nD) : (n : ℕ) → n < (cfgA ch).N → (S512x1792.Idx → Elt Bits .bf16) × Buf (Elt Bits) ((c : Thread nD τ).loc cc0_scratch0) × Buf (Elt Bits) ((c : Thread nD τ).loc cc0_scratch1)
  | 0, h => step ch m ρ c ⟨0, h⟩ (default, default, default)
  | n + 1, h => step ch m ρ c ⟨n + 1, h⟩ (traj c n (Nat.lt_of_succ_lt h))

/-- What they held before point `t`. -/
def prev (c : Dev nD) (t : Fin (cfgA ch).N) : (S512x1792.Idx → Elt Bits .bf16) × Buf (Elt Bits) ((c : Thread nD τ).loc cc0_scratch0) × Buf (Elt Bits) ((c : Thread nD τ).loc cc0_scratch1) :=
  if h : t.val = 0 then (default, default, default) else traj ch m ρ c (t.val - 1) (by omega)

theorem traj_eq (c : Dev nD) (t : Fin (cfgA ch).N) : traj ch m ρ c t.val t.isLt = step ch m ρ c t (prev ch m ρ c t) := by
  obtain ⟨n, hn⟩ := t
  cases n with
  | zero => rfl
  | succ n => unfold prev; simp only [Nat.add_one_ne_zero, dif_neg, not_false_eq_true]; rfl

/-- The step on path A. -/
theorem step_A (c : Dev nD) (t : Fin (cfgA ch).N) (prev : (S512x1792.Idx → Elt Bits .bf16) × Buf (Elt Bits) ((c : Thread nD τ).loc cc0_scratch0) × Buf (Elt Bits) ((c : Thread nD τ).loc cc0_scratch1)) (q0 : Reload ch (crd ch t)) :
    step ch m ρ c t prev = (out0_A_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0)), (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.1, (kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.1) := by
  unfold step; simp only [dif_pos q0]

/-- The step on path B. -/
theorem step_B (c : Dev nD) (t : Fin (cfgA ch).N) (prev : (S512x1792.Idx → Elt Bits .bf16) × Buf (Elt Bits) ((c : Thread nD τ).loc cc0_scratch0) × Buf (Elt Bits) ((c : Thread nD τ).loc cc0_scratch1)) (q0 : ¬Reload ch (crd ch t)) (q1 : Live ch (crd ch t)) :
    step ch m ρ c t prev = (out0_B_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1), (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.1, (kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (not_dead_of_live ch (crd ch t) q1)).2.2.1) := by
  unfold step; simp only [dif_neg q0, dif_pos q1]

/-- The step on path C. -/
theorem step_C (c : Dev nD) (t : Fin (cfgA ch).N) (prev : (S512x1792.Idx → Elt Bits .bf16) × Buf (Elt Bits) ((c : Thread nD τ).loc cc0_scratch0) × Buf (Elt Bits) ((c : Thread nD τ).loc cc0_scratch1)) (q0 : ¬Reload ch (crd ch t)) (q1 : ¬Live ch (crd ch t)) :
    step ch m ρ c t prev = (out0_C_3 c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1), (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.1, (kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) prev.2.1 prev.2.2 (chk1 ch (crd ch t)) (chk2 ch (crd ch t)) q0 q1 (dead_of_not_live ch (crd ch t) q1)).2.2.1) := by
  unfold step; simp only [dif_neg q0, dif_neg q1]

/-! ## The proof data -/

def prevT (c : Dev nD) (t : Fin ((cfgA ch).N + 1)) : (S512x1792.Idx → Elt Bits .bf16) × Buf (Elt Bits) ((c : Thread nD τ).loc cc0_scratch0) × Buf (Elt Bits) ((c : Thread nD τ).loc cc0_scratch1) :=
  if h : t.val = 0 then (default, default, default) else traj ch m ρ c (t.val - 1) (by omega)

theorem prevT_castSucc (c : Dev nD) (t : Fin (cfgA ch).N) : prevT ch m ρ c t.castSucc = prev ch m ρ c t := by
  unfold prevT prev; simp only [Fin.val_castSucc]
theorem prevT_succ (c : Dev nD) (t : Fin (cfgA ch).N) : prevT ch m ρ c t.succ = traj ch m ρ c t.val t.isLt := by
  unfold prevT; simp only [Fin.val_succ, Nat.add_one_ne_zero, ↓reduceDIte, Nat.add_one_sub_one]

/-- The invariant before a point: each scratch at what the points before it left, and the body's halves of the tables. -/
def Phi (c : Dev nD) (t : Fin ((cfgA ch).N + 1)) : sProp 𝕄 :=
  iprop((∃ a, ⌜t.val ≠ 0 → a = (prevT ch m ρ c t).2.1⌝ ∗ (scM0_0.view.loc (c : Thread nD τ) ↦{fullShare} a)) ∗ (∃ a, ⌜t.val ≠ 0 → a = (prevT ch m ρ c t).2.2⌝ ∗ (scM0_1.view.loc (c : Thread nD τ) ↦{fullShare} a)) ∗ (tbM0_0.view.loc (c : Thread nD τ) ↦{fullShare.right} ch.experts) ∗ (tbM0_1.view.loc (c : Thread nD τ) ↦{fullShare.right} ch.used))

def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj ch m ρ c t.val t.isLt).1
  Φ t := Phi ch m ρ c t
  q _ := fullShare
  owed _ := 0

theorem after_0 (c : Dev nD) (t : Fin (cfgA ch).N) : (dats ch m ρ 0 c).after (0 : Fin 4) t = iblk ch m ρ c (0 : Fin 4) t := rfl
theorem after_1 (c : Dev nD) (t : Fin (cfgA ch).N) : (dats ch m ρ 0 c).after (1 : Fin 4) t = iblk ch m ρ c (1 : Fin 4) t := rfl
theorem after_2 (c : Dev nD) (t : Fin (cfgA ch).N) : (dats ch m ρ 0 c).after (2 : Fin 4) t = iblk ch m ρ c (2 : Fin 4) t := rfl
theorem after_3 (c : Dev nD) (t : Fin (cfgA ch).N) : (dats ch m ρ 0 c).after (3 : Fin 4) t = (traj ch m ρ c t.val t.isLt).1 := rfl

/-- When the body runs, input window 0's buffer holds the block. -/
theorem before_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
/-- When the body runs, input window 1's buffer holds the block. -/
theorem before_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
/-- When the body runs, input window 2's buffer holds the block. -/
theorem before_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The body at a point -/

/-- The body on the staging buffers of point `t`. -/
abbrev bodyAt (t : Fin (cfgA ch).N) : Prog (TpuEff nD τ sig (Elt Bits) Λ₀ .tc) PUnit :=
  cc0_moe_up (crd ch t) (Memref.whole main_arg0) (Memref.isWhole_whole _) (Memref.whole main_arg1) (Memref.isWhole_whole _) (ms0 ch t) (hs0 ch t) (ms1 ch t) (hs1 ch t) (ms2 ch t) (hs2 ch t) (ms3 ch t) (hs3 ch t) (Memref.whole cc0_scratch0) (Memref.isWhole_whole _) (Memref.whole cc0_scratch1) (Memref.isWhole_whole _)

set_option maxHeartbeats 4000000 in
/-- From the invariant and the windows' buffers the body reaches the invariant of the next point, by path. -/
theorem sound_body (c : Dev nD) (t : Fin (cfgA ch).N) :
    iprop((dats ch m ρ 0 c).Φ t.castSucc ∗ (dats ch m ρ 0 c).owesAt () t.castSucc
        ∗ (∃ d, owns (c : Thread nD τ) (ms0 ch t) fullShare ((dats ch m ρ 0 c).before (0 : Fin 4) t d))
        ∗ (∃ d, owns (c : Thread nD τ) (ms1 ch t) fullShare ((dats ch m ρ 0 c).before (1 : Fin 4) t d))
        ∗ (∃ d, owns (c : Thread nD τ) (ms2 ch t) fullShare ((dats ch m ρ 0 c).before (2 : Fin 4) t d))
        ∗ (∃ d, owns (c : Thread nD τ) (ms3 ch t) fullShare ((dats ch m ρ 0 c).before (3 : Fin 4) t d)))
      ⊢ wp frame (wpE (defs₀ (F := Bits)) Variants.none c none) Set.univ (bodyAt ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : Reload ch (crd ch t)
  · rewrite [idle_false ch t]
    simp only [before_0, before_1, before_2, after_0, after_1, after_2, after_3]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj_eq, step_A ch m ρ c t _ q0]
    unfold Phi; simp only [prevT_castSucc, prevT_succ, traj_eq, step_A ch m ρ c t _ q0, Fin.val_castSucc, Fin.val_succ]
    iintro ⟨⟨⟨%a0, -, HS0⟩, ⟨%a1, -, HS1⟩, HT0, HT1⟩, Ho, ⟨%d0, H0⟩, ⟨%d1, H1⟩, ⟨%d2, H2⟩, ⟨%d3, H3⟩⟩
    iapply ((kernelRun0_A c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) (chk1 ch (crd ch t)) (chk2 ch (crd ch t)) q0 (live_of_reload ch (crd ch t) q0) (not_dead_of_live ch (crd ch t) (live_of_reload ch (crd ch t) q0))).2.2.2 a0 a1 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS0]; · iexact HS0
    isplitl [HS1]; · iexact HS1
    iintro ⟨H0, H1, H2, HT0, HT1, ⟨%e, H3⟩, HS0, HS1⟩
    isplitl [HS0 HS1 HT0 HT1]
    · isplitl [HS0]
      · iexists _; isplitr; swap
        · iexact HS0
        · ipureintro; intro _; rfl
      isplitl [HS1]
      · iexists _; isplitr; swap
        · iexact HS1
        · ipureintro; intro _; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _ _ _ _)
  · have hne : t.val ≠ 0 := ne_zero ch t q0
    by_cases q1 : Live ch (crd ch t)
    · rewrite [idle_false ch t]
      simp only [before_0, before_1, before_2, after_0, after_1, after_2, after_3]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_B ch m ρ c t _ q0 q1]
      unfold Phi; simp only [prevT_castSucc, prevT_succ, traj_eq, step_B ch m ρ c t _ q0 q1, Fin.val_castSucc, Fin.val_succ]
      simp only [exists_held hne]
      iintro ⟨⟨HS0, HS1, HT0, HT1⟩, Ho, ⟨%d0, H0⟩, ⟨%d1, H1⟩, ⟨%d2, H2⟩, ⟨%d3, H3⟩⟩
      iapply ((kernelRun0_B c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) _ _ (chk1 ch (crd ch t)) (chk2 ch (crd ch t)) q0 q1 (not_dead_of_live ch (crd ch t) q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _ _ _)
    · rewrite [idle_false ch t]
      simp only [before_0, before_1, before_2, after_0, after_1, after_2, after_3]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj_eq, step_C ch m ρ c t _ q0 q1]
      unfold Phi; simp only [prevT_castSucc, prevT_succ, traj_eq, step_C ch m ρ c t _ q0 q1, Fin.val_castSucc, Fin.val_succ]
      simp only [exists_held hne]
      iintro ⟨⟨HS0, HS1, HT0, HT1⟩, Ho, ⟨%d0, H0⟩, ⟨%d1, H1⟩, ⟨%d2, H2⟩, ⟨%d3, H3⟩⟩
      iapply ((kernelRun0_C c (crd ch t) (ms0 ch t) (hs0 ch t) (ms1 ch t) (hs1 ch t) (ms2 ch t) (hs2 ch t) (ms3 ch t) (hs3 ch t) ch.experts ch.used (iblk ch m ρ c (0 : Fin 4) t) (iblk ch m ρ c (1 : Fin 4) t) (iblk ch m ρ c (2 : Fin 4) t) _ _ (chk1 ch (crd ch t)) (chk2 ch (crd ch t)) q0 q1 (dead_of_not_live ch (crd ch t) q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _)

theorem body_obligation (c : Dev nD) : BodyObligation (dats ch m ρ 0 c) (defs₀ (F := Bits)) Variants.none () Set.univ := fun t => by
  rw [bigSep_W0]
  exact sound_body ch m ρ c t

/-! ## The launch -/

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The two tables as the launch hands them over. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨⟨%a0, HS0⟩, ⟨%a1, HS1⟩⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

theorem phi_last (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The launch memory holds these tables, on every device. -/
def Holds (m : (ℓ : Loc nD τ sig) → Buf (Elt Bits) ℓ) : Prop :=
  (∀ c : Dev nD, m ((c : Thread nD τ).loc main_arg0) = ch.experts) ∧ (∀ c : Dev nD, m ((c : Thread nD τ).loc main_arg1) = ch.used)

/-- What holds at the end: each array at what the pipeline computes, the tables as they were. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem tables_eq (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run from a memory with these tables ends, with the arrays as computed and every counter at zero. -/
theorem run_quiescent (hp : Holds ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre emb₁ defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := tables_eq ch m hp)
    (X := fun _ => iprop(emp)) (Y := fun _ => iprop(emp)) (Z := fun _ => iprop(emp))
    (hX := fun c => by rw [unscopedRestP0_eq]; iintro -; isplitr <;> iempintro)
    (hin := phi_first ch m ρ)
    (hout := phi_last ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds ch m) : θ_run (defs (F := Bits)) (onTc (τ := τ) (main (F := Bits))) (s₀ m ρ) (QC ch m ρ) :=
  (θ_run defs _ _).mono (fun _ h => h.1) (run_quiescent ch m ρ hp)

/-- The arguments end unchanged. -/
theorem unchanged (hp : Holds ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _)⟩) (run ch m ρ hp)

/-- The tables of a memory that satisfies the precondition. -/
theorem route_of_pre [hP : Cert.Pre_experts_up.Facts] (h : Pre_Kernel3 m) : ∃ ch : Route, Holds ch m := by
  have hd : ∀ c d : Dev nD, c = d := by decide
  obtain ⟨h0, h1⟩ := h (0 : Dev nD)
  refine ⟨⟨m (((0 : Dev nD) : Thread nD τ).loc main_arg0), m (((0 : Dev nD) : Thread nD τ).loc main_arg1),
    fun x => expert_lt _ (congrFun h0 x), fun x => (used_range _ (congrFun h1 x)).1, fun x => (used_range _ (congrFun h1 x)).2⟩,
    fun c => by rw [hd c 0], fun c => by rw [hd c 0]⟩

/-- The frame claim. -/
theorem frame_of_pre [hP : Cert.Pre_experts_up.Facts] (m : (ℓ : Loc nD τ sig) → Buf (Elt Bits) ℓ) (ρ : Dev nD → PrngReg) (h : Pre_Kernel3 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (route_of_pre m h).elim fun ch hp =>
    θ_run_and (unchanged ch m ρ hp) ((θ_run defs _ _).mono (fun _ h => h.2) (run_quiescent ch m ρ hp))

end Cert.UpBits

end
-- ==== Proof.lean ====
module

public import proofs.«01_k».proof.Defs
public import proofs.«01_k».proof.Proof.Claims
public import proofs.«01_k».proof.Proof.FfnArray
public import proofs.«01_k».proof.Proof.Down
public import proofs.«01_k».proof.Proof.DownBits
public import proofs.«01_k».proof.Proof.DownArray
public import proofs.«01_k».proof.Proof.UpArray
public import proofs.«01_k».proof.Proof.ProjArray
public import proofs.«01_k».proof.Proof.MixArray
public import proofs.«01_k».proof.Proof.Up
public import proofs.«01_k».proof.Proof.UpBits
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    SwaBlock.finite_facts, Up.pre_facts, Down.pre_facts,
    fun m ρ _ => Cert.Kernel.Gen.frame m ρ, fun m ρ _ => Cert.KernelIdeal.Gen.frame m ρ,
    fun m ρ _ => Cert.KernelIdeal.Gen.frame m ρ, SwaBlock.frame_ref, fun m ρ _ => SwaBlock.frame_ref m ρ trivial,
    fun m ρ _ => Cert.Kernel2.Gen.frame m ρ, fun m ρ _ => Cert.Kernel2Ideal.Gen.frame m ρ, Ffn.frame_ref,
    UpBits.frame_of_pre (hP := Up.pre_facts), Up.frame_of_pre (hP := Up.pre_facts), Up.frame_ref (hP := Up.pre_facts),
    DownBits.frame_of_pre (hP := Down.pre_facts), Down.frame_of_pre (hP := Down.pre_facts), Down.frame_ref (hP := Down.pre_facts),
    fun m ρ _ => Cert.Kernel5.Gen.frame m ρ, fun m ρ _ => Cert.Kernel5Ideal.Gen.frame m ρ, Proj.frame_ref,
    fun m ρ _ => Cert.Kernel6.Gen.frame m ρ, fun m ρ _ => Cert.Kernel6Ideal.Gen.frame m ρ, Mix.frame_ref,
    SwaBlock.preserves, SwaBlock.algebraic, trivial, Ffn.algebraic, trivial, Up.algebraic (hP := Up.pre_facts), trivial,
    Down.algebraic (hP := Down.pre_facts), trivial, Proj.algebraic, trivial, Mix.algebraic⟩

end Cert.Proof

end
